-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_pool [hPre_finite_pool : Cert.Pre_finite_pool.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_pool.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_pool [hPre_finite_pool : Cert.Pre_finite_pool.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_pool.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_pool [hKernel4Ideal : Cert.Kernel4Ideal.Facts] [hPre_finite_pool : Cert.Pre_finite_pool.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_pool m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_pool [hReference4Ideal : Cert.Reference4Ideal.Facts] [hPre_finite_pool : Cert.Pre_finite_pool.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_pool m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v39)) (v1 : (c : Dev Cert.Kernel2Ideal.nD) → Buf (Elt Ideal) ((c.tc : Thread Cert.Kernel2Ideal.nD Cert.Kernel2Ideal.τ).loc Cert.Kernel2Ideal.main_v17)) (v2 : (c : Dev Cert.Kernel2Ideal.nD) → Buf (Elt Ideal) ((c.tc : Thread Cert.Kernel2Ideal.nD Cert.Kernel2Ideal.τ).loc Cert.Kernel2Ideal.main_v18)) (v3 : (c : Dev Cert.Kernel2Ideal.nD) → Buf (Elt Ideal) ((c.tc : Thread Cert.Kernel2Ideal.nD Cert.Kernel2Ideal.τ).loc Cert.Kernel2Ideal.main_v19)) (v4 : (c : Dev Cert.Kernel2Ideal.nD) → Buf (Elt Ideal) ((c.tc : Thread Cert.Kernel2Ideal.nD Cert.Kernel2Ideal.τ).loc Cert.Kernel2Ideal.main_v23)) (v5 : (c : Dev Cert.Kernel2Ideal.nD) → Buf (Elt Ideal) ((c.tc : Thread Cert.Kernel2Ideal.nD Cert.Kernel2Ideal.τ).loc Cert.Kernel2Ideal.main_v26)) (v6 : (c : Dev Cert.Kernel2Ideal.nD) → Buf (Elt Ideal) ((c.tc : Thread Cert.Kernel2Ideal.nD Cert.Kernel2Ideal.τ).loc Cert.Kernel2Ideal.main_v28)) (v7 : (c : Dev Cert.Kernel2Ideal.nD) → Buf (Elt Ideal) ((c.tc : Thread Cert.Kernel2Ideal.nD Cert.Kernel2Ideal.τ).loc Cert.Kernel2Ideal.main_v29)) (v8 : (c : Dev Cert.Kernel2Ideal.nD) → Buf (Elt Ideal) ((c.tc : Thread Cert.Kernel2Ideal.nD Cert.Kernel2Ideal.τ).loc Cert.Kernel2Ideal.main_v30)) (v9 : (c : Dev Cert.Kernel2Ideal.nD) → Buf (Elt Ideal) ((c.tc : Thread Cert.Kernel2Ideal.nD Cert.Kernel2Ideal.τ).loc Cert.Kernel2Ideal.main_v35)) (v10 : (c : Dev Cert.Kernel2Ideal.nD) → Buf (Elt Ideal) ((c.tc : Thread Cert.Kernel2Ideal.nD Cert.Kernel2Ideal.τ).loc Cert.Kernel2Ideal.main_v38)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39) = v0 c
          ∧ r.2.mem ((c.tc : Thread Cert.Kernel2Ideal.nD Cert.Kernel2Ideal.τ).loc Cert.Kernel2Ideal.main_v17) = v1 c
          ∧ r.2.mem ((c.tc : Thread Cert.Kernel2Ideal.nD Cert.Kernel2Ideal.τ).loc Cert.Kernel2Ideal.main_v18) = v2 c
          ∧ r.2.mem ((c.tc : Thread Cert.Kernel2Ideal.nD Cert.Kernel2Ideal.τ).loc Cert.Kernel2Ideal.main_v19) = v3 c
          ∧ r.2.mem ((c.tc : Thread Cert.Kernel2Ideal.nD Cert.Kernel2Ideal.τ).loc Cert.Kernel2Ideal.main_v23) = v4 c
          ∧ r.2.mem ((c.tc : Thread Cert.Kernel2Ideal.nD Cert.Kernel2Ideal.τ).loc Cert.Kernel2Ideal.main_v26) = v5 c
          ∧ r.2.mem ((c.tc : Thread Cert.Kernel2Ideal.nD Cert.Kernel2Ideal.τ).loc Cert.Kernel2Ideal.main_v28) = v6 c
          ∧ r.2.mem ((c.tc : Thread Cert.Kernel2Ideal.nD Cert.Kernel2Ideal.τ).loc Cert.Kernel2Ideal.main_v29) = v7 c
          ∧ r.2.mem ((c.tc : Thread Cert.Kernel2Ideal.nD Cert.Kernel2Ideal.τ).loc Cert.Kernel2Ideal.main_v30) = v8 c
          ∧ r.2.mem ((c.tc : Thread Cert.Kernel2Ideal.nD Cert.Kernel2Ideal.τ).loc Cert.Kernel2Ideal.main_v35) = v9 c
          ∧ r.2.mem ((c.tc : Thread Cert.Kernel2Ideal.nD Cert.Kernel2Ideal.τ).loc Cert.Kernel2Ideal.main_v38) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v29) = v4 c
          ∧ r.2.mem ((c.tc : Thread Cert.Reference2Ideal.nD Cert.Reference2Ideal.τ).loc Cert.Reference2Ideal.main_v31) = v5 c
          ∧ r.2.mem ((c.tc : Thread Cert.Reference2Ideal.nD Cert.Reference2Ideal.τ).loc Cert.Reference2Ideal.main_v58) = v6 c
          ∧ r.2.mem ((c.tc : Thread Cert.Reference2Ideal.nD Cert.Reference2Ideal.τ).loc Cert.Reference2Ideal.main_v59) = v7 c
          ∧ r.2.mem ((c.tc : Thread Cert.Reference2Ideal.nD Cert.Reference2Ideal.τ).loc Cert.Reference2Ideal.main_v60) = v8 c
          ∧ r.2.mem ((c.tc : Thread Cert.Reference2Ideal.nD Cert.Reference2Ideal.τ).loc Cert.Reference2Ideal.main_v48) = v9 c
          ∧ r.2.mem ((c.tc : Thread Cert.Reference2Ideal.nD Cert.Reference2Ideal.τ).loc Cert.Reference2Ideal.main_v50) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_pool [hKernel4Ideal : Cert.Kernel4Ideal.Facts] [hReference4Ideal : Cert.Reference4Ideal.Facts] [hPre_finite_pool : Cert.Pre_finite_pool.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_pool m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_pool : Cert.Pre_finite_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_pool (hKernel4Ideal := hKernel4Ideal) (hPre_finite_pool := hPre_finite_pool)
    ∧ quiescent_Reference4Ideal (hReference4Ideal := hReference4Ideal)
    ∧ quiescent_Reference4Ideal_pre_finite_pool (hReference4Ideal := hReference4Ideal) (hPre_finite_pool := hPre_finite_pool)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_pool (hKernel4Ideal := hKernel4Ideal) (hReference4Ideal := hReference4Ideal) (hPre_finite_pool := hPre_finite_pool)
-- ==== Pre_finite.lean ====
abbrev S8192x2048 : Shape := ⟨2, ![8192, 2048]⟩
abbrev S8192x512 : Shape := ⟨2, ![8192, 512]⟩
abbrev S32 : Shape := ⟨1, ![32]⟩
abbrev S_ : Shape := ⟨0, ![]⟩
abbrev S8192x256 : Shape := ⟨2, ![8192, 256]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x512_S8192x256_0_0 : S8192x512.Slices ![0, 0] S8192x256
  bcast_S_S8192x256 : S_.BroadcastsInDim S8192x256 (![] : Fin 0 → Fin S8192x256.rank)
  reducesTo_S8192x256_S_d0_1 : S8192x256.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S8192x2048 .f32) (main_arg1 : FVec F S8192x512 .f32) (main_arg2 : FVec F S32 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x256 .f32 := (extractStridedSlice S8192x256 ![0, 0] · slices_S8192x512_S8192x256_0_0) main_arg1
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v3 main_v8
  let main_v10 : FVec F S32 .f32 := Host.absf main_arg2
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v9 main_v13
  main_v14
-- ==== Pre_finite_pool.lean ====
abbrev S4x2048x2048 : Shape := ⟨3, ![4, 2048, 2048]⟩
abbrev S4x512x512 : Shape := ⟨3, ![4, 512, 512]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel

variable [Facts]

def fn {F : FTy → Type} [FloatOps F] (main_arg0 : FVec F S4x2048x2048 .f32) (main_arg1 : FVec F S4x512x512 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  main_v3
-- ==== Kernel.lean ====
abbrev S8192x2048 : Shape := ⟨2, ![8192, 2048]⟩
abbrev S8192x512 : Shape := ⟨2, ![8192, 512]⟩
abbrev S32 : Shape := ⟨1, ![32]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8192x256 : Shape := ⟨2, ![8192, 256]⟩
abbrev S128x2048 : Shape := ⟨2, ![128, 2048]⟩
abbrev S128x256 : Shape := ⟨2, ![128, 256]⟩
abbrev S128x128 : Shape := ⟨2, ![128, 128]⟩
abbrev S256x256 : Shape := ⟨2, ![256, 256]⟩
abbrev S1024x256 : Shape := ⟨2, ![1024, 256]⟩
abbrev S128x64 : Shape := ⟨2, ![128, 64]⟩
abbrev S1024x64 : Shape := ⟨2, ![1024, 64]⟩
abbrev S1 : Shape := ⟨1, ![1]⟩
abbrev S128x1 : Shape := ⟨2, ![128, 1]⟩
abbrev S1024x1 : Shape := ⟨2, ![1024, 1]⟩
abbrev S256x64 : Shape := ⟨2, ![256, 64]⟩
abbrev S1024 : Shape := ⟨1, ![1024]⟩

abbrev nBuf : Space → Nat
  | .hbm => 41
  | .vmem => 26
  | .smem => 1
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S32, .f32⟩
  | .hbm, ⟨3, _⟩ => ⟨S2048, .i32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S2048, .f32⟩
  | .hbm, ⟨13, _⟩ => ⟨S2048x1, .f32⟩
  | .hbm, ⟨14, _⟩ => ⟨S1x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S_, .f32⟩
  | .hbm, ⟨21, _⟩ => ⟨S2048x48, .f32⟩
  | .hbm, ⟨22, _⟩ => ⟨S_, .f32⟩
  | .hbm, ⟨23, _⟩ => ⟨S2048x8, .f32⟩
  | .hbm, ⟨24, _⟩ => ⟨S_, .f32⟩
  | .hbm, ⟨25, _⟩ => ⟨S2048x48, .f32⟩
  | .hbm, ⟨26, _⟩ => ⟨S2048x64, .f32⟩
  | .hbm, ⟨27, _⟩ => ⟨S2048x64, .f32⟩
  | .hbm, ⟨28, _⟩ => ⟨S2048x8, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S8192x2048, .bf16⟩
  | .hbm, ⟨40, _⟩ => ⟨S8192x256, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x2048, .bf16⟩
  | .local _ .vmem, ⟨23, _⟩ => ⟨S128x2048, .bf16⟩
  | .local _ .vmem, ⟨24, _⟩ => ⟨S128x256, .f32⟩
  | .local _ .vmem, ⟨25, _⟩ => ⟨S128x256, .f32⟩
  | .local _ .smem, ⟨0, _⟩ => ⟨S32, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .smem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x512 : Shape := ⟨2, ![8192, 512]⟩
abbrev S32 : Shape := ⟨1, ![32]⟩
abbrev S2048 : Shape := ⟨1, ![2048]⟩
abbrev S4x2048x4x8x64 : Shape := ⟨5, ![4, 2048, 4, 8, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x1x1x8 : Shape := ⟨4, ![2048, 1, 1, 8]⟩
abbrev S4x2048x4x8x8 : Shape := ⟨5, ![4, 2048, 4, 8, 8]⟩
abbrev S1x2048x1x1x8 : Shape := ⟨5, ![1, 2048, 1, 1, 8]⟩
abbrev S4x2048x4x8x48 : Shape := ⟨5, ![4, 2048, 4, 8, 48]⟩
abbrev S8192x256 : Shape := ⟨2, ![8192, 256]⟩
abbrev S4x2048x4x64 : Shape := ⟨4, ![4, 2048, 4, 64]⟩
abbrev S2048x1x8 : Shape := ⟨3, ![2048, 1, 8]⟩
abbrev S4x2048x4x8 : Shape := ⟨4, ![4, 2048, 4, 8]⟩
abbrev S1x2048x1x8 : Shape := ⟨4, ![1, 2048, 1, 8]⟩
abbrev S4x2048x4x48 : Shape := ⟨4, ![4, 2048, 4, 48]⟩
abbrev S4x16x128x4x8x64 : Shape := ⟨6, ![4, 16, 128, 4, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S16 : Shape := ⟨1, ![16]⟩
abbrev S16x1x1 : Shape := ⟨3, ![16, 1, 1]⟩
abbrev S128x256 : Shape := ⟨2, ![128, 256]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x2176x4x64 : Shape := ⟨4, ![4, 2176, 4, 64]⟩
abbrev S4x17x128x4x64 : Shape := ⟨5, ![4, 17, 128, 4, 64]⟩
abbrev S4x16x128x4x64 : Shape := ⟨5, ![4, 16, 128, 4, 64]⟩
abbrev S4x16x256x4x64 : Shape := ⟨5, ![4, 16, 256, 4, 64]⟩
abbrev S16x1x1x128x256 : Shape := ⟨5, ![16, 1, 1, 128, 256]⟩
abbrev S4x16x4x256x128x8 : Shape := ⟨6, ![4, 16, 4, 256, 128, 8]⟩
abbrev S4x16x4x8x128x256 : Shape := ⟨6, ![4, 16, 4, 8, 128, 256]⟩
abbrev S4x8x1x1 : Shape := ⟨4, ![4, 8, 1, 1]⟩
abbrev S4x16x4x8x128 : Shape := ⟨5, ![4, 16, 4, 8, 128]⟩
abbrev S4x16x4x8x128x1 : Shape := ⟨6, ![4, 16, 4, 8, 128, 1]⟩
abbrev S1x1x4x8x1x1 : Shape := ⟨6, ![1, 1, 4, 8, 1, 1]⟩
abbrev S4x16x4x64x8x128 : Shape := ⟨6, ![4, 16, 4, 64, 8, 128]⟩

abbrev nBuf : Space → Nat
  | .hbm => 169
  | .vmem => 0
  | .smem => 0
  | _ => 0

abbrev hbmTy0_0 (i : Nat) : BufTy := match i % 128 with
  | 0 => ⟨S8192x2048, .f32⟩
  | 1 => ⟨S8192x512, .f32⟩
  | 2 => ⟨S32, .f32⟩
  | 3 => ⟨S2048, .i32⟩
  | 4 => ⟨S4x2048x4x8x64, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S2048, .f32⟩
  | 14 => ⟨S2048x1, .f32⟩
  | 15 => ⟨S1x8, .f32⟩
  | 16 => ⟨S2048x8, .f32⟩
  | 17 => ⟨S2048x8, .f32⟩
  | 18 => ⟨S2048x8, .f32⟩
  | 19 => ⟨S2048x8, .f32⟩
  | 20 => ⟨S2048x1x1x8, .f32⟩
  | 21 => ⟨S2048x8, .f32⟩
  | 22 => ⟨S2048x1x1x8, .f32⟩
  | 23 => ⟨S4x2048x4x8x8, .f32⟩
  | 24 => ⟨S4x2048x4x8x8, .f32⟩
  | 25 => ⟨S1x2048x1x1x8, .f32⟩
  | 26 => ⟨S4x2048x4x8x8, .f32⟩
  | 27 => ⟨S4x2048x4x8x8, .f32⟩
  | 28 => ⟨S1x2048x1x1x8, .f32⟩
  | 29 => ⟨S4x2048x4x8x8, .f32⟩
  | 30 => ⟨S4x2048x4x8x8, .f32⟩
  | 31 => ⟨S4x2048x4x8x8, .f32⟩
  | 32 => ⟨S1x2048x1x1x8, .f32⟩
  | 33 => ⟨S4x2048x4x8x8, .f32⟩
  | 34 => ⟨S4x2048x4x8x8, .f32⟩
  | 35 => ⟨S1x2048x1x1x8, .f32⟩
  | 36 => ⟨S4x2048x4x8x8, .f32⟩
  | 37 => ⟨S4x2048x4x8x8, .f32⟩
  | 38 => ⟨S4x2048x4x8x8, .f32⟩
  | 39 => ⟨S4x2048x4x8x48, .f32⟩
  | 40 => ⟨S4x2048x4x8x64, .f32⟩
  | 41 => ⟨S8192x256, .f32⟩
  | 42 => ⟨S4x2048x4x64, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S2048, .f32⟩
  | 52 => ⟨S2048x1, .f32⟩
  | 53 => ⟨S1x8, .f32⟩
  | 54 => ⟨S2048x8, .f32⟩
  | 55 => ⟨S2048x8, .f32⟩
  | 56 => ⟨S2048x8, .f32⟩
  | 57 => ⟨S2048x8, .f32⟩
  | 58 => ⟨S2048x1x8, .f32⟩
  | 59 => ⟨S2048x8, .f32⟩
  | 60 => ⟨S2048x1x8, .f32⟩
  | 61 => ⟨S4x2048x4x8, .f32⟩
  | 62 => ⟨S4x2048x4x8, .f32⟩
  | 63 => ⟨S1x2048x1x8, .f32⟩
  | 64 => ⟨S4x2048x4x8, .f32⟩
  | 65 => ⟨S4x2048x4x8, .f32⟩
  | 66 => ⟨S1x2048x1x8, .f32⟩
  | 67 => ⟨S4x2048x4x8, .f32⟩
  | 68 => ⟨S4x2048x4x8, .f32⟩
  | 69 => ⟨S4x2048x4x8, .f32⟩
  | 70 => ⟨S1x2048x1x8, .f32⟩
  | 71 => ⟨S4x2048x4x8, .f32⟩
  | 72 => ⟨S4x2048x4x8, .f32⟩
  | 73 => ⟨S1x2048x1x8, .f32⟩
  | 74 => ⟨S4x2048x4x8, .f32⟩
  | 75 => ⟨S4x2048x4x8, .f32⟩
  | 76 => ⟨S4x2048x4x8, .f32⟩
  | 77 => ⟨S4x2048x4x48, .f32⟩
  | 78 => ⟨S4x2048x4x64, .f32⟩
  | 79 => ⟨S8192x256, .f32⟩
  | 80 => ⟨S4x2048x4x64, .f32⟩
  | 81 => ⟨S4x16x128x4x8x64, .f32⟩
  | 82 => ⟨S128, .i32⟩
  | 83 => ⟨S128x1, .i32⟩
  | 84 => ⟨S256, .i32⟩
  | 85 => ⟨S1x256, .i32⟩
  | 86 => ⟨S16, .i32⟩
  | 87 => ⟨S16x1x1, .i32⟩
  | 88 => ⟨S_, .i32⟩
  | 89 => ⟨S128x1, .i32⟩
  | 90 => ⟨S128x1, .i32⟩
  | 91 => ⟨S128x256, .i32⟩
  | 92 => ⟨S128x256, .i32⟩
  | 93 => ⟨S128x256, .i32⟩
  | 94 => ⟨S_, .i32⟩
  | 95 => ⟨S128x256, .i32⟩
  | 96 => ⟨S128x256, .i1⟩
  | 97 => ⟨S_, .i32⟩
  | 98 => ⟨S128x256, .i32⟩
  | 99 => ⟨S128x256, .i1⟩
  | 100 => ⟨S128x256, .i1⟩
  | 101 => ⟨S_, .i32⟩
  | 102 => ⟨S16x1x1, .i32⟩
  | 103 => ⟨S16x1x1, .i32⟩
  | 104 => ⟨S1x1x256, .i32⟩
  | 105 => ⟨S16x1x256, .i32⟩
  | 106 => ⟨S16x1x256, .i32⟩
  | 107 => ⟨S16x1x256, .i32⟩
  | 108 => ⟨S_, .i32⟩
  | 109 => ⟨S16x1x256, .i32⟩
  | 110 => ⟨S16x1x256, .i32⟩
  | 111 => ⟨S_, .i32⟩
  | 112 => ⟨S16x1x256, .i32⟩
  | 113 => ⟨S16x1x256, .i1⟩
  | 114 => ⟨S1x128x256, .i1⟩
  | 115 => ⟨S16x128x256, .i1⟩
  | 116 => ⟨S16x128x256, .i1⟩
  | 117 => ⟨S16x128x256, .i1⟩
  | 118 => ⟨S_, .i32⟩
  | 119 => ⟨S_, .f32⟩
  | 120 => ⟨S4x2176x4x64, .f32⟩
  | 121 => ⟨S4x17x128x4x64, .f32⟩
  | 122 => ⟨S4x16x128x4x64, .f32⟩
  | 123 => ⟨S4x16x128x4x64, .f32⟩
  | 124 => ⟨S4x16x256x4x64, .f32⟩
  | 125 => ⟨S_, .i32⟩
  | 126 => ⟨S_, .f32⟩
  | 127 => ⟨S4x2176x4x64, .f32⟩
  | _ => ⟨S8192x2048, .f32⟩

abbrev hbmTy0_1 (i : Nat) : BufTy := match i % 128 with
  | 0 => ⟨S4x17x128x4x64, .f32⟩
  | 1 => ⟨S4x16x128x4x64, .f32⟩
  | 2 => ⟨S4x16x128x4x64, .f32⟩
  | 3 => ⟨S4x16x256x4x64, .f32⟩
  | 4 => ⟨S16x1x1x128x256, .i1⟩
  | 5 => ⟨S4x16x4x256x128x8, .f32⟩
  | 6 => ⟨S4x16x4x8x128x256, .f32⟩
  | 7 => ⟨S_, .f32⟩
  | 8 => ⟨S4x16x4x8x128x256, .f32⟩
  | 9 => ⟨S4x16x4x8x128x256, .f32⟩
  | 10 => ⟨S_, .f32⟩
  | 11 => ⟨S_, .f32⟩
  | 12 => ⟨S4x16x4x8x128x256, .i1⟩
  | 13 => ⟨S4x16x4x8x128x256, .f32⟩
  | 14 => ⟨S4x16x4x8x128x256, .f32⟩
  | 15 => ⟨S4x8x1x1, .f32⟩
  | 16 => ⟨S_, .f32⟩
  | 17 => ⟨S4x16x4x8x128, .f32⟩
  | 18 => ⟨S4x16x4x8x128x1, .f32⟩
  | 19 => ⟨S1x1x4x8x1x1, .f32⟩
  | 20 => ⟨S4x16x4x8x128x1, .f32⟩
  | 21 => ⟨S4x16x4x8x128x1, .f32⟩
  | 22 => ⟨S4x16x4x8x128x256, .f32⟩
  | 23 => ⟨S4x16x4x8x128x256, .f32⟩
  | 24 => ⟨S4x16x4x8x128x256, .f32⟩
  | 25 => ⟨S_, .f32⟩
  | 26 => ⟨S4x16x4x8x128, .f32⟩
  | 27 => ⟨S4x16x4x8x128x1, .f32⟩
  | 28 => ⟨S1x1x4x8x1x1, .f32⟩
  | 29 => ⟨S4x16x4x8x128x1, .f32⟩
  | 30 => ⟨S4x16x4x8x128x1, .f32⟩
  | 31 => ⟨S4x16x4x8x128x1, .f32⟩
  | 32 => ⟨S4x16x4x8x128x1, .f32⟩
  | 33 => ⟨S4x16x4x8x128x256, .f32⟩
  | 34 => ⟨S4x16x4x8x128x256, .f32⟩
  | 35 => ⟨S4x16x4x64x8x128, .f32⟩
  | 36 => ⟨S4x16x128x4x8x64, .f32⟩
  | 37 => ⟨S4x2048x4x8x64, .f32⟩
  | 38 => ⟨S8192x2048, .f32⟩
  | 39 => ⟨S8192x2048, .bf16⟩
  | 40 => ⟨S8192x256, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_c : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_c_3 : Ref sig .tc := ⟨.hbm, 94, rfl⟩
abbrev main_v86 : Ref sig .tc := ⟨.hbm, 95, rfl⟩
abbrev main_v87 : Ref sig .tc := ⟨.hbm, 96, rfl⟩
abbrev main_c_4 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_c_5 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_c_6 : Ref sig .tc := ⟨.hbm, 108, rfl⟩
abbrev main_v97 : Ref sig .tc := ⟨.hbm, 109, rfl⟩
abbrev main_v98 : Ref sig .tc := ⟨.hbm, 110, rfl⟩
abbrev main_c_7 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_c_8 : Ref sig .tc := ⟨.hbm, 118, rfl⟩
abbrev main_call0_v0 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_c_9 : Ref sig .tc := ⟨.hbm, 125, rfl⟩
abbrev main_call1_v0 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst_10 : Ref sig .tc := ⟨.hbm, 135, rfl⟩
abbrev main_v118 : Ref sig .tc := ⟨.hbm, 136, rfl⟩
abbrev main_v119 : Ref sig .tc := ⟨.hbm, 137, rfl⟩
abbrev main_cst_11 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_v120 : Ref sig .tc := ⟨.hbm, 142, rfl⟩
abbrev main_v121 : Ref sig .tc := ⟨.hbm, 143, rfl⟩
abbrev main_cst_12 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_cst_13 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩

abbrev nD : Nat := 1
abbrev τ : Topo := Topo.v7x

variable {F : FTy → Type} [FloatOps F]
-- ==== Kernel2.lean ====
abbrev S4x2048x4096 : Shape := ⟨3, ![4, 2048, 4096]⟩
abbrev S128x8x4096 : Shape := ⟨3, ![128, 8, 4096]⟩
abbrev S128x128x4x64 : Shape := ⟨4, ![128, 128, 4, 64]⟩
abbrev S128x15x2048 : Shape := ⟨3, ![128, 15, 2048]⟩
abbrev S4x4096 : Shape := ⟨2, ![4, 4096]⟩
abbrev S128x4096 : Shape := ⟨2, ![128, 4096]⟩
abbrev S4096x24576 : Shape := ⟨2, ![4096, 24576]⟩
abbrev S24576 : Shape := ⟨1, ![24576]⟩
abbrev S4096x4608 : Shape := ⟨2, ![4096, 4608]⟩
abbrev S_ : Shape := ⟨0, ![]⟩
abbrev S136x4096 : Shape := ⟨2, ![136, 4096]⟩
abbrev S1x24576 : Shape := ⟨2, ![1, 24576]⟩
abbrev S6x136x4096 : Shape := ⟨3, ![6, 136, 4096]⟩
abbrev S4096x512 : Shape := ⟨2, ![4096, 512]⟩
abbrev S1x512 : Shape := ⟨2, ![1, 512]⟩
abbrev S1x136x512 : Shape := ⟨3, ![1, 136, 512]⟩
abbrev S136x512 : Shape := ⟨2, ![136, 512]⟩
abbrev S1x4x4096 : Shape := ⟨3, ![1, 4, 4096]⟩
abbrev S4x1x4096 : Shape := ⟨3, ![4, 1, 4096]⟩
abbrev S1x128x4096 : Shape := ⟨3, ![1, 128, 4096]⟩
abbrev S128x1x4096 : Shape := ⟨3, ![128, 1, 4096]⟩
abbrev S8192x4096 : Shape := ⟨2, ![8192, 4096]⟩
abbrev S1x512x4096 : Shape := ⟨3, ![1, 512, 4096]⟩
abbrev S1x1x4096 : Shape := ⟨3, ![1, 1, 4096]⟩
abbrev S512x4096 : Shape := ⟨2, ![512, 4096]⟩
abbrev S8192x2048 : Shape := ⟨2, ![8192, 2048]⟩
abbrev S1024x4096 : Shape := ⟨2, ![1024, 4096]⟩
abbrev S1024x512 : Shape := ⟨2, ![1024, 512]⟩
abbrev S8192x512 : Shape := ⟨2, ![8192, 512]⟩
abbrev S4x16x2048 : Shape := ⟨3, ![4, 16, 2048]⟩
abbrev S4x2048x512 : Shape := ⟨3, ![4, 2048, 512]⟩
abbrev S4x128x256 : Shape := ⟨3, ![4, 128, 256]⟩
abbrev S4x128x4x64 : Shape := ⟨4, ![4, 128, 4, 64]⟩
abbrev S4x2048x2048 : Shape := ⟨3, ![4, 2048, 2048]⟩
abbrev S4x2064x2048 : Shape := ⟨3, ![4, 2064, 2048]⟩
abbrev S4x15x2048 : Shape := ⟨3, ![4, 15, 2048]⟩
abbrev S64x8x4096 : Shape := ⟨3, ![64, 8, 4096]⟩
abbrev S64x1x4096 : Shape := ⟨3, ![64, 1, 4096]⟩
abbrev S1024x2048 : Shape := ⟨2, ![1024, 2048]⟩
abbrev S128x16x2048 : Shape := ⟨3, ![128, 16, 2048]⟩
abbrev S1024x256 : Shape := ⟨2, ![1024, 256]⟩
abbrev S128x8x4x64 : Shape := ⟨4, ![128, 8, 4, 64]⟩
abbrev S128x136x4x64 : Shape := ⟨4, ![128, 136, 4, 64]⟩
abbrev S128x8x2048 : Shape := ⟨3, ![128, 8, 2048]⟩
abbrev S128x24x2048 : Shape := ⟨3, ![128, 24, 2048]⟩
abbrev S6x132x4096 : Shape := ⟨3, ![6, 132, 4096]⟩

abbrev nBuf : Space → Nat
  | .hbm => 53
  | .vmem => 53
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S128x128x4x64, .f32⟩
  | .hbm, ⟨3, _⟩ => ⟨S128x15x2048, .f32⟩
  | .hbm, ⟨4, _⟩ => ⟨S4x4096, .f32⟩
  | .hbm, ⟨5, _⟩ => ⟨S128x4096, .f32⟩
  | .hbm, ⟨6, _⟩ => ⟨S4096x24576, .f32⟩
  | .hbm, ⟨7, _⟩ => ⟨S24576, .f32⟩
  | .hbm, ⟨8, _⟩ => ⟨S4096x4608, .f32⟩
  | .hbm, ⟨9, _⟩ => ⟨S_, .f32⟩
  | .hbm, ⟨10, _⟩ => ⟨S4x4096, .f32⟩
  | .hbm, ⟨11, _⟩ => ⟨S136x4096, .f32⟩
  | .hbm, ⟨12, _⟩ => ⟨S1x24576, .f32⟩
  | .hbm, ⟨13, _⟩ => ⟨S6x136x4096, .f32⟩
  | .hbm, ⟨14, _⟩ => ⟨S1x4x4096, .f32⟩
  | .hbm, ⟨15, _⟩ => ⟨S4x4096, .f32⟩
  | .hbm, ⟨16, _⟩ => ⟨S4x1x4096, .f32⟩
  | .hbm, ⟨17, _⟩ => ⟨S1x4x4096, .f32⟩
  | .hbm, ⟨18, _⟩ => ⟨S4x4096, .f32⟩
  | .hbm, ⟨19, _⟩ => ⟨S4x1x4096, .f32⟩
  | .hbm, ⟨20, _⟩ => ⟨S1x128x4096, .f32⟩
  | .hbm, ⟨21, _⟩ => ⟨S128x4096, .f32⟩
  | .hbm, ⟨22, _⟩ => ⟨S128x1x4096, .f32⟩
  | .hbm, ⟨23, _⟩ => ⟨S1x128x4096, .f32⟩
  | .hbm, ⟨24, _⟩ => ⟨S128x4096, .f32⟩
  | .hbm, ⟨25, _⟩ => ⟨S128x1x4096, .f32⟩
  | .hbm, ⟨26, _⟩ => ⟨S8192x4096, .bf16⟩
  | .hbm, ⟨27, _⟩ => ⟨S8192x2048, .f32⟩
  | .hbm, ⟨28, _⟩ => ⟨S8192x512, .f32⟩
  | .hbm, ⟨29, _⟩ => ⟨S8192x2048, .f32⟩
  | .hbm, ⟨30, _⟩ => ⟨S_, .f32⟩
  | .hbm, ⟨31, _⟩ => ⟨S4x16x2048, .f32⟩
  | .hbm, ⟨32, _⟩ => ⟨S4x2048x512, .f32⟩
  | .hbm, ⟨33, _⟩ => ⟨S4x128x256, .f32⟩
  | .hbm, ⟨34, _⟩ => ⟨S4x128x4x64, .f32⟩
  | .hbm, ⟨35, _⟩ => ⟨S4x2048x2048, .f32⟩
  | .hbm, ⟨36, _⟩ => ⟨S4x2064x2048, .f32⟩
  | .hbm, ⟨37, _⟩ => ⟨S4x15x2048, .f32⟩
  | .hbm, ⟨38, _⟩ => ⟨S1024x4096, .bf16⟩
  | .hbm, ⟨39, _⟩ => ⟨S1024x2048, .f32⟩
  | .hbm, ⟨40, _⟩ => ⟨S1024x512, .f32⟩
  | .hbm, ⟨41, _⟩ => ⟨S1024x2048, .f32⟩
  | .hbm, ⟨42, _⟩ => ⟨S_, .i32⟩
  | .hbm, ⟨43, _⟩ => ⟨S_, .f32⟩
  | .hbm, ⟨44, _⟩ => ⟨S128x16x2048, .f32⟩
  | .hbm, ⟨45, _⟩ => ⟨S1024x256, .f32⟩
  | .hbm, ⟨46, _⟩ => ⟨S128x8x4x64, .f32⟩
  | .hbm, ⟨47, _⟩ => ⟨S128x136x4x64, .f32⟩
  | .hbm, ⟨48, _⟩ => ⟨S128x128x4x64, .f32⟩
  | .hbm, ⟨49, _⟩ => ⟨S128x8x2048, .f32⟩
  | .hbm, ⟨50, _⟩ => ⟨S128x24x2048, .f32⟩
  | .hbm, ⟨51, _⟩ => ⟨S128x15x2048, .f32⟩
  | .hbm, ⟨52, _⟩ => ⟨S6x132x4096, .f32⟩
  | .local _ .vmem, ⟨0, _⟩ => ⟨S136x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x136x512, .f32⟩
  | .local _ .vmem, ⟨6, _⟩ => ⟨S1x136x512, .f32⟩
  | .local _ .vmem, ⟨7, _⟩ => ⟨S1x512x4096, .f32⟩
  | .local _ .vmem, ⟨8, _⟩ => ⟨S1x512x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S512x4096, .bf16⟩
  | .local _ .vmem, ⟨14, _⟩ => ⟨S512x4096, .bf16⟩
  | .local _ .vmem, ⟨15, _⟩ => ⟨S1024x4096, .bf16⟩
  | .local _ .vmem, ⟨16, _⟩ => ⟨S1024x4096, .bf16⟩
  | .local _ .vmem, ⟨17, _⟩ => ⟨S4096x512, .f32⟩
  | .local _ .vmem, ⟨18, _⟩ => ⟨S4096x512, .f32⟩
  | .local _ .vmem, ⟨19, _⟩ => ⟨S1024x512, .f32⟩
  | .local _ .vmem, ⟨20, _⟩ => ⟨S1024x512, .f32⟩
  | .local _ .vmem, ⟨21, _⟩ => ⟨S1024x4096, .bf16⟩
  | .local _ .vmem, ⟨22, _⟩ => ⟨S1024x4096, .bf16⟩
  | .local _ .vmem, ⟨23, _⟩ => ⟨S4096x512, .f32⟩
  | .local _ .vmem, ⟨24, _⟩ => ⟨S1024x512, .f32⟩
  | .local _ .vmem, ⟨25, _⟩ => ⟨S1024x512, .f32⟩
  | .local _ .vmem, ⟨26, _⟩ => ⟨S1024x4096, .bf16⟩
  | .local _ .vmem, ⟨27, _⟩ => ⟨S1024x4096, .bf16⟩
  | .local _ .vmem, ⟨28, _⟩ => ⟨S4096x512, .f32⟩
  | .local _ .vmem, ⟨29, _⟩ => ⟨S4096x512, .f32⟩
  | .local _ .vmem, ⟨30, _⟩ => ⟨S1024x512, .f32⟩
  | .local _ .vmem, ⟨31, _⟩ => ⟨S1024x512, .f32⟩
  | .local _ .vmem, ⟨32, _⟩ => ⟨S64x8x4096, .f32⟩
  | .local _ .vmem, ⟨33, _⟩ => ⟨S64x8x4096, .f32⟩
  | .local _ .vmem, ⟨34, _⟩ => ⟨S64x1x4096, .f32⟩
  | .local _ .vmem, ⟨35, _⟩ => ⟨S64x1x4096, .f32⟩
  | .local _ .vmem, ⟨36, _⟩ => ⟨S64x1x4096, .f32⟩
  | .local _ .vmem, ⟨37, _⟩ => ⟨S64x1x4096, .f32⟩
  | .local _ .vmem, ⟨38, _⟩ => ⟨S512x4096, .bf16⟩
  | .local _ .vmem, ⟨39, _⟩ => ⟨S512x4096, .bf16⟩
  | .local _ .vmem, ⟨40, _⟩ => ⟨S1024x4096, .bf16⟩
  | .local _ .vmem, ⟨41, _⟩ => ⟨S4096x512, .f32⟩
  | .local _ .vmem, ⟨42, _⟩ => ⟨S4096x512, .f32⟩
  | .local _ .vmem, ⟨43, _⟩ => ⟨S1024x512, .f32⟩
  | .local _ .vmem, ⟨44, _⟩ => ⟨S1024x512, .f32⟩
  | .local _ .vmem, ⟨45, _⟩ => ⟨S1024x4096, .bf16⟩
  | .local _ .vmem, ⟨46, _⟩ => ⟨S4096x512, .f32⟩
  | .local _ .vmem, ⟨47, _⟩ => ⟨S1024x512, .f32⟩
  | .local _ .vmem, ⟨48, _⟩ => ⟨S1024x4096, .bf16⟩
  | .local _ .vmem, ⟨49, _⟩ => ⟨S4096x512, .f32⟩
  | .local _ .vmem, ⟨50, _⟩ => ⟨S4096x512, .f32⟩
  | .local _ .vmem, ⟨51, _⟩ => ⟨S1024x512, .f32⟩
  | .local _ .vmem, ⟨52, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg1_0 : Ref sig .tc := ⟨.vmem, 46, rfl⟩
abbrev cc7_stg2_0 : Ref sig .tc := ⟨.vmem, 47, rfl⟩
abbrev cc8_stg0_0 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg2_1 : Ref sig .tc := ⟨.vmem, 52, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem1_0 : DmaSem sig := 41
abbrev cc6_sem1_1 : DmaSem sig := 42
abbrev cc6_sem2_0 : DmaSem sig := 43
abbrev cc6_sem2_1 : DmaSem sig := 44
abbrev cc7_sem0_0 : DmaSem sig := 45
abbrev cc7_sem1_0 : DmaSem sig := 46
abbrev cc7_sem2_0 : DmaSem sig := 47
abbrev cc8_sem0_0 : DmaSem sig := 48
abbrev cc8_sem1_0 : DmaSem sig := 49
abbrev cc8_sem1_1 : DmaSem sig := 50
abbrev cc8_sem2_0 : DmaSem sig := 51
abbrev cc8_sem2_1 : DmaSem sig := 52

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S136x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 1], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage5_0 : Fin 2 → Memref sig .tc .vmem S64x8x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S64x1x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S64x1x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x4096 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S1024x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4096x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S1024x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 1 → Memref sig .tc .vmem S4096x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S1024x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]

abbrev grid8 : Pipeline.Grid := ⟨2, ![1, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S1024x4096 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S4096x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== Reference2Ideal.lean ====
abbrev S4x2048x4096 : Shape := ⟨3, ![4, 2048, 4096]⟩
abbrev S128x8x4096 : Shape := ⟨3, ![128, 8, 4096]⟩
abbrev S128x128x4x64 : Shape := ⟨4, ![128, 128, 4, 64]⟩
abbrev S128x15x2048 : Shape := ⟨3, ![128, 15, 2048]⟩
abbrev S4x4096 : Shape := ⟨2, ![4, 4096]⟩
abbrev S128x4096 : Shape := ⟨2, ![128, 4096]⟩
abbrev S4096x24576 : Shape := ⟨2, ![4096, 24576]⟩
abbrev S24576 : Shape := ⟨1, ![24576]⟩
abbrev S4096x4608 : Shape := ⟨2, ![4096, 4608]⟩
abbrev S_ : Shape := ⟨0, ![]⟩
abbrev S4x24576 : Shape := ⟨2, ![4, 24576]⟩
abbrev S1x24576 : Shape := ⟨2, ![1, 24576]⟩
abbrev S4x6x4096 : Shape := ⟨3, ![4, 6, 4096]⟩
abbrev S4x6x1x4096 : Shape := ⟨4, ![4, 6, 1, 4096]⟩
abbrev S128x24576 : Shape := ⟨2, ![128, 24576]⟩
abbrev S128x6x4096 : Shape := ⟨3, ![128, 6, 4096]⟩
abbrev S128x6x1x4096 : Shape := ⟨4, ![128, 6, 1, 4096]⟩
abbrev S4x1x1x4096 : Shape := ⟨4, ![4, 1, 1, 4096]⟩
abbrev S4x1x4096 : Shape := ⟨3, ![4, 1, 4096]⟩
abbrev S4x2048x4608 : Shape := ⟨3, ![4, 2048, 4608]⟩
abbrev S4x2048x256 : Shape := ⟨3, ![4, 2048, 256]⟩
abbrev S4x2048x4x64 : Shape := ⟨4, ![4, 2048, 4, 64]⟩
abbrev S4x2048x2048 : Shape := ⟨3, ![4, 2048, 2048]⟩
abbrev S4x15x2048 : Shape := ⟨3, ![4, 15, 2048]⟩
abbrev S4x128x4x64 : Shape := ⟨4, ![4, 128, 4, 64]⟩
abbrev S4x2063x2048 : Shape := ⟨3, ![4, 2063, 2048]⟩
abbrev S8192x4608 : Shape := ⟨2, ![8192, 4608]⟩
abbrev S128x1x1x4096 : Shape := ⟨4, ![128, 1, 1, 4096]⟩
abbrev S128x1x4096 : Shape := ⟨3, ![128, 1, 4096]⟩
abbrev S128x8x4608 : Shape := ⟨3, ![128, 8, 4608]⟩
abbrev S128x8x256 : Shape := ⟨3, ![128, 8, 256]⟩
abbrev S128x8x4x64 : Shape := ⟨4, ![128, 8, 4, 64]⟩
abbrev S128x8x2048 : Shape := ⟨3, ![128, 8, 2048]⟩
abbrev S128x136x4x64 : Shape := ⟨4, ![128, 136, 4, 64]⟩
abbrev S128x23x2048 : Shape := ⟨3, ![128, 23, 2048]⟩
abbrev S1024x4608 : Shape := ⟨2, ![1024, 4608]⟩
abbrev S132x6x1x4096 : Shape := ⟨4, ![132, 6, 1, 4096]⟩
abbrev S132x6x4096 : Shape := ⟨3, ![132, 6, 4096]⟩
abbrev S6x132x4096 : Shape := ⟨3, ![6, 132, 4096]⟩
abbrev S8192x2048 : Shape := ⟨2, ![8192, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S128x128x4x64, .f32⟩
  | .hbm, ⟨3, _⟩ => ⟨S128x15x2048, .f32⟩
  | .hbm, ⟨4, _⟩ => ⟨S4x4096, .f32⟩
  | .hbm, ⟨5, _⟩ => ⟨S128x4096, .f32⟩
  | .hbm, ⟨6, _⟩ => ⟨S4096x24576, .f32⟩
  | .hbm, ⟨7, _⟩ => ⟨S24576, .f32⟩
  | .hbm, ⟨8, _⟩ => ⟨S4096x4608, .f32⟩
  | .hbm, ⟨9, _⟩ => ⟨S4x4096, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096, .f32⟩
  | .hbm, ⟨18, _⟩ => ⟨S4x24576, .f32⟩
  | .hbm, ⟨19, _⟩ => ⟨S1x24576, .f32⟩
  | .hbm, ⟨20, _⟩ => ⟨S4x24576, .f32⟩
  | .hbm, ⟨21, _⟩ => ⟨S4x24576, .f32⟩
  | .hbm, ⟨22, _⟩ => ⟨S4x6x4096, .f32⟩
  | .hbm, ⟨23, _⟩ => ⟨S4x6x1x4096, .f32⟩
  | .hbm, ⟨24, _⟩ => ⟨S128x4096, .f32⟩
  | .hbm, ⟨25, _⟩ => ⟨S128x4096, .f32⟩
  | .hbm, ⟨26, _⟩ => ⟨S_, .f32⟩
  | .hbm, ⟨27, _⟩ => ⟨S128x4096, .f32⟩
  | .hbm, ⟨28, _⟩ => ⟨S128x4096, .f32⟩
  | .hbm, ⟨29, _⟩ => ⟨S_, .f32⟩
  | .hbm, ⟨30, _⟩ => ⟨S128x4096, .f32⟩
  | .hbm, ⟨31, _⟩ => ⟨S128x4096, .f32⟩
  | .hbm, ⟨32, _⟩ => ⟨S128x4096, .f32⟩
  | .hbm, ⟨33, _⟩ => ⟨S128x24576, .f32⟩
  | .hbm, ⟨34, _⟩ => ⟨S1x24576, .f32⟩
  | .hbm, ⟨35, _⟩ => ⟨S128x24576, .f32⟩
  | .hbm, ⟨36, _⟩ => ⟨S128x24576, .f32⟩
  | .hbm, ⟨37, _⟩ => ⟨S128x6x4096, .f32⟩
  | .hbm, ⟨38, _⟩ => ⟨S128x6x1x4096, .f32⟩
  | .hbm, ⟨39, _⟩ => ⟨S4x1x1x4096, .f32⟩
  | .hbm, ⟨40, _⟩ => ⟨S4x1x4096, .f32⟩
  | .hbm, ⟨41, _⟩ => ⟨S_, .f32⟩
  | .hbm, ⟨42, _⟩ => ⟨S4x1x4096, .f32⟩
  | .hbm, ⟨43, _⟩ => ⟨S4x1x4096, .f32⟩
  | .hbm, ⟨44, _⟩ => ⟨S4x2048x4096, .f32⟩
  | .hbm, ⟨45, _⟩ => ⟨S4x2048x4096, .f32⟩
  | .hbm, ⟨46, _⟩ => ⟨S4x1x1x4096, .f32⟩
  | .hbm, ⟨47, _⟩ => ⟨S4x1x4096, .f32⟩
  | .hbm, ⟨48, _⟩ => ⟨S4x2048x4096, .f32⟩
  | .hbm, ⟨49, _⟩ => ⟨S4x2048x4096, .f32⟩
  | .hbm, ⟨50, _⟩ => ⟨S4x2048x4608, .f32⟩
  | .hbm, ⟨51, _⟩ => ⟨S4x2048x256, .f32⟩
  | .hbm, ⟨52, _⟩ => ⟨S4x2048x4x64, .f32⟩
  | .hbm, ⟨53, _⟩ => ⟨S4x2048x2048, .f32⟩
  | .hbm, ⟨54, _⟩ => ⟨S_, .f32⟩
  | .hbm, ⟨55, _⟩ => ⟨S4x15x2048, .f32⟩
  | .hbm, ⟨56, _⟩ => ⟨S4x128x4x64, .f32⟩
  | .hbm, ⟨57, _⟩ => ⟨S4x2063x2048, .f32⟩
  | .hbm, ⟨58, _⟩ => ⟨S4x15x2048, .f32⟩
  | .hbm, ⟨59, _⟩ => ⟨S8192x4608, .f32⟩
  | .hbm, ⟨60, _⟩ => ⟨S128x1x1x4096, .f32⟩
  | .hbm, ⟨61, _⟩ => ⟨S128x1x4096, .f32⟩
  | .hbm, ⟨62, _⟩ => ⟨S_, .f32⟩
  | .hbm, ⟨63, _⟩ => ⟨S128x1x4096, .f32⟩
  | .hbm, ⟨64, _⟩ => ⟨S128x1x4096, .f32⟩
  | .hbm, ⟨65, _⟩ => ⟨S128x8x4096, .f32⟩
  | .hbm, ⟨66, _⟩ => ⟨S128x8x4096, .f32⟩
  | .hbm, ⟨67, _⟩ => ⟨S128x1x1x4096, .f32⟩
  | .hbm, ⟨68, _⟩ => ⟨S128x1x4096, .f32⟩
  | .hbm, ⟨69, _⟩ => ⟨S128x8x4096, .f32⟩
  | .hbm, ⟨70, _⟩ => ⟨S128x8x4096, .f32⟩
  | .hbm, ⟨71, _⟩ => ⟨S128x8x4608, .f32⟩
  | .hbm, ⟨72, _⟩ => ⟨S128x8x256, .f32⟩
  | .hbm, ⟨73, _⟩ => ⟨S128x8x4x64, .f32⟩
  | .hbm, ⟨74, _⟩ => ⟨S128x8x2048, .f32⟩
  | .hbm, ⟨75, _⟩ => ⟨S128x136x4x64, .f32⟩
  | .hbm, ⟨76, _⟩ => ⟨S128x128x4x64, .f32⟩
  | .hbm, ⟨77, _⟩ => ⟨S128x23x2048, .f32⟩
  | .hbm, ⟨78, _⟩ => ⟨S128x15x2048, .f32⟩
  | .hbm, ⟨79, _⟩ => ⟨S1024x4608, .f32⟩
  | .hbm, ⟨80, _⟩ => ⟨S132x6x1x4096, .f32⟩
  | .hbm, ⟨81, _⟩ => ⟨S132x6x4096, .f32⟩
  | .hbm, ⟨82, _⟩ => ⟨S6x132x4096, .f32⟩
  | .hbm, ⟨83, _⟩ => ⟨S8192x2048, .f32⟩
  | .hbm, ⟨84, _⟩ => ⟨S8192x512, .f32⟩
  | .hbm, ⟨85, _⟩ => ⟨S8192x2048, .f32⟩
  | .hbm, ⟨86, _⟩ => ⟨S1024x2048, .f32⟩
  | .hbm, ⟨87, _⟩ => ⟨S1024x512, .f32⟩
  | .hbm, ⟨88, _⟩ => ⟨S1024x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_1 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Kernel3.lean ====
abbrev S4x2048x4096 : Shape := ⟨3, ![4, 2048, 4096]⟩
abbrev S8192x2048 : Shape := ⟨2, ![8192, 2048]⟩
abbrev S4x1x4096 : Shape := ⟨3, ![4, 1, 4096]⟩
abbrev S4096x4096 : Shape := ⟨2, ![4096, 4096]⟩
abbrev S4096 : Shape := ⟨1, ![4096]⟩
abbrev S4096x2048 : Shape := ⟨2, ![4096, 2048]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S1x4096 : Shape := ⟨2, ![1, 4096]⟩
abbrev S1x128x4096 : Shape := ⟨3, ![1, 128, 4096]⟩
abbrev S128x4096 : Shape := ⟨2, ![128, 4096]⟩
abbrev S1x1x4096 : Shape := ⟨3, ![1, 1, 4096]⟩
abbrev S1x128 : Shape := ⟨2, ![1, 128]⟩
abbrev S1x128x1 : Shape := ⟨3, ![1, 128, 1]⟩
abbrev S1024x4096 : Shape := ⟨2, ![1024, 4096]⟩
abbrev S4096x512 : Shape := ⟨2, ![4096, 512]⟩

abbrev nBuf : Space → Nat
  | .hbm => 16
  | .vmem => 32
  | .smem => 0
  | _ => 0

abbrev bufTy : (tb : Table) → Fin (tcTables nBuf tb) → BufTy
  | .hbm, ⟨0, _⟩ => ⟨S4x2048x4096, .f32⟩
  | .hbm, ⟨1, _⟩ => ⟨S8192x2048, .bf16⟩
  | .hbm, ⟨2, _⟩ => ⟨S8192x2048, .bf16⟩
  | .hbm, ⟨3, _⟩ => ⟨S4x1x4096, .f32⟩
  | .hbm, ⟨4, _⟩ => ⟨S4x1x4096, .f32⟩
  | .hbm, ⟨5, _⟩ => ⟨S4x1x4096, .f32⟩
  | .hbm, ⟨6, _⟩ => ⟨S4096x4096, .f32⟩
  | .hbm, ⟨7, _⟩ => ⟨S4096, .f32⟩
  | .hbm, ⟨8, _⟩ => ⟨S4096, .f32⟩
  | .hbm, ⟨9, _⟩ => ⟨S4096x2048, .f32⟩
  | .hbm, ⟨10, _⟩ => ⟨S8192x4096, .f32⟩
  | .hbm, ⟨11, _⟩ => ⟨S1x4096, .f32⟩
  | .hbm, ⟨12, _⟩ => ⟨S1x4096, .f32⟩
  | .hbm, ⟨13, _⟩ => ⟨S8192x4096, .f32⟩
  | .hbm, ⟨14, _⟩ => ⟨S8192x4096, .bf16⟩
  | .hbm, ⟨15, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x2048, .bf16⟩
  | .local _ .vmem, ⟨5, _⟩ => ⟨S1024x2048, .bf16⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1x128x4096, .f32⟩
  | .local _ .vmem, ⟨11, _⟩ => ⟨S1x128x4096, .f32⟩
  | .local _ .vmem, ⟨12, _⟩ => ⟨S128x4096, .f32⟩
  | .local _ .vmem, ⟨13, _⟩ => ⟨S128x4096, .f32⟩
  | .local _ .vmem, ⟨14, _⟩ => ⟨S1x1x4096, .f32⟩
  | .local _ .vmem, ⟨15, _⟩ => ⟨S1x1x4096, .f32⟩
  | .local _ .vmem, ⟨16, _⟩ => ⟨S1x1x4096, .f32⟩
  | .local _ .vmem, ⟨17, _⟩ => ⟨S1x1x4096, .f32⟩
  | .local _ .vmem, ⟨18, _⟩ => ⟨S1x1x4096, .f32⟩
  | .local _ .vmem, ⟨19, _⟩ => ⟨S1x1x4096, .f32⟩
  | .local _ .vmem, ⟨20, _⟩ => ⟨S1x4096, .f32⟩
  | .local _ .vmem, ⟨21, _⟩ => ⟨S1x4096, .f32⟩
  | .local _ .vmem, ⟨22, _⟩ => ⟨S128x4096, .f32⟩
  | .local _ .vmem, ⟨23, _⟩ => ⟨S128x4096, .f32⟩
  | .local _ .vmem, ⟨24, _⟩ => ⟨S128x4096, .bf16⟩
  | .local _ .vmem, ⟨25, _⟩ => ⟨S128x4096, .bf16⟩
  | .local _ .vmem, ⟨26, _⟩ => ⟨S1024x4096, .bf16⟩
  | .local _ .vmem, ⟨27, _⟩ => ⟨S1024x4096, .bf16⟩
  | .local _ .vmem, ⟨28, _⟩ => ⟨S4096x512, .f32⟩
  | .local _ .vmem, ⟨29, _⟩ => ⟨S4096x512, .f32⟩
  | .local _ .vmem, ⟨30, _⟩ => ⟨S1024x512, .f32⟩
  | .local _ .vmem, ⟨31, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference3Ideal.lean ====
abbrev S4x2048x4096 : Shape := ⟨3, ![4, 2048, 4096]⟩
abbrev S8192x2048 : Shape := ⟨2, ![8192, 2048]⟩
abbrev S4x1x4096 : Shape := ⟨3, ![4, 1, 4096]⟩
abbrev S4096x4096 : Shape := ⟨2, ![4096, 4096]⟩
abbrev S4096 : Shape := ⟨1, ![4096]⟩
abbrev S4096x2048 : Shape := ⟨2, ![4096, 2048]⟩
abbrev S8192x4096 : Shape := ⟨2, ![8192, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8192x2048, .bf16⟩
  | .hbm, ⟨2, _⟩ => ⟨S8192x2048, .bf16⟩
  | .hbm, ⟨3, _⟩ => ⟨S4x1x4096, .f32⟩
  | .hbm, ⟨4, _⟩ => ⟨S4x1x4096, .f32⟩
  | .hbm, ⟨5, _⟩ => ⟨S4x1x4096, .f32⟩
  | .hbm, ⟨6, _⟩ => ⟨S4096x4096, .f32⟩
  | .hbm, ⟨7, _⟩ => ⟨S4096, .f32⟩
  | .hbm, ⟨8, _⟩ => ⟨S4096, .f32⟩
  | .hbm, ⟨9, _⟩ => ⟨S4096x2048, .f32⟩
  | .hbm, ⟨10, _⟩ => ⟨S8192x2048, .f32⟩
  | .hbm, ⟨11, _⟩ => ⟨S8192x2048, .f32⟩
  | .hbm, ⟨12, _⟩ => ⟨S8192x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x4096, .f32⟩
  | .hbm, ⟨43, _⟩ => ⟨S4x2048x4096, .f32⟩
  | .hbm, ⟨44, _⟩ => ⟨S1x1x4096, .f32⟩
  | .hbm, ⟨45, _⟩ => ⟨S4x2048x4096, .f32⟩
  | .hbm, ⟨46, _⟩ => ⟨S4x2048x4096, .f32⟩
  | .hbm, ⟨47, _⟩ => ⟨S1x1x4096, .f32⟩
  | .hbm, ⟨48, _⟩ => ⟨S4x2048x4096, .f32⟩
  | .hbm, ⟨49, _⟩ => ⟨S4x2048x4096, .f32⟩
  | .hbm, ⟨50, _⟩ => ⟨S_, .f32⟩
  | .hbm, ⟨51, _⟩ => ⟨S4x1x4096, .f32⟩
  | .hbm, ⟨52, _⟩ => ⟨S4x1x4096, .f32⟩
  | .hbm, ⟨53, _⟩ => ⟨S4x2048x4096, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S8192x4096, .f32⟩
  | .hbm, ⟨58, _⟩ => ⟨S8192x2048, .f32⟩
  | .hbm, ⟨59, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel4.lean ====
abbrev S4x2048x2048 : Shape := ⟨3, ![4, 2048, 2048]⟩
abbrev S4x512x512 : Shape := ⟨3, ![4, 512, 512]⟩
abbrev S2048 : Shape := ⟨1, ![2048]⟩
abbrev S_ : Shape := ⟨0, ![]⟩
abbrev S4x16x2048 : Shape := ⟨3, ![4, 16, 2048]⟩
abbrev S1x2048 : Shape := ⟨2, ![1, 2048]⟩
abbrev S8192x2048 : Shape := ⟨2, ![8192, 2048]⟩
abbrev S1x512x2048 : Shape := ⟨3, ![1, 512, 2048]⟩
abbrev S1x16x2048 : Shape := ⟨3, ![1, 16, 2048]⟩
abbrev S512x2048 : Shape := ⟨2, ![512, 2048]⟩
abbrev S1x528x2048 : Shape := ⟨3, ![1, 528, 2048]⟩
abbrev S1x512x1 : Shape := ⟨3, ![1, 512, 1]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x512x512, .f32⟩
  | .hbm, ⟨2, _⟩ => ⟨S2048, .f32⟩
  | .hbm, ⟨3, _⟩ => ⟨S_, .f32⟩
  | .hbm, ⟨4, _⟩ => ⟨S4x16x2048, .f32⟩
  | .hbm, ⟨5, _⟩ => ⟨S4x512x512, .bf16⟩
  | .hbm, ⟨6, _⟩ => ⟨S1x2048, .f32⟩
  | .hbm, ⟨7, _⟩ => ⟨S8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S4x512x512, .bf16⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S1x528x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x2048x2048 : Shape := ⟨3, ![4, 2048, 2048]⟩
abbrev S4x512x512 : Shape := ⟨3, ![4, 512, 512]⟩
abbrev S2048 : Shape := ⟨1, ![2048]⟩
abbrev S_ : Shape := ⟨0, ![]⟩
abbrev S4x15x2048 : Shape := ⟨3, ![4, 15, 2048]⟩
abbrev S4x2063x2048 : Shape := ⟨3, ![4, 2063, 2048]⟩
abbrev S4x2064x2048 : Shape := ⟨3, ![4, 2064, 2048]⟩
abbrev S4x2048x512 : Shape := ⟨3, ![4, 2048, 512]⟩
abbrev S1x2048x1 : Shape := ⟨3, ![1, 2048, 1]⟩
abbrev S4x2048x1x512 : Shape := ⟨4, ![4, 2048, 1, 512]⟩
abbrev S4x2048x4x512 : Shape := ⟨4, ![4, 2048, 4, 512]⟩
abbrev S4x512x4x2048 : Shape := ⟨4, ![4, 512, 4, 2048]⟩
abbrev S1x1x2048 : Shape := ⟨3, ![1, 1, 2048]⟩
abbrev S8192x2048 : Shape := ⟨2, ![8192, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x512x512, .f32⟩
  | .hbm, ⟨2, _⟩ => ⟨S2048, .f32⟩
  | .hbm, ⟨3, _⟩ => ⟨S2048, .i32⟩
  | .hbm, ⟨4, _⟩ => ⟨S_, .f32⟩
  | .hbm, ⟨5, _⟩ => ⟨S4x15x2048, .f32⟩
  | .hbm, ⟨6, _⟩ => ⟨S4x2063x2048, .f32⟩
  | .hbm, ⟨7, _⟩ => ⟨S_, .f32⟩
  | .hbm, ⟨8, _⟩ => ⟨S_, .f32⟩
  | .hbm, ⟨9, _⟩ => ⟨S4x2063x2048, .f32⟩
  | .hbm, ⟨10, _⟩ => ⟨S_, .i32⟩
  | .hbm, ⟨11, _⟩ => ⟨S_, .f32⟩
  | .hbm, ⟨12, _⟩ => ⟨S4x2064x2048, .f32⟩
  | .hbm, ⟨13, _⟩ => ⟨S4x2048x512, .f32⟩
  | .hbm, ⟨14, _⟩ => ⟨S4x2048x512, .f32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S1x2048x1, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .f32⟩
  | .hbm, ⟨35, _⟩ => ⟨S1x2048x1, .f32⟩
  | .hbm, ⟨36, _⟩ => ⟨S4x2048x512, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .f32⟩
  | .hbm, ⟨48, _⟩ => ⟨S1x2048x1, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S4x2048x512, .f32⟩
  | .hbm, ⟨53, _⟩ => ⟨S4x2048x512, .f32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .f32⟩
  | .hbm, ⟨61, _⟩ => ⟨S1x2048x1, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S4x2048x1x512, .f32⟩
  | .hbm, ⟨66, _⟩ => ⟨S4x2048x1x512, .f32⟩
  | .hbm, ⟨67, _⟩ => ⟨S4x2048x1x512, .f32⟩
  | .hbm, ⟨68, _⟩ => ⟨S4x2048x1x512, .f32⟩
  | .hbm, ⟨69, _⟩ => ⟨S4x2048x4x512, .f32⟩
  | .hbm, ⟨70, _⟩ => ⟨S4x2048x4x512, .f32⟩
  | .hbm, ⟨71, _⟩ => ⟨S4x2048x4x512, .f32⟩
  | .hbm, ⟨72, _⟩ => ⟨S4x512x4x2048, .f32⟩
  | .hbm, ⟨73, _⟩ => ⟨S4x2048x4x512, .f32⟩
  | .hbm, ⟨74, _⟩ => ⟨S4x2048x2048, .f32⟩
  | .hbm, ⟨75, _⟩ => ⟨S1x1x2048, .f32⟩
  | .hbm, ⟨76, _⟩ => ⟨S4x2048x2048, .f32⟩
  | .hbm, ⟨77, _⟩ => ⟨S4x2048x2048, .f32⟩
  | .hbm, ⟨78, _⟩ => ⟨S8192x2048, .f32⟩
  | .hbm, ⟨79, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_c : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Proof.RopePay.lean ====
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Attn

open Cert.KernelIdeal Cert.KernelIdeal.Gen Idealize.ShloMosaic

/-- The lane of a table that column `w` of a row of heads reads. -/
abbrev lane {n : ℕ} (w : Fin n) : Fin 128 := ⟨w.val % 128, Nat.mod_lt _ (by decide)⟩

/-- The column eight to the left of `w`, around the end of a row of `n`. -/
abbrev west {n : ℕ} (w : Fin n) : Fin n := ⟨(w.val + n - 8) % n, Nat.mod_lt _ (Nat.zero_lt_of_lt w.isLt)⟩

/-- The column eight to the right of `w`, around the end of a row of `n`. -/
abbrev east {n : ℕ} (w : Fin n) : Fin n := ⟨(w.val + 8) % n, Nat.mod_lt _ (Nat.zero_lt_of_lt w.isLt)⟩

/-- One rotated entry: a row of heads at a column and at the columns eight to either side, each times its table's lane. -/
abbrev turned {n : ℕ} (x : Fin n → EReal) (c s1 s2 : Fin 128 → EReal) (w : Fin n) : EReal :=
  x w * c (lane w) + x (west w) * s1 (lane w) + x (east w) * s2 (lane w)

/-- Sixteen copies of a table side by side, read at a column: the table at the column's lane. -/
theorem tile16 (x : FVec Ideal S128x128 .f32) (r : Fin 128) (w : Fin 2048) :
    concatenate S128x2048 1 [⟨S128x128, x⟩, ⟨S128x128, x⟩, ⟨S128x128, x⟩, ⟨S128x128, x⟩, ⟨S128x128, x⟩, ⟨S128x128, x⟩,
      ⟨S128x128, x⟩, ⟨S128x128, x⟩, ⟨S128x128, x⟩, ⟨S128x128, x⟩, ⟨S128x128, x⟩, ⟨S128x128, x⟩, ⟨S128x128, x⟩, ⟨S128x128, x⟩,
      ⟨S128x128, x⟩, ⟨S128x128, x⟩] concatenates_S128x128_S128x128_S128x128_S128x128_S128x128_S128x128_S128x128_S128x128_S128x128_S128x128_S128x128_S128x128_S128x128_S128x128_S128x128_S128x128_S128x2048_d1
        (ix2 r w) = x (ix2 r (lane w)) :=
  concatenate_replicate_apply (t := S128x2048) 1 16 x _ rfl (ix2 r w) (ix2 r (lane w)) rfl fun b hb => by
    fin_vals b with h
    · obtain rfl : b = 0 := Fin.ext h
      rfl
    · obtain rfl : b = 1 := Fin.ext h
      exact absurd rfl hb

/-- Two copies of a table side by side, read at a column: the table at the column's lane. -/
theorem tile2 (x : FVec Ideal S128x128 .f32) (r : Fin 128) (w : Fin 256) :
    concatenate S128x256 1 [⟨S128x128, x⟩, ⟨S128x128, x⟩] concatenates_S128x128_S128x128_S128x256_d1
        (ix2 r w) = x (ix2 r (lane w)) :=
  concatenate_replicate_apply (t := S128x256) 1 2 x _ rfl (ix2 r w) (ix2 r (lane w)) rfl fun b hb => by
    fin_vals b with h
    · obtain rfl : b = 0 := Fin.ext h
      rfl
    · obtain rfl : b = 1 := Fin.ext h
      exact absurd rfl hb

/-- The three products over a whole block of queries, the tables at full width. -/
theorem turn2048 (x C S1 S2 : FVec Ideal S128x2048 .f32) (r : Fin 128) (w : Fin 2048) :
    (addf (addf (mulf x C) (mulf (dynamicRotate 1 8#32 none x rotates_S128x2048_d1) S1))
        (mulf (dynamicRotate 1 2040#32 none x rotates_S128x2048_d1) S2)) (ix2 r w)
      = x (ix2 r w) * C (ix2 r w) + x (ix2 r (west w)) * S1 (ix2 r w) + x (ix2 r (east w)) * S2 (ix2 r w) := by
  pointwise
  congr 4
  all_goals (idx_ext; simp; omega)

/-- The three products over a block of keys, the tables at full width. -/
theorem turn256 (x C S1 S2 : FVec Ideal S128x256 .f32) (r : Fin 128) (w : Fin 256) :
    (addf (addf (mulf x C) (mulf (dynamicRotate 1 8#32 none x rotates_S128x256_d1) S1))
        (mulf (dynamicRotate 1 248#32 none x rotates_S128x256_d1) S2)) (ix2 r w)
      = x (ix2 r w) * C (ix2 r w) + x (ix2 r (west w)) * S1 (ix2 r w) + x (ix2 r (east w)) * S2 (ix2 r w) := by
  pointwise
  congr 4
  all_goals (idx_ext; simp; omega)

/-- The rotated key block, element by element. -/
theorem pay2_at (x : FVec Ideal S128x256 .f32) (c s1 s2 : FVec Ideal S128x128 .f32) (r : Fin 128) (w : Fin 256) :
    k0_pay2 (F := Ideal) x c s1 s2 (ix2 r w)
      = turned (fun l => x (ix2 r l)) (fun l => c (ix2 r l)) (fun l => s1 (ix2 r l)) (fun l => s2 (ix2 r l)) w := by
  refine (turn256 x _ _ _ r w).trans ?_
  rw [tile2, tile2, tile2]
  pointwise

/-- The rotated query block scaled by an eighth, element by element. -/
theorem pay1_at (x : FVec Ideal S128x2048 .f32) (c s1 s2 : FVec Ideal S128x128 .f32) (r : Fin 128) (w : Fin 2048) :
    k0_pay1 (F := Ideal) x c s1 s2 (ix2 r w)
      = turned (fun l => x (ix2 r l)) (fun l => c (ix2 r l)) (fun l => s1 (ix2 r l)) (fun l => s2 (ix2 r l)) w
        * Scalar.ofBits (F := Ideal) .f32 0x3E000000#32 := by
  refine congrArg (· * Scalar.ofBits (F := Ideal) .f32 0x3E000000#32) ((turn2048 x _ _ _ r w).trans ?_)
  rw [tile16, tile16, tile16]
  pointwise

/-- The keys a block attends to: the previous block's above its own, each rotated. -/
theorem pay3_at (y : FVec Ideal S128x256 .f32) (x : FVec Ideal S128x256 .f32) (c s1 s2 : FVec Ideal S128x128 .f32)
    (r : Fin 256) (w : Fin 256) :
    k0_pay3 (F := Ideal) y x c s1 s2 (ix2 r w)
      = if h : r.val < 128 then k0_pay2 (F := Ideal) x c s1 s2 (ix2 ⟨r.val, h⟩ w)
        else y (ix2 ⟨r.val - 128, by omega⟩ w) := by
  have e : k0_pay3 (F := Ideal) y x c s1 s2
      = truncf .bf16 (concatenate S256x256 0 [⟨S128x256, k0_pay2 (F := Ideal) x c s1 s2⟩, ⟨S128x256, y⟩]
          concatenates_S128x256_S128x256_S256x256_d0) bitsLt_bf16_f32 := rfl
  rw [e]
  generalize k0_pay2 (F := Ideal) x c s1 s2 = z
  pointwise

/-- The values a block attends to: the previous block's above its own. -/
theorem pay4_at (x y : FVec Ideal S128x256 .f32) (r : Fin 256) (w : Fin 256) :
    k0_pay4 (F := Ideal) x y (ix2 r w)
      = if h : r.val < 128 then x (ix2 ⟨r.val, h⟩ w) else y (ix2 ⟨r.val - 128, by omega⟩ w) := by
  pointwise [k0_pay4]

end Cert.KernelIdeal.Attn

end
-- ==== Proof.Heads.lean ====
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Attn

open Cert.KernelIdeal Cert.KernelIdeal.Gen Idealize.ShloMosaic

/-- The row of a key head's stacked queries that holds query group `g` at row `r` of the block. -/
abbrev stack (g : Fin 8) (r : Fin 128) : Fin 1024 := ⟨128 * g.val + r.val, by omega⟩

/-- One key head over its stacked queries: the masked scores, the largest of them and the sink, the weights, and their
    sum of values over the weights and the sink's. -/
def headOut (q : FVec Ideal S1024x64 .bf16) (k v : FVec Ideal S256x64 .bf16) (sk : FVec Ideal S1024x1 .f32)
    (M : IVec S1024x256 1) : FVec Ideal S1024x64 .f32 :=
  let sc : FVec Ideal S1024x256 .f32 := select M (matmul dot_S1024x64_S256x64_S1024x256_1_1_0_0_n_n none q k (constant S1024x256 .f32 0x00000000#32))
    (broadcast S1024x256 (Named.named (F := Ideal) κ "mask" 0xF149F2CA#32))
  let top : FVec Ideal S1024x1 .f32 := maximumf sk (shapeCast S1024x1
    (multiReduction .maximumf [1] S1024 sc 0xFF800000#32 reduces_S1024x256_S1024 (.inl rfl) rfl) shapeCasts_S1024_S1024x1)
  let p : FVec Ideal S1024x256 .f32 := exp (subf sc (broadcastTo S1024x256 top broadcasts_S1024x1_S1024x256))
  let den : FVec Ideal S1024x1 .f32 := addf (exp (subf sk top)) (shapeCast S1024x1
    (multiReduction .add [1] S1024 p 0x00000000#32 reduces_S1024x256_S1024 (.inl rfl) rfl) shapeCasts_S1024_S1024x1)
  divf (matmul dot_S1024x256_S256x64_S1024x64_1_0_0_1_n_n none (truncf .bf16 p bitsLt_bf16_f32) v (constant S1024x64 .f32 0x00000000#32))
    (broadcastTo S1024x64 den broadcasts_S1024x1_S1024x64)

/-- A row's score against key `x`: the product where the mask holds, negative infinity elsewhere. -/
def score (M : Fin 256 → BitVec 1) (q : Fin 64 → EReal) (k : Fin 256 → Fin 64 → EReal) (x : Fin 256) : EReal :=
  Scalar.select (M x) (∑ d, q d * k x d) ⊥

/-- The largest of a row's scores and its sink. -/
def peak (s : EReal) (sc : Fin 256 → EReal) : EReal := max s (Finset.univ.fold max ⊥ sc)

/-- One entry of the attention: the weighted values over the weights' sum with the sink's. -/
def attend (s : EReal) (sc v : Fin 256 → EReal) : EReal :=
  Ideal.div (∑ x, Ideal.exp (sc x - peak s sc) * v x) (Ideal.exp (s - peak s sc) + ∑ x, Ideal.exp (sc x - peak s sc))

theorem negInf : Ideal.ofBits .f32 0xFF800000#32 = (⊥ : EReal) := by
  simp [Ideal.ofBits, Ideal.ieee]

theorem mask_bot : Named.named (F := Ideal) (φ := .f32) κ "mask" 0xF149F2CA#32 = (⊥ : EReal) :=
  IdealRules.named_const.ideal_named_scalar _ _ _ _ rfl

/-- A key head's output, entry by entry. -/
theorem headOut_at (q : FVec Ideal S1024x64 .bf16) (k v : FVec Ideal S256x64 .bf16) (sk : FVec Ideal S1024x1 .f32)
    (M : IVec S1024x256 1) (r : Fin 1024) (d : Fin 64) :
    headOut q k v sk M (ix2 r d)
      = attend (sk (ix2 r 0)) (score (fun x => M (ix2 r x)) (fun d => q (ix2 r d)) fun x d => k (ix2 x d))
          fun x => v (ix2 x d) := by
  unfold attend peak score
  pointwise [headOut]
  rw [mask_bot, negInf]

theorem slices_q : ∀ (h : Fin 4) (g : Fin 8), S128x2048.Slices ![0, 512 * h.val + 64 * g.val] S128x64 := by decide

theorem slices_k : ∀ h : Fin 4, S256x256.Slices ![0, 64 * h.val] S256x64 := by decide

theorem slices_o : ∀ n : Fin 32, S1024x64.Slices ![128 * (n.val % 8), 0] S128x64 := by decide

/-- Key head `h`'s queries: its eight groups' columns stacked. -/
def headQ (q : FVec Ideal S128x2048 .bf16) (h : Fin 4) : FVec Ideal S1024x64 .bf16 :=
  concatenate S1024x64 0 (List.ofFn fun g : Fin 8 =>
      ⟨S128x64, extractStridedSlice S128x64 ![0, 512 * h.val + 64 * g.val] q (slices_q h g)⟩)
    concatenates_S128x64_S128x64_S128x64_S128x64_S128x64_S128x64_S128x64_S128x64_S1024x64_d0

/-- Key head `h`'s columns of the keys or of the values. -/
def headK (k : FVec Ideal S256x256 .bf16) (h : Fin 4) : FVec Ideal S256x64 .bf16 :=
  extractStridedSlice S256x64 ![0, 64 * h.val] k (slices_k h)

/-- Key head `h`'s sinks: its eight groups' each down their rows. -/
def headS (s : Fin 32 → EReal) (h : Fin 4) : FVec Ideal S1024x1 .f32 :=
  concatenate S1024x1 0 (List.ofFn fun g : Fin 8 =>
      ⟨S128x1, broadcast S128x1 (s ⟨8 * h.val + g.val, by omega⟩)⟩)
    concatenates_S128x1_S128x1_S128x1_S128x1_S128x1_S128x1_S128x1_S128x1_S1024x1_d0

/-- Key head `h`. -/
def head (q : FVec Ideal S128x2048 .bf16) (k v : FVec Ideal S256x256 .bf16) (s : Fin 32 → EReal) (M : IVec S1024x256 1)
    (h : Fin 4) : FVec Ideal S1024x64 .f32 :=
  headOut (headQ q h) (headK k h) (headK v h) (headS s h) M

/-- The block of attention outputs: the four key heads' groups side by side. -/
def blockOut (H : Fin 4 → FVec Ideal S1024x64 .f32) : FVec Ideal S128x2048 .f32 :=
  concatenate S128x2048 1 (List.ofFn fun n : Fin 32 =>
      ⟨S128x64, extractStridedSlice S128x64 ![128 * (n.val % 8), 0] (H ⟨n.val / 8, by omega⟩) (slices_o n)⟩)
    concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x2048_d1

theorem headQ_at (q : FVec Ideal S128x2048 .bf16) (h : Fin 4) (g : Fin 8) (r : Fin 128) (d : Fin 64) :
    headQ q h (ix2 (stack g r) d) = q (ix2 r ⟨512 * h.val + 64 * g.val + d.val, by omega⟩) := by
  refine (concatenate_ofFn_apply (t := S1024x64) (s₁ := S128x64) 0 _ _ rfl 128 rfl (ix2 (stack g r) d) g
    (by show (128 * g.val + r.val) / 128 = g.val; omega) (ix2 r d)
    (by show r.val = (128 * g.val + r.val) % 128; omega) fun b hb => ?_).trans ?_
  · fin_vals b with h
    · obtain rfl : b = 0 := Fin.ext h
      exact absurd rfl hb
    · obtain rfl : b = 1 := Fin.ext h
      rfl
  · pointwise

theorem headK_at (k : FVec Ideal S256x256 .bf16) (h : Fin 4) (x : Fin 256) (d : Fin 64) :
    headK k h (ix2 x d) = k (ix2 x ⟨64 * h.val + d.val, by omega⟩) := by
  pointwise [headK]

theorem headS_at (s : Fin 32 → EReal) (h : Fin 4) (g : Fin 8) (r : Fin 128) :
    headS s h (ix2 (stack g r) 0) = s ⟨8 * h.val + g.val, by omega⟩ := by
  refine (concatenate_ofFn_apply (t := S1024x1) (s₁ := S128x1) 0 _ _ rfl 128 rfl (ix2 (stack g r) 0) g
    (by show (128 * g.val + r.val) / 128 = g.val; omega) (ix2 r 0)
    (by show r.val = (128 * g.val + r.val) % 128; omega) fun b hb => ?_).trans ?_
  · fin_vals b with h
    · obtain rfl : b = 0 := Fin.ext h
      exact absurd rfl hb
    · obtain rfl : b = 1 := Fin.ext h
      rfl
  · pointwise

/-- The key head, group and dimension of a column. -/
abbrev kh (w : Fin 2048) : Fin 4 := ⟨w.val / 512, by omega⟩
abbrev grp (w : Fin 2048) : Fin 8 := ⟨w.val % 512 / 64, by omega⟩
abbrev dim (w : Fin 2048) : Fin 64 := ⟨w.val % 64, by omega⟩

theorem blockOut_at (H : Fin 4 → FVec Ideal S1024x64 .f32) (r : Fin 128) (w : Fin 2048) :
    blockOut H (ix2 r w) = H (kh w) (ix2 (stack (grp w) r) (dim w)) := by
  refine (concatenate_ofFn_apply (t := S128x2048) (s₁ := S128x64) 1 _ _ rfl 64 rfl (ix2 r w) ⟨w.val / 64, by omega⟩
    rfl (ix2 r (dim w)) rfl fun b hb => ?_).trans ?_
  · fin_vals b with h
    · obtain rfl : b = 0 := Fin.ext h
      rfl
    · obtain rfl : b = 1 := Fin.ext h
      exact absurd rfl hb
  · have e : (⟨w.val / 64 / 8, by omega⟩ : Fin 4) = kh w := Fin.ext (by show w.val / 64 / 8 = w.val / 512; omega)
    have e' : ix2 (⟨128 * (w.val / 64 % 8) + r.val, by omega⟩ : Fin 1024) (dim w) = ix2 (stack (grp w) r) (dim w) := by
      congr 1; exact Fin.ext (by show 128 * (w.val / 64 % 8) + r.val = 128 * (w.val % 512 / 64) + r.val; omega)
    rw [← e, ← e']
    pointwise

/-- The attention block, entry by entry. -/
theorem block_at (q : FVec Ideal S128x2048 .bf16) (k v : FVec Ideal S256x256 .bf16) (s : Fin 32 → EReal)
    (M : IVec S1024x256 1) (r : Fin 128) (w : Fin 2048) :
    blockOut (head q k v s M) (ix2 r w)
      = attend (s ⟨8 * (kh w).val + (grp w).val, by omega⟩)
          (score (fun x => M (ix2 (stack (grp w) r) x))
            (fun d => q (ix2 r ⟨512 * (kh w).val + 64 * (grp w).val + d.val, by omega⟩))
            fun x d => k (ix2 x ⟨64 * (kh w).val + d.val, by omega⟩))
          fun x => v (ix2 x ⟨64 * (kh w).val + (dim w).val, by omega⟩) := by
  rw [blockOut_at, head, headOut_at]
  simp only [headS_at, headQ_at, headK_at]

/-- The four heads' printed texts are one text. -/
theorem head0_eq (q : FVec Ideal S128x2048 .bf16) (k v : FVec Ideal S256x256 .bf16) (s : Fin 32 → EReal) (M : IVec S1024x256 1) :
    k0_pay12 (F := Ideal) v M (k0_pay9 q) (k0_pay10 (s 0) (s 1) (s 2) (s 3) (s 4) (s 5) (s 6) (s 7)) (k0_pay11 k)
      (constant S1024x256 .f32 0x00000000#32) = head q k v s M 0 := rfl

theorem head1_eq (q : FVec Ideal S128x2048 .bf16) (k v : FVec Ideal S256x256 .bf16) (s : Fin 32 → EReal) (M : IVec S1024x256 1) :
    k0_pay28 (F := Ideal) k v M (k0_pay21 q) (k0_pay22 (s 8)) (k0_pay23 (s 9)) (k0_pay24 (s 10)) (k0_pay25 (s 11)) (k0_pay26 (s 12))
      (k0_pay27 (s 13)) (s 14) (s 15) = head q k v s M 1 := rfl

theorem head2_eq (q : FVec Ideal S128x2048 .bf16) (k v : FVec Ideal S256x256 .bf16) (s : Fin 32 → EReal) (M : IVec S1024x256 1) :
    k0_pay42 (F := Ideal) k v M (k0_pay37 q) (k0_pay38 (s 16)) (k0_pay39 (s 17)) (k0_pay40 (s 18)) (k0_pay41 (s 19)) (s 20)
      (s 21) (s 22) (s 23) = head q k v s M 2 := rfl

/-- The last head's text, which the body prints in several pieces. -/
def head3 (q : FVec Ideal S128x2048 .bf16) (k v : FVec Ideal S256x256 .bf16) (s : Fin 32 → EReal) (M : IVec S1024x256 1) :
    FVec Ideal S1024x64 .f32 :=
  let sk := k0_pay54 (F := Ideal) (k0_pay52 (s 24)) (k0_pay53 (s 25)) (s 26) (s 27) (s 28) (s 29) (s 30) (s 31)
  let top := k0_pay56 (F := Ideal) k M (k0_pay51 q) sk
  let p := k0_pay57 (F := Ideal) k M (k0_pay51 q) top
  k0_pay59 sk top p (k0_pay58 v p)

theorem head3_eq (q : FVec Ideal S128x2048 .bf16) (k v : FVec Ideal S256x256 .bf16) (s : Fin 32 → EReal) (M : IVec S1024x256 1) :
    head3 q k v s M = head q k v s M 3 := rfl

/-- The stored block as the body prints it, of the scaled queries, the keys, the values, the sinks and the mask. -/
def printed (q : FVec Ideal S128x2048 .bf16) (k v : FVec Ideal S256x256 .bf16) (s : Fin 32 → EReal) (M : IVec S1024x256 1) :
    FVec Ideal S128x2048 .bf16 :=
  k0_pay61 (F := Ideal) (k0_pay60
    (k0_pay13 v M (k0_pay9 q) (k0_pay10 (s 0) (s 1) (s 2) (s 3) (s 4) (s 5) (s 6) (s 7)) (k0_pay11 k) (constant S1024x256 .f32 0x00000000#32))
    (k0_pay14 v M (k0_pay9 q) (k0_pay10 (s 0) (s 1) (s 2) (s 3) (s 4) (s 5) (s 6) (s 7)) (k0_pay11 k) (constant S1024x256 .f32 0x00000000#32))
    (k0_pay15 v M (k0_pay9 q) (k0_pay10 (s 0) (s 1) (s 2) (s 3) (s 4) (s 5) (s 6) (s 7)) (k0_pay11 k) (constant S1024x256 .f32 0x00000000#32))
    (k0_pay16 v M (k0_pay9 q) (k0_pay10 (s 0) (s 1) (s 2) (s 3) (s 4) (s 5) (s 6) (s 7)) (k0_pay11 k) (constant S1024x256 .f32 0x00000000#32))
    (k0_pay17 v M (k0_pay9 q) (k0_pay10 (s 0) (s 1) (s 2) (s 3) (s 4) (s 5) (s 6) (s 7)) (k0_pay11 k) (constant S1024x256 .f32 0x00000000#32))
    (k0_pay18 v M (k0_pay9 q) (k0_pay10 (s 0) (s 1) (s 2) (s 3) (s 4) (s 5) (s 6) (s 7)) (k0_pay11 k) (constant S1024x256 .f32 0x00000000#32))
    (k0_pay19 v M (k0_pay9 q) (k0_pay10 (s 0) (s 1) (s 2) (s 3) (s 4) (s 5) (s 6) (s 7)) (k0_pay11 k) (constant S1024x256 .f32 0x00000000#32))
    (k0_pay20 v M (k0_pay9 q) (k0_pay10 (s 0) (s 1) (s 2) (s 3) (s 4) (s 5) (s 6) (s 7)) (k0_pay11 k) (constant S1024x256 .f32 0x00000000#32))
    (k0_pay29 k v M (k0_pay21 q) (k0_pay22 (s 8)) (k0_pay23 (s 9)) (k0_pay24 (s 10)) (k0_pay25 (s 11)) (k0_pay26 (s 12)) (k0_pay27 (s 13)) (s 14) (s 15))
    (k0_pay30 k v M (k0_pay21 q) (k0_pay22 (s 8)) (k0_pay23 (s 9)) (k0_pay24 (s 10)) (k0_pay25 (s 11)) (k0_pay26 (s 12)) (k0_pay27 (s 13)) (s 14) (s 15))
    (k0_pay31 k v M (k0_pay21 q) (k0_pay22 (s 8)) (k0_pay23 (s 9)) (k0_pay24 (s 10)) (k0_pay25 (s 11)) (k0_pay26 (s 12)) (k0_pay27 (s 13)) (s 14) (s 15))
    (k0_pay32 k v M (k0_pay21 q) (k0_pay22 (s 8)) (k0_pay23 (s 9)) (k0_pay24 (s 10)) (k0_pay25 (s 11)) (k0_pay26 (s 12)) (k0_pay27 (s 13)) (s 14) (s 15))
    (k0_pay33 k v M (k0_pay21 q) (k0_pay22 (s 8)) (k0_pay23 (s 9)) (k0_pay24 (s 10)) (k0_pay25 (s 11)) (k0_pay26 (s 12)) (k0_pay27 (s 13)) (s 14) (s 15))
    (k0_pay34 k v M (k0_pay21 q) (k0_pay22 (s 8)) (k0_pay23 (s 9)) (k0_pay24 (s 10)) (k0_pay25 (s 11)) (k0_pay26 (s 12)) (k0_pay27 (s 13)) (s 14) (s 15))
    (k0_pay35 k v M (k0_pay21 q) (k0_pay22 (s 8)) (k0_pay23 (s 9)) (k0_pay24 (s 10)) (k0_pay25 (s 11)) (k0_pay26 (s 12)) (k0_pay27 (s 13)) (s 14) (s 15))
    (k0_pay36 k v M (k0_pay21 q) (k0_pay22 (s 8)) (k0_pay23 (s 9)) (k0_pay24 (s 10)) (k0_pay25 (s 11)) (k0_pay26 (s 12)) (k0_pay27 (s 13)) (s 14) (s 15))
    (k0_pay43 k v M (k0_pay37 q) (k0_pay38 (s 16)) (k0_pay39 (s 17)) (k0_pay40 (s 18)) (k0_pay41 (s 19)) (s 20) (s 21) (s 22) (s 23))
    (k0_pay44 k v M (k0_pay37 q) (k0_pay38 (s 16)) (k0_pay39 (s 17)) (k0_pay40 (s 18)) (k0_pay41 (s 19)) (s 20) (s 21) (s 22) (s 23))
    (k0_pay45 k v M (k0_pay37 q) (k0_pay38 (s 16)) (k0_pay39 (s 17)) (k0_pay40 (s 18)) (k0_pay41 (s 19)) (s 20) (s 21) (s 22) (s 23))
    (k0_pay46 k v M (k0_pay37 q) (k0_pay38 (s 16)) (k0_pay39 (s 17)) (k0_pay40 (s 18)) (k0_pay41 (s 19)) (s 20) (s 21) (s 22) (s 23))
    (k0_pay47 k v M (k0_pay37 q) (k0_pay38 (s 16)) (k0_pay39 (s 17)) (k0_pay40 (s 18)) (k0_pay41 (s 19)) (s 20) (s 21) (s 22) (s 23))
    (k0_pay48 k v M (k0_pay37 q) (k0_pay38 (s 16)) (k0_pay39 (s 17)) (k0_pay40 (s 18)) (k0_pay41 (s 19)) (s 20) (s 21) (s 22) (s 23))
    (k0_pay49 k v M (k0_pay37 q) (k0_pay38 (s 16)) (k0_pay39 (s 17)) (k0_pay40 (s 18)) (k0_pay41 (s 19)) (s 20) (s 21) (s 22) (s 23))
    (k0_pay50 k v M (k0_pay37 q) (k0_pay38 (s 16)) (k0_pay39 (s 17)) (k0_pay40 (s 18)) (k0_pay41 (s 19)) (s 20) (s 21) (s 22) (s 23))
    (head3 q k v s M))

/-- The printed block is the four key heads' groups side by side. -/
theorem printed_eq (q : FVec Ideal S128x2048 .bf16) (k v : FVec Ideal S256x256 .bf16) (s : Fin 32 → EReal) (M : IVec S1024x256 1) :
    printed q k v s M = blockOut (head q k v s M) := rfl

end Cert.KernelIdeal.Attn

end
-- ==== Proof.Blocks.lean ====
module

public import proofs.«01_k».proof.Proof.Gen.KernelIdeal.Value
public import proofs.«01_k».proof.Proof.RopePay
public import proofs.«01_k».proof.Proof.Heads
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- A whole staging buffer's load: what the buffer holds. -/
abbrev loaded {sp : Space} {S : Shape} {e : EltTy} (mr : Memref sig .tc sp S e) (h : mr.IsWhole) (X : S.Idx → Elt Ideal e)
    (off : Fin S.rank → ℕ) (inb : ∀ a, off a + S.size a ≤ S.size a) : S.Idx → Elt Ideal e :=
  View.readAt (Elt Ideal) mr.view (Rect.unit off S.size inb).toLoadRect (h.unread X)

theorem loaded_eq {sp : Space} {S : Shape} {e : EltTy} (mr : Memref sig .tc sp S e) (h : mr.IsWhole) (X : S.Idx → Elt Ideal e)
    (off : Fin S.rank → ℕ) (inb : ∀ a, off a + S.size a ≤ S.size a) (h0 : ∀ a, off a = 0) :
    loaded mr h X off inb = X := by
  unfold loaded
  rw [View.readAt_eq_ld, h.read_unread]
  exact View.ld_unit_lit inb X h0

/-- The rotated keys a grid point writes. -/
theorem outs_krot (c : Dev nD) (t : Fin cfg0.N) :
    (outsAt0 m c t).2 = k0_pay2 (F := Ideal) (iblk m c 2 t) (iblk m c 5 t) (iblk m c 6 t) (iblk m c 7 t) := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ _ _)]
  unfold kernelRun0_A
  dsimp only
  refine (View.canon_cons_unit_lit _ _ _ (by decide)).trans ?_
  refine Eq.trans (b := k0_pay2 (F := Ideal)
    (loaded (ms0_2 t) (hs0_2 t) (iblk m c 2 t) ![0, 0] inb_S128x256_S128x256_0_0)
    (loaded (ms0_5 t) (hs0_5 t) (iblk m c 5 t) ![0, 0] inb_S128x128_S128x128_0_0)
    (loaded (ms0_6 t) (hs0_6 t) (iblk m c 6 t) ![0, 0] inb_S128x128_S128x128_0_0)
    (loaded (ms0_7 t) (hs0_7 t) (iblk m c 7 t) ![0, 0] inb_S128x128_S128x128_0_0)) rfl ?_
  rw [loaded_eq _ _ _ _ _ (by decide), loaded_eq _ _ _ _ _ (by decide), loaded_eq _ _ _ _ _ (by decide),
    loaded_eq _ _ _ _ _ (by decide)]

theorem inb_sink (n : Fin 32) (a) : (![n.val] : Fin 1 → ℕ) a + S1.size a ≤ S32.size a := by
  fin_cases a
  show n.val + 1 ≤ 32
  omega

/-- One sink, as the body loads it. -/
abbrev sinkRead (t : Fin cfg0.N) (X : Vec Ideal S32 .f32) (n : Fin 32) : EReal :=
  View.readAt (Elt Ideal) (ms0_11 t).view (Rect.unit (s := S32) ![n.val] S1.size (inb_sink n)).toLoadRect ((hs0_11 t).unread X)
    (Shape.Idx.first (s := S1) (by decide))

theorem sinkRead_eq (t : Fin cfg0.N) (X : Vec Ideal S32 .f32) (n : Fin 32) : sinkRead t X n = X (ix1 n) := by
  unfold sinkRead
  rw [View.readAt_eq_ld, (hs0_11 t).read_unread]
  refine View.ld_unit_apply_of X _ _ _ _ _ fun a => ?_
  fin_cases a
  rfl

/-- The mask of a grid point, from its second coordinate. -/
abbrev maskAt (i : BitVec 32) : IVec S1024x256 1 :=
  k0_pay8 i (Scalar.select (Scalar.cmpi .eq 128#32 0#32) 1#32 128#32) k0_pay5 k0_pay6 k0_pay7

/-- The stored block's leaves: the scaled queries, the keys, the values and the mask of the run. -/
theorem run_q (c : Dev nD) (t : Fin cfg0.N) :
    kernelRun0_A.sl.v19 (F := Ideal)
      c (ms0_0 t) (hs0_0 t) (ms0_5 t) (hs0_5 t) (ms0_6 t) (hs0_6 t) (ms0_7 t) (hs0_7 t)
      (iblk m c 0 t) (iblk m c 5 t) (iblk m c 6 t) (iblk m c 7 t)
      = k0_pay1 (F := Ideal) (iblk m c 0 t) (iblk m c 5 t) (iblk m c 6 t) (iblk m c 7 t) := by
  refine Eq.trans (b := k0_pay1 (F := Ideal) (loaded (ms0_0 t) (hs0_0 t) (iblk m c 0 t) ![0, 0] inb_S128x2048_S128x2048_0_0)
      (loaded (ms0_5 t) (hs0_5 t) (iblk m c 5 t) ![0, 0] inb_S128x128_S128x128_0_0)
      (loaded (ms0_6 t) (hs0_6 t) (iblk m c 6 t) ![0, 0] inb_S128x128_S128x128_0_0)
      (loaded (ms0_7 t) (hs0_7 t) (iblk m c 7 t) ![0, 0] inb_S128x128_S128x128_0_0)) rfl ?_
  rw [loaded_eq _ _ _ _ _ (by decide), loaded_eq _ _ _ _ _ (by decide), loaded_eq _ _ _ _ _ (by decide),
    loaded_eq _ _ _ _ _ (by decide)]

theorem run_v (c : Dev nD) (t : Fin cfg0.N) :
    kernelRun0_A.sl.v60 (F := Ideal)
      c (ms0_3 t) (hs0_3 t) (ms0_4 t) (hs0_4 t)
      (iblk m c 3 t) (iblk m c 4 t)
      = k0_pay4 (F := Ideal) (iblk m c 3 t) (iblk m c 4 t) := by
  refine Eq.trans (b := k0_pay4 (F := Ideal) (loaded (ms0_3 t) (hs0_3 t) (iblk m c 3 t) ![0, 0] inb_S128x256_S128x256_0_0)
      (loaded (ms0_4 t) (hs0_4 t) (iblk m c 4 t) ![0, 0] inb_S128x256_S128x256_0_0)) rfl ?_
  rw [loaded_eq _ _ _ _ _ (by decide), loaded_eq _ _ _ _ _ (by decide)]

theorem run_k (c : Dev nD) (t : Fin cfg0.N) :
    kernelRun0_A.sl.v56 (F := Ideal)
      c (ms0_1 t) (hs0_1 t) (ms0_2 t) (hs0_2 t) (ms0_5 t) (hs0_5 t) (ms0_6 t) (hs0_6 t) (ms0_7 t) (hs0_7 t) (ms0_8 t) (hs0_8 t) (ms0_9 t) (hs0_9 t) (ms0_10 t) (hs0_10 t)
      (iblk m c 1 t) (iblk m c 2 t) (iblk m c 5 t) (iblk m c 6 t) (iblk m c 7 t) (iblk m c 8 t) (iblk m c 9 t) (iblk m c 10 t)
      = k0_pay3 (F := Ideal) (k0_pay2 (F := Ideal) (iblk m c 2 t) (iblk m c 5 t) (iblk m c 6 t) (iblk m c 7 t))
          (iblk m c 1 t) (iblk m c 8 t) (iblk m c 9 t) (iblk m c 10 t) := by
  refine Eq.trans (b := k0_pay3 (F := Ideal)
      (k0_pay2 (F := Ideal) (loaded (ms0_2 t) (hs0_2 t) (iblk m c 2 t) ![0, 0] inb_S128x256_S128x256_0_0)
        (loaded (ms0_5 t) (hs0_5 t) (iblk m c 5 t) ![0, 0] inb_S128x128_S128x128_0_0)
        (loaded (ms0_6 t) (hs0_6 t) (iblk m c 6 t) ![0, 0] inb_S128x128_S128x128_0_0)
        (loaded (ms0_7 t) (hs0_7 t) (iblk m c 7 t) ![0, 0] inb_S128x128_S128x128_0_0))
      (loaded (ms0_1 t) (hs0_1 t) (iblk m c 1 t) ![0, 0] inb_S128x256_S128x256_0_0)
      (loaded (ms0_8 t) (hs0_8 t) (iblk m c 8 t) ![0, 0] inb_S128x128_S128x128_0_0)
      (loaded (ms0_9 t) (hs0_9 t) (iblk m c 9 t) ![0, 0] inb_S128x128_S128x128_0_0)
      (loaded (ms0_10 t) (hs0_10 t) (iblk m c 10 t) ![0, 0] inb_S128x128_S128x128_0_0)) rfl ?_
  rw [loaded_eq _ _ _ _ _ (by decide), loaded_eq _ _ _ _ _ (by decide), loaded_eq _ _ _ _ _ (by decide),
    loaded_eq _ _ _ _ _ (by decide), loaded_eq _ _ _ _ _ (by decide), loaded_eq _ _ _ _ _ (by decide),
    loaded_eq _ _ _ _ _ (by decide), loaded_eq _ _ _ _ _ (by decide)]

/-- The first key head's stacked queries, keys, sinks and zeros, and the mask. -/
theorem run_q0 (c : Dev nD) (t : Fin cfg0.N) :
    kernelRun0_A.sl.v101 (F := Ideal)
        c (ms0_0 t) (hs0_0 t) (ms0_5 t) (hs0_5 t) (ms0_6 t) (hs0_6 t) (ms0_7 t) (hs0_7 t)
        (iblk m c 0 t) (iblk m c 5 t) (iblk m c 6 t) (iblk m c 7 t)
      = k0_pay9 (F := Ideal) (kernelRun0_A.sl.v19 (F := Ideal)
        c (ms0_0 t) (hs0_0 t) (ms0_5 t) (hs0_5 t) (ms0_6 t) (hs0_6 t) (ms0_7 t) (hs0_7 t)
        (iblk m c 0 t) (iblk m c 5 t) (iblk m c 6 t) (iblk m c 7 t)) := rfl

theorem run_k0 (c : Dev nD) (t : Fin cfg0.N) :
    kernelRun0_A.sl.v119 (F := Ideal)
        c (ms0_1 t) (hs0_1 t) (ms0_2 t) (hs0_2 t) (ms0_5 t) (hs0_5 t) (ms0_6 t) (hs0_6 t) (ms0_7 t) (hs0_7 t) (ms0_8 t) (hs0_8 t) (ms0_9 t) (hs0_9 t) (ms0_10 t) (hs0_10 t)
        (iblk m c 1 t) (iblk m c 2 t) (iblk m c 5 t) (iblk m c 6 t) (iblk m c 7 t) (iblk m c 8 t) (iblk m c 9 t) (iblk m c 10 t)
      = k0_pay11 (F := Ideal) (kernelRun0_A.sl.v56 (F := Ideal)
        c (ms0_1 t) (hs0_1 t) (ms0_2 t) (hs0_2 t) (ms0_5 t) (hs0_5 t) (ms0_6 t) (hs0_6 t) (ms0_7 t) (hs0_7 t) (ms0_8 t) (hs0_8 t) (ms0_9 t) (hs0_9 t) (ms0_10 t) (hs0_10 t)
        (iblk m c 1 t) (iblk m c 2 t) (iblk m c 5 t) (iblk m c 6 t) (iblk m c 7 t) (iblk m c 8 t) (iblk m c 9 t) (iblk m c 10 t)) := rfl

theorem run_mask (t : Fin cfg0.N) :
    kernelRun0_A.sl.v92 (grid0.coords t) = maskAt (BitVec.ofNat 32 (grid0.coords t 1).val) := rfl

theorem run_s0 (c : Dev nD) (t : Fin cfg0.N) (s : Vec Ideal S32 .f32) :
    kernelRun0_A.sl.v118 (F := Ideal) c (ms0_11 t) (hs0_11 t) s
      = k0_pay10 (F := Ideal) (s (ix1 0)) (s (ix1 1)) (s (ix1 2)) (s (ix1 3)) (s (ix1 4)) (s (ix1 5)) (s (ix1 6)) (s (ix1 7)) := by
  refine Eq.trans (b := k0_pay10 (F := Ideal) (sinkRead t s 0) (sinkRead t s 1) (sinkRead t s 2) (sinkRead t s 3)
    (sinkRead t s 4) (sinkRead t s 5) (sinkRead t s 6) (sinkRead t s 7)) rfl ?_
  simp only [sinkRead_eq]

/-- The other sinks, as the run loads them. -/
theorem run_s (c : Dev nD) (t : Fin cfg0.N) (s : Vec Ideal S32 .f32) :
    kernelRun0_A.sl.r_8 (F := Ideal) c (ms0_11 t) (hs0_11 t) s = s (ix1 8)
    ∧ kernelRun0_A.sl.r_9 (F := Ideal) c (ms0_11 t) (hs0_11 t) s = s (ix1 9)
    ∧ kernelRun0_A.sl.r_10 (F := Ideal) c (ms0_11 t) (hs0_11 t) s = s (ix1 10)
    ∧ kernelRun0_A.sl.r_11 (F := Ideal) c (ms0_11 t) (hs0_11 t) s = s (ix1 11)
    ∧ kernelRun0_A.sl.r_12 (F := Ideal) c (ms0_11 t) (hs0_11 t) s = s (ix1 12)
    ∧ kernelRun0_A.sl.r_13 (F := Ideal) c (ms0_11 t) (hs0_11 t) s = s (ix1 13)
    ∧ kernelRun0_A.sl.r_14 (F := Ideal) c (ms0_11 t) (hs0_11 t) s = s (ix1 14)
    ∧ kernelRun0_A.sl.r_30 (F := Ideal) c (ms0_11 t) (hs0_11 t) s = s (ix1 15)
    ∧ kernelRun0_A.sl.r_31 (F := Ideal) c (ms0_11 t) (hs0_11 t) s = s (ix1 16)
    ∧ kernelRun0_A.sl.r_32 (F := Ideal) c (ms0_11 t) (hs0_11 t) s = s (ix1 17)
    ∧ kernelRun0_A.sl.r_33 (F := Ideal) c (ms0_11 t) (hs0_11 t) s = s (ix1 18)
    ∧ kernelRun0_A.sl.r_34 (F := Ideal) c (ms0_11 t) (hs0_11 t) s = s (ix1 19)
    ∧ kernelRun0_A.sl.r_48 (F := Ideal) c (ms0_11 t) (hs0_11 t) s = s (ix1 20)
    ∧ kernelRun0_A.sl.r_49 (F := Ideal) c (ms0_11 t) (hs0_11 t) s = s (ix1 21)
    ∧ kernelRun0_A.sl.r_50 (F := Ideal) c (ms0_11 t) (hs0_11 t) s = s (ix1 22)
    ∧ kernelRun0_A.sl.r_51 (F := Ideal) c (ms0_11 t) (hs0_11 t) s = s (ix1 23)
    ∧ kernelRun0_A.sl.r_52 (F := Ideal) c (ms0_11 t) (hs0_11 t) s = s (ix1 24)
    ∧ kernelRun0_A.sl.r_53 (F := Ideal) c (ms0_11 t) (hs0_11 t) s = s (ix1 25)
    ∧ kernelRun0_A.sl.r_65 (F := Ideal) c (ms0_11 t) (hs0_11 t) s = s (ix1 26)
    ∧ kernelRun0_A.sl.r_66 (F := Ideal) c (ms0_11 t) (hs0_11 t) s = s (ix1 27)
    ∧ kernelRun0_A.sl.r_67 (F := Ideal) c (ms0_11 t) (hs0_11 t) s = s (ix1 28)
    ∧ kernelRun0_A.sl.r_68 (F := Ideal) c (ms0_11 t) (hs0_11 t) s = s (ix1 29)
    ∧ kernelRun0_A.sl.r_69 (F := Ideal) c (ms0_11 t) (hs0_11 t) s = s (ix1 30)
    ∧ kernelRun0_A.sl.r_70 (F := Ideal) c (ms0_11 t) (hs0_11 t) s = s (ix1 31) :=
  ⟨sinkRead_eq t s 8, sinkRead_eq t s 9, sinkRead_eq t s 10, sinkRead_eq t s 11, sinkRead_eq t s 12, sinkRead_eq t s 13, sinkRead_eq t s 14, sinkRead_eq t s 15, sinkRead_eq t s 16, sinkRead_eq t s 17, sinkRead_eq t s 18, sinkRead_eq t s 19, sinkRead_eq t s 20, sinkRead_eq t s 21, sinkRead_eq t s 22, sinkRead_eq t s 23, sinkRead_eq t s 24, sinkRead_eq t s 25, sinkRead_eq t s 26, sinkRead_eq t s 27, sinkRead_eq t s 28, sinkRead_eq t s 29, sinkRead_eq t s 30, sinkRead_eq t s 31⟩

/-- The attention block a grid point writes. -/
theorem outs_attn (c : Dev nD) (t : Fin cfg0.N) :
    (outsAt0 m c t).1 = blockOut (head
      (k0_pay1 (F := Ideal) (iblk m c 0 t) (iblk m c 5 t) (iblk m c 6 t) (iblk m c 7 t))
      (k0_pay3 (F := Ideal) (k0_pay2 (F := Ideal) (iblk m c 2 t) (iblk m c 5 t) (iblk m c 6 t) (iblk m c 7 t))
        (iblk m c 1 t) (iblk m c 8 t) (iblk m c 9 t) (iblk m c 10 t))
      (k0_pay4 (F := Ideal) (iblk m c 3 t) (iblk m c 4 t))
      (fun n => (iblk m c 11 t : Vec Ideal S32 .f32) (ix1 n)) (maskAt (BitVec.ofNat 32 (grid0.coords t 1).val))) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ _ _)]
  unfold kernelRun0_A
  dsimp only
  refine (View.canon_cons_unit_lit _ _ _ (by decide)).trans ?_
  delta kernelRun0_A.sl.r_71 kernelRun0_A.sl.v309 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.v280 kernelRun0_A.sl.v288 kernelRun0_A.sl.v293 kernelRun0_A.sl.v298 kernelRun0_A.sl.v300
  rw [run_q0, run_k0, run_q, run_k, run_v, run_mask, run_s0]
  obtain ⟨h8, h9, h10, h11, h12, h13, h14, h15, h16, h17, h18, h19, h20, h21, h22, h23, h24, h25, h26, h27, h28, h29, h30, h31⟩ := run_s c t (iblk m c 11 t)
  rw [h8, h9, h10, h11, h12, h13, h14, h15, h16, h17, h18, h19, h20, h21, h22, h23, h24, h25, h26, h27, h28, h29, h30, h31]
  generalize k0_pay1 (F := Ideal) (iblk m c 0 t) (iblk m c 5 t) (iblk m c 6 t) (iblk m c 7 t) = q
  generalize k0_pay3 (F := Ideal) (k0_pay2 (F := Ideal) (iblk m c 2 t) (iblk m c 5 t) (iblk m c 6 t) (iblk m c 7 t))
        (iblk m c 1 t) (iblk m c 8 t) (iblk m c 9 t) (iblk m c 10 t) = k
  generalize k0_pay4 (F := Ideal) (iblk m c 3 t) (iblk m c 4 t) = v
  generalize maskAt (BitVec.ofNat 32 (grid0.coords t 1).val) = M
  generalize (iblk m c 11 t) = s
  exact printed_eq q k v (fun n => (s : Vec Ideal S32 .f32) (ix1 n)) M

end Cert.KernelIdeal.Attn

end
-- ==== Proof.Mask.lean ====
module

public import proofs.«01_k».proof.Proof.Blocks

@[expose] public section

set_option maxRecDepth 16384

noncomputable section

namespace Cert.KernelIdeal.Attn

open Cert.KernelIdeal Cert.KernelIdeal.Gen Idealize.ShloMosaic Idealize.ShloMosaic.TcCoe Idealize.SL.Sem

/-- Row `r` of a block sees column `x` of the block before and its own: at most 128 positions back, none ahead, and of
    the block before only where there is one. -/
abbrev sees (i r x : ℕ) : Prop := r ≤ x ∧ x ≤ r + 128 ∧ (128 ≤ x ∨ 0 < i)

/-- A stacked row's word modulo 128. -/
abbrev rowMod (w : BitVec 32) : BitVec 32 :=
  IntOp.remsi ArithUnit.vector w (Scalar.select (Scalar.cmpi CmpIPredicate.eq 128#32 0#32) 1#32 128#32)

theorem rowMod_eq : ∀ (g : Fin 8) (r : Fin 128), rowMod (BitVec.ofNat 32 (128 * g.val + r.val)) = BitVec.ofNat 32 r.val := by
  decide +kernel

/-- A row's word, made nonnegative where its remainder is not. -/
abbrev rowPos (w : BitVec 32) : BitVec 32 :=
  Scalar.select
    (IntOp.andi
      (IntOp.xori (IntOp.cmpi CmpIPredicate.slt w 0#32)
        (Scalar.cmpi CmpIPredicate.slt (Scalar.select (Scalar.cmpi CmpIPredicate.eq 128#32 0#32) 1#32 128#32) 0#32))
      (IntOp.cmpi CmpIPredicate.ne w 0#32))
    (IntOp.addi w (Scalar.select (Scalar.cmpi CmpIPredicate.eq 128#32 0#32) 1#32 128#32)) w

theorem rowPos_eq : ∀ r : Fin 128, rowPos (BitVec.ofNat 32 r.val) = BitVec.ofNat 32 r.val := by
  decide +kernel

theorem gap_sees : ∀ (r : Fin 128) (x : Fin 256),
    IntOp.andi
      (IntOp.cmpi CmpIPredicate.sge
        (IntOp.subi (IntOp.addi (128#32) (BitVec.ofNat 32 r.val)) (BitVec.ofNat 32 x.val)) 0#32)
      (IntOp.cmpi CmpIPredicate.sle
        (IntOp.subi (IntOp.addi (128#32) (BitVec.ofNat 32 r.val)) (BitVec.ofNat 32 x.val)) 128#32)
    = BitVec.ofBool (decide (r.val ≤ x.val ∧ x.val ≤ r.val + 128)) := by
  decide +kernel

theorem far_sees : ∀ (i : Fin 16) (x : Fin 256),
    IntOp.ori (IntOp.cmpi CmpIPredicate.sge (BitVec.ofNat 32 x.val) 128#32)
        (Scalar.cmpi CmpIPredicate.sgt (BitVec.ofNat 32 i.val) 0#32)
    = BitVec.ofBool (decide (128 ≤ x.val ∨ 0 < i.val)) := by
  decide +kernel

theorem andi_ofBool : ∀ a b : Bool, IntOp.andi (BitVec.ofBool a) (BitVec.ofBool b) = BitVec.ofBool (a && b) := by
  decide

theorem maskAt_at (i : Fin 16) (g : Fin 8) (r : Fin 128) (x : Fin 256) :
    maskAt (BitVec.ofNat 32 i.val) (ix2 (stack g r) x) = BitVec.ofBool (decide (sees i.val r.val x.val)) := by
  unfold maskAt
  pointwise [k0_pay8, k0_pay5, k0_pay6, k0_pay7]
  have e := rowMod_eq g r
  have e' := rowPos_eq r
  unfold rowMod at e
  unfold rowPos at e'
  rw [e, e', gap_sees, far_sees, andi_ofBool]
  refine congrArg BitVec.ofBool ?_
  by_cases h1 : r.val ≤ x.val <;> by_cases h2 : x.val ≤ r.val + 128 <;> by_cases h3 : 128 ≤ x.val ∨ 0 < i.val <;>
    simp [sees, h1, h2, h3]

end Cert.KernelIdeal.Attn

end
-- ==== Proof.Tables.lean ====
module

public import proofs.«01_k».proof.Proof.Gen.KernelIdeal.Value
public import Idealize.ShloMosaic.Lib.Pointwise
public import Idealize.ShloMosaic.Lib.Pipeline.ValueKit
public import Idealize.ShloMosaic.Lib.StableHlo.RunRead

@[expose] public section

set_option maxRecDepth 16384

noncomputable section

namespace Cert.KernelIdeal.Attn

open Cert.KernelIdeal Cert.KernelIdeal.Gen Idealize.ShloMosaic.StableHlo Idealize.ShloMosaic Idealize.ShloMosaic.TcCoe Idealize.SL.Sem

variable (m : (ℓ : Loc nD τ sig) → Buf (Elt Ideal) ℓ)

/-- The angles: position times inverse frequency. -/
def angle : FVec Ideal S2048x8 .f32 :=
  mulf (broadcastInDim S2048x8 ![0, 1] bcast_S2048x1_S2048x8_0_1 (broadcastInDim S2048x1 ![0] bcast_S2048_S2048x1_0
      (sitofp .f32 (iotaInDim S2048 32 0) : FVec Ideal S2048 .f32)))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- The three tables' 64 columns: cosines, sines on the upper half of the rotated columns, negated sines on the lower. -/
def colC : FVec Ideal S2048x64 .f32 :=
  concatenate S2048x64 1 [⟨S2048x8, Host.cos angle⟩, ⟨S2048x8, Host.cos angle⟩,
    ⟨S2048x48, broadcastInDim S2048x48 ![] bcast_S_S2048x48 (constant S_ .f32 0x3F800000#32)⟩]
    concatenates_S2048x8_S2048x8_S2048x48_S2048x64_d1

def colS : FVec Ideal S2048x64 .f32 :=
  concatenate S2048x64 1 [⟨S2048x8, broadcastInDim S2048x8 ![] bcast_S_S2048x8 (constant S_ .f32 0x00000000#32)⟩,
    ⟨S2048x8, Host.sin angle⟩,
    ⟨S2048x48, broadcastInDim S2048x48 ![] bcast_S_S2048x48 (constant S_ .f32 0x00000000#32)⟩]
    concatenates_S2048x8_S2048x8_S2048x48_S2048x64_d1

def colN : FVec Ideal S2048x64 .f32 :=
  concatenate S2048x64 1 [⟨S2048x8, Host.negf (Host.sin angle)⟩,
    ⟨S2048x8, broadcastInDim S2048x8 ![] bcast_S_S2048x8 (constant S_ .f32 0x00000000#32)⟩,
    ⟨S2048x48, broadcastInDim S2048x48 ![] bcast_S_S2048x48 (constant S_ .f32 0x00000000#32)⟩]
    concatenates_S2048x8_S2048x8_S2048x48_S2048x64_d1

/-- A table: its 64 columns twice. -/
def twice (x : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128

theorem V_c (c : Dev nD) : (V m c main_v24 : FVec Ideal S2048x128 .f32) = twice colC := by
  show StableHlo.after hostOps0 (fun b => m (c, b)) (Proc.devRef .tc _) = _
  after_reads_simp
  rfl

theorem V_s1 (c : Dev nD) : (V m c main_v27 : FVec Ideal S2048x128 .f32) = twice colS := by
  show StableHlo.after hostOps0 (fun b => m (c, b)) (Proc.devRef .tc _) = _
  after_reads_simp
  rfl

theorem V_s2 (c : Dev nD) : (V m c main_v30 : FVec Ideal S2048x128 .f32) = twice colN := by
  show StableHlo.after hostOps0 (fun b => m (c, b)) (Proc.devRef .tc _) = _
  after_reads_simp
  rfl

theorem twice_at (x : FVec Ideal S2048x64 .f32) (p : Fin 2048) (l : Fin 128) :
    twice x (ix2 p l) = x (ix2 p ⟨l.val % 64, by omega⟩) := by
  pointwise [twice]

theorem one_word : Ideal.ofBits .f32 0x3F800000#32 = (1 : EReal) := by
  simp [Ideal.ofBits, Ideal.ieee, -EReal.coe_mul]
  norm_num

theorem zero_word : Ideal.ofBits .f32 0x00000000#32 = (0 : EReal) := by
  simp [Ideal.ofBits, Ideal.ieee]

/-- The cosine and the sine of column `l`'s angle at position `p`. -/
def cosA (p : Fin 2048) (l : Fin 8) : EReal := Ideal.cos (angle (ix2 p l))
def sinA (p : Fin 2048) (l : Fin 8) : EReal := Ideal.sin (angle (ix2 p l))

theorem cosA_of (p : Fin 2048) (a b : Fin 8) (h : a.val = b.val) : Ideal.cos (angle (ix2 p a)) = cosA p b := by
  obtain rfl : a = b := Fin.ext h
  rfl

theorem sinA_of (p : Fin 2048) (a b : Fin 8) (h : a.val = b.val) : Ideal.sin (angle (ix2 p a)) = sinA p b := by
  obtain rfl : a = b := Fin.ext h
  rfl

set_option backward.isDefEq.respectTransparency false in
theorem colC_at (p : Fin 2048) (l : Fin 64) :
    colC (ix2 p l) = if l.val < 16 then cosA p ⟨l.val % 8, by omega⟩ else 1 := by
  pointwise [colC]
  by_cases h8 : l.val < 8
  · refine Eq.trans (dif_pos h8) (Eq.trans ?_ (if_pos (by omega)).symm)
    exact cosA_of _ _ _ (show l.val = l.val % 8 by omega)
  · refine Eq.trans (dif_neg h8) ?_
    by_cases h16 : l.val - 8 < 8
    · refine Eq.trans (dif_pos h16) (Eq.trans ?_ (if_pos (by omega)).symm)
      exact cosA_of _ _ _ (show l.val - 8 = l.val % 8 by omega)
    · refine Eq.trans (dif_neg h16) (Eq.trans ?_ (if_neg (by omega)).symm)
      rfl

set_option backward.isDefEq.respectTransparency false in
theorem colS_at (p : Fin 2048) (l : Fin 64) :
    colS (ix2 p l) = if 8 ≤ l.val ∧ l.val < 16 then sinA p ⟨l.val % 8, by omega⟩ else 0 := by
  pointwise [colS]
  by_cases h8 : l.val < 8
  · refine Eq.trans (dif_pos h8) (Eq.trans ?_ (if_neg (by omega)).symm)
    rfl
  · refine Eq.trans (dif_neg h8) ?_
    by_cases h16 : l.val - 8 < 8
    · refine Eq.trans (dif_pos h16) (Eq.trans ?_ (if_pos (by omega)).symm)
      exact sinA_of _ _ _ (show l.val - 8 = l.val % 8 by omega)
    · refine Eq.trans (dif_neg h16) (Eq.trans ?_ (if_neg (by omega)).symm)
      rfl

set_option backward.isDefEq.respectTransparency false in
theorem colN_at (p : Fin 2048) (l : Fin 64) :
    colN (ix2 p l) = if l.val < 8 then -(sinA p ⟨l.val % 8, by omega⟩) else 0 := by
  pointwise [colN]
  by_cases h8 : l.val < 8
  · refine Eq.trans (dif_pos h8) (Eq.trans ?_ (if_pos h8).symm)
    exact congrArg Neg.neg (sinA_of _ _ _ (show l.val = l.val % 8 by omega))
  · refine Eq.trans (dif_neg h8) (Eq.trans ?_ (if_neg h8).symm)
    split <;> rfl

end Cert.KernelIdeal.Attn

end
-- ==== Proof.Windows.lean ====
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The block before block `t` of its sequence, or `t` itself where `t` is the sequence's first. -/
abbrev before (t : ℕ) : ℕ := if t % 16 = 0 then t else t - 1

theorem idx_rows : ∀ t : Fin cfg0.N, win0_0.index t = ![t.val, 0] ∧ win0_1.index t = ![before t.val, 0]
    ∧ win0_2.index t = ![t.val, 0] ∧ win0_3.index t = ![before t.val, 1] ∧ win0_4.index t = ![t.val, 1]
    ∧ win0_12.index t = ![t.val, 0] ∧ win0_13.index t = ![t.val, 0] :=
  (by decide +kernel : ∀ t : Fin grid0.N, _)

theorem idx_tabs : ∀ t : Fin cfg0.N, win0_5.index t = ![t.val % 16, 0] ∧ win0_6.index t = ![t.val % 16, 0]
    ∧ win0_7.index t = ![t.val % 16, 0] ∧ win0_8.index t = ![before t.val % 16, 0]
    ∧ win0_9.index t = ![before t.val % 16, 0] ∧ win0_10.index t = ![before t.val % 16, 0]
    ∧ win0_11.index t = ![0] ∧ (grid0.coords t 1).val = t.val % 16 :=
  (by decide +kernel : ∀ t : Fin grid0.N, _)

theorem points_lt (t : Fin cfg0.N) : t.val < 64 := t.isLt

theorem before_lt (t : Fin cfg0.N) : before t.val < 64 := by
  have := points_lt t
  unfold before
  split <;> omega

theorem blk_q (c : Dev nD) (t : Fin cfg0.N) (r : Fin 128) (w : Fin 2048) :
    iblk m c 0 t (ix2 r w) = m ((c : Thread nD τ).loc main_arg0)
      (ix2 (⟨128 * t.val + r.val, by have := points_lt t; omega⟩ : Fin 8192) w) := by
  blk_point [iblk, V, idx_rows t]

theorem blk_k (c : Dev nD) (t : Fin cfg0.N) (r : Fin 128) (w : Fin 256) :
    iblk m c 2 t (ix2 r w) = m ((c : Thread nD τ).loc main_arg1)
      (ix2 (⟨128 * t.val + r.val, by have := points_lt t; omega⟩ : Fin 8192) (⟨w.val, by omega⟩ : Fin 512)) := by
  blk_point [iblk, V, idx_rows t]

theorem blk_v (c : Dev nD) (t : Fin cfg0.N) (r : Fin 128) (w : Fin 256) :
    iblk m c 4 t (ix2 r w) = m ((c : Thread nD τ).loc main_arg1)
      (ix2 (⟨128 * t.val + r.val, by have := points_lt t; omega⟩ : Fin 8192) (⟨256 + w.val, by omega⟩ : Fin 512)) := by
  blk_point [iblk, V, idx_rows t]

theorem blk_kp (c : Dev nD) (t : Fin cfg0.N) (r : Fin 128) (w : Fin 256) :
    iblk m c 1 t (ix2 r w) = m ((c : Thread nD τ).loc main_arg1)
      (ix2 (⟨128 * before t.val + r.val, by have := before_lt t; omega⟩ : Fin 8192) (⟨w.val, by omega⟩ : Fin 512)) := by
  blk_point [iblk, V, idx_rows t]

theorem blk_vp (c : Dev nD) (t : Fin cfg0.N) (r : Fin 128) (w : Fin 256) :
    iblk m c 3 t (ix2 r w) = m ((c : Thread nD τ).loc main_arg1)
      (ix2 (⟨128 * before t.val + r.val, by have := before_lt t; omega⟩ : Fin 8192) (⟨256 + w.val, by omega⟩ : Fin 512)) := by
  blk_point [iblk, V, idx_rows t]

theorem blk_sink (c : Dev nD) (t : Fin cfg0.N) (n : Fin 32) :
    (iblk m c 11 t : Vec Ideal S32 .f32) (ix1 n) = m ((c : Thread nD τ).loc main_arg2) (ix1 n) := by
  blk_point [iblk, V, idx_tabs t]

end Cert.KernelIdeal.Attn

end
-- ==== Proof.Spin.lean ====
module

public import proofs.«01_k».proof.Proof.RopePay
public import proofs.«01_k».proof.Proof.Tables
public import proofs.«01_k».proof.Proof.Windows

@[expose] public section

set_option maxRecDepth 16384

noncomputable section

namespace Cert.KernelIdeal.Attn

open Cert.KernelIdeal Cert.KernelIdeal.Gen Idealize.ShloMosaic Idealize.ShloMosaic.TcCoe Idealize.SL.Sem

/-- The rotary embedding of one head at position `p`: the first eight columns and the next eight as pairs, turned by the
    position's angles; the rest as they are. -/
def spin (p : Fin 2048) (x : Fin 64 → EReal) (d : Fin 64) : EReal :=
  if h : d.val < 8 then x d * cosA p ⟨d.val, h⟩ - x ⟨d.val + 8, by omega⟩ * sinA p ⟨d.val, h⟩
  else if h' : d.val < 16 then
    x d * cosA p ⟨d.val - 8, by omega⟩ + x ⟨d.val - 8, by omega⟩ * sinA p ⟨d.val - 8, by omega⟩
  else x d

/-- A head's columns of a row of heads. -/
abbrev headRow {n : ℕ} (N : ℕ) (hn : n = 64 * N) (x : Fin n → EReal) (w : Fin n) (d : Fin 64) : EReal :=
  x ⟨64 * (w.val / 64) + d.val, by have := w.isLt; omega⟩

/-- Three products with the tables' lanes are the rotary embedding of the column's head. -/
theorem turned_spin {n : ℕ} (N : ℕ) (hn : n = 64 * N) (hN : N % 2 = 0) (x : Fin n → EReal) (p : Fin 2048) (w : Fin n) :
    turned x (fun l => twice colC (ix2 p l)) (fun l => twice colS (ix2 p l)) (fun l => twice colN (ix2 p l)) w
      = spin p (headRow N hn x w) ⟨w.val % 64, Nat.mod_lt _ (by decide)⟩ := by
  have hw := w.isLt
  unfold turned spin headRow
  simp only [twice_at, colC_at, colS_at, colN_at]
  have e0 : x ⟨64 * (w.val / 64) + w.val % 64, by omega⟩ = x w := congrArg x (Fin.ext (by dsimp only; omega))
  have el : w.val % 128 % 64 = w.val % 64 := by omega
  simp only [el, e0]
  by_cases h8 : w.val % 64 < 8
  · have h : ¬ (8 ≤ w.val % 64 ∧ w.val % 64 < 16) := by omega
    have h16 : w.val % 64 < 16 := by omega
    have e1 : x ⟨64 * (w.val / 64) + (w.val % 64 + 8), by omega⟩ = x (east w) :=
      congrArg x (Fin.ext (by
        show 64 * (w.val / 64) + (w.val % 64 + 8) = (w.val + 8) % n
        have : (w.val + 8) % n = w.val + 8 := Nat.mod_eq_of_lt (by omega)
        omega))
    have ea : w.val % 64 % 8 = w.val % 64 := by omega
    simp only [if_pos h16, if_neg h, if_pos h8, dif_pos h8, mul_zero, add_zero, mul_neg, e1, ea, sub_eq_add_neg]
  · by_cases h16 : w.val % 64 < 16
    · have h : 8 ≤ w.val % 64 ∧ w.val % 64 < 16 := by omega
      have e1 : x ⟨64 * (w.val / 64) + (w.val % 64 - 8), by omega⟩ = x (west w) :=
        congrArg x (Fin.ext (by
          show 64 * (w.val / 64) + (w.val % 64 - 8) = (w.val + n - 8) % n
          have h1 : w.val + n - 8 = (w.val - 8) + n := by omega
          have h2 : (w.val - 8) % n = w.val - 8 := Nat.mod_eq_of_lt (by omega)
          rw [h1, Nat.add_mod_right, h2]; omega))
      have ea : w.val % 64 % 8 = w.val % 64 - 8 := by omega
      simp only [if_pos h16, if_pos h, if_neg h8, dif_neg h8, dif_pos h16, mul_zero, add_zero, e1, ea]
    · have h : ¬ (8 ≤ w.val % 64 ∧ w.val % 64 < 16) := by omega
      simp only [if_neg h16, if_neg h, if_neg h8, dif_neg h8, dif_neg h16, mul_zero, add_zero, mul_one, e0]

variable (m : (ℓ : Loc nD τ sig) → Buf (Elt Ideal) ℓ)

/-- The three arguments as arrays. -/
abbrev argQ (c : Dev nD) : FVec Ideal S8192x2048 .f32 := m ((c : Thread nD τ).loc main_arg0)
abbrev argKV (c : Dev nD) : FVec Ideal S8192x512 .f32 := m ((c : Thread nD τ).loc main_arg1)
abbrev argS (c : Dev nD) : FVec Ideal S32 .f32 := m ((c : Thread nD τ).loc main_arg2)

/-- A row's position in its sequence. -/
abbrev posOf (R : ℕ) : Fin 2048 := ⟨R % 2048, Nat.mod_lt _ (by decide)⟩

/-- The rotated queries and keys of a row, column by column. -/
def qrot (c : Dev nD) (R : Fin 8192) (w : Fin 2048) : EReal :=
  spin (posOf R.val) (headRow 32 rfl (fun w => argQ m c (ix2 R w)) w) ⟨w.val % 64, Nat.mod_lt _ (by decide)⟩
def krot (c : Dev nD) (R : Fin 8192) (w : Fin 256) : EReal :=
  spin (posOf R.val) (headRow 4 rfl (fun w => argKV m c (ix2 R (⟨w.val, by omega⟩ : Fin 512))) w)
    ⟨w.val % 64, Nat.mod_lt _ (by decide)⟩

set_option maxHeartbeats 1000000 in
theorem blk_c (c : Dev nD) (t : Fin cfg0.N) (r l : Fin 128) :
    iblk m c 5 t (ix2 r l) = twice colC (ix2 (posOf (128 * t.val + r.val)) l)
    ∧ iblk m c 6 t (ix2 r l) = twice colS (ix2 (posOf (128 * t.val + r.val)) l)
    ∧ iblk m c 7 t (ix2 r l) = twice colN (ix2 (posOf (128 * t.val + r.val)) l)
    ∧ iblk m c 8 t (ix2 r l) = twice colC (ix2 (posOf (128 * before t.val + r.val)) l)
    ∧ iblk m c 9 t (ix2 r l) = twice colS (ix2 (posOf (128 * before t.val + r.val)) l)
    ∧ iblk m c 10 t (ix2 r l) = twice colN (ix2 (posOf (128 * before t.val + r.val)) l) := by
  have hc := V_c m c
  have h1 := V_s1 m c
  have h2 := V_s2 m c
  have hi := idx_tabs t
  have e : 128 * (t.val % 16) + r.val = (128 * t.val + r.val) % 2048 := by omega
  have e' : 128 * (before t.val % 16) + r.val = (128 * before t.val + r.val) % 2048 := by omega
  generalize before t.val = b at *
  refine ⟨?_, ?_, ?_, ?_, ?_, ?_⟩
  · rw [← hc]; blk_simp [iblk]; refine congrArg _ ?_; blk_ext [hi, e]
  · rw [← h1]; blk_simp [iblk]; refine congrArg _ ?_; blk_ext [hi, e]
  · rw [← h2]; blk_simp [iblk]; refine congrArg _ ?_; blk_ext [hi, e]
  · rw [← hc]; blk_simp [iblk]; refine congrArg _ ?_; blk_ext [hi, e']
  · rw [← h1]; blk_simp [iblk]; refine congrArg _ ?_; blk_ext [hi, e']
  · rw [← h2]; blk_simp [iblk]; refine congrArg _ ?_; blk_ext [hi, e']

end Cert.KernelIdeal.Attn

end
-- ==== Proof.KrotOut.lean ====
module

public import proofs.«01_k».proof.Proof.Blocks
public import proofs.«01_k».proof.Proof.Spin

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- A grid point's rotated keys, and those of the block before. -/
theorem key_block (c : Dev nD) (t : Fin cfg0.N) (r : Fin 128) (w : Fin 256) :
    k0_pay2 (F := Ideal) (iblk m c 2 t) (iblk m c 5 t) (iblk m c 6 t) (iblk m c 7 t) (ix2 r w)
      = krot m c ⟨128 * t.val + r.val, by have := points_lt t; omega⟩ w := by
  have h5 := fun r l => (blk_c m c t r l).1
  have h6 := fun r l => (blk_c m c t r l).2.1
  have h7 := fun r l => (blk_c m c t r l).2.2.1
  rw [pay2_at]
  simp only [h5, h6, h7, blk_k]
  exact turned_spin 4 rfl rfl _ _ _

theorem key_block_before (c : Dev nD) (t : Fin cfg0.N) (r : Fin 128) (w : Fin 256) :
    k0_pay2 (F := Ideal) (iblk m c 1 t) (iblk m c 8 t) (iblk m c 9 t) (iblk m c 10 t) (ix2 r w)
      = krot m c ⟨128 * before t.val + r.val, by have := before_lt t; omega⟩ w := by
  have h5 := fun r l => (blk_c m c t r l).2.2.2.1
  have h6 := fun r l => (blk_c m c t r l).2.2.2.2.1
  have h7 := fun r l => (blk_c m c t r l).2.2.2.2.2
  rw [pay2_at]
  simp only [h5, h6, h7, blk_kp]
  exact turned_spin 4 rfl rfl _ _ _

/-- A grid point's rotated queries, scaled. -/
theorem query_block (c : Dev nD) (t : Fin cfg0.N) (r : Fin 128) (w : Fin 2048) :
    k0_pay1 (F := Ideal) (iblk m c 0 t) (iblk m c 5 t) (iblk m c 6 t) (iblk m c 7 t) (ix2 r w)
      = qrot m c ⟨128 * t.val + r.val, by have := points_lt t; omega⟩ w * Scalar.ofBits (F := Ideal) .f32 0x3E000000#32 := by
  have h5 := fun r l => (blk_c m c t r l).1
  have h6 := fun r l => (blk_c m c t r l).2.1
  have h7 := fun r l => (blk_c m c t r l).2.2.1
  rw [pay1_at]
  simp only [h5, h6, h7, blk_q]
  exact congrArg (· * _) (turned_spin 32 rfl rfl _ _ _)

/-- The second result: row by row, the rotated keys. -/
theorem krot_final (c : Dev nD) : (dats m 0 c).arrAt 13 cfg0.N
    = (fun i => krot m c (i 0) (i 1) : FVec Ideal S8192x256 .f32) := by
  refine (dats m 0 c).arrAt_eq_of_covers 13 _ (by decide +kernel) fun t _ y => ?_
  blk_simp
  rw [after0_13, outs_krot]
  have hy0 : (y 0).val < 128 := (y 0).isLt
  have hy1 : (y 1).val < 256 := (y 1).isLt
  have ht := points_lt t
  have e : (win0_13.blk t).view.emb y
      = ix2 (⟨128 * t.val + (y 0).val, by omega⟩ : Fin 8192) (⟨(y 1).val, hy1⟩ : Fin 256) := by
    blk_ext [idx_rows t]
  rw [e]
  refine Eq.trans ?_ (key_block m c t ⟨(y 0).val, hy0⟩ ⟨(y 1).val, hy1⟩)
  refine congrArg (k0_pay2 (F := Ideal) (iblk m c 2 t) (iblk m c 5 t) (iblk m c 6 t) (iblk m c 7 t)) ?_
  idx_ext

end Cert.KernelIdeal.Attn

end
-- ==== Proof.AttnOut.lean ====
module

public import proofs.«01_k».proof.Proof.Mask
public import proofs.«01_k».proof.Proof.KrotOut

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The row of the arrays that holds column `x` of block `t`'s keys: the block before, then the block itself. -/
abbrev keyRow (t : ℕ) (ht : t < 64) (x : Fin 256) : Fin 8192 :=
  if x.val < 128 then ⟨(128 * before t + x.val) % 8192, by omega⟩ else ⟨(128 * t + (x.val - 128)) % 8192, by omega⟩

theorem keys_at (c : Dev nD) (t : Fin cfg0.N) (x : Fin 256) (w : Fin 256) :
    k0_pay3 (F := Ideal) (k0_pay2 (F := Ideal) (iblk m c 2 t) (iblk m c 5 t) (iblk m c 6 t) (iblk m c 7 t))
        (iblk m c 1 t) (iblk m c 8 t) (iblk m c 9 t) (iblk m c 10 t) (ix2 x w)
      = krot m c (keyRow t.val t.isLt x) w := by
  have ht := points_lt t
  have hb := before_lt t
  rw [pay3_at]
  by_cases h : x.val < 128
  · rw [dif_pos h, key_block_before]
    unfold keyRow
    rw [if_pos h]
    refine congrArg (fun R => krot m c R w) (Fin.ext ?_)
    show 128 * before t.val + x.val = (128 * before t.val + x.val) % 8192
    omega
  · rw [dif_neg h, key_block]
    unfold keyRow
    rw [if_neg h]
    refine congrArg (fun R => krot m c R w) (Fin.ext ?_)
    show 128 * t.val + (x.val - 128) = (128 * t.val + (x.val - 128)) % 8192
    omega

theorem values_at (c : Dev nD) (t : Fin cfg0.N) (x : Fin 256) (w : Fin 256) :
    k0_pay4 (F := Ideal) (iblk m c 3 t) (iblk m c 4 t) (ix2 x w)
      = argKV m c (ix2 (keyRow t.val t.isLt x) (⟨256 + w.val, by omega⟩ : Fin 512)) := by
  have ht := points_lt t
  have hb := before_lt t
  rw [pay4_at]
  by_cases h : x.val < 128
  · rw [dif_pos h, blk_vp]
    unfold keyRow
    rw [if_pos h]
    refine congrArg (fun R => argKV m c (ix2 R _)) (Fin.ext ?_)
    show 128 * before t.val + x.val = (128 * before t.val + x.val) % 8192
    omega
  · rw [dif_neg h, blk_v]
    unfold keyRow
    rw [if_neg h]
    refine congrArg (fun R => argKV m c (ix2 R _)) (Fin.ext ?_)
    show 128 * t.val + (x.val - 128) = (128 * t.val + (x.val - 128)) % 8192
    omega

/-- An entry of the attention: row `R`, column `w`, over the 256 keys of the row's block and the block before. -/
def outAt (c : Dev nD) (R : Fin 8192) (w : Fin 2048) : EReal :=
  attend (argS m c (ix1 (⟨w.val / 64, by omega⟩ : Fin 32)))
    (score (fun x => BitVec.ofBool (decide (sees (R.val / 128 % 16) (R.val % 128) x.val)))
      (fun d => qrot m c R ⟨64 * (w.val / 64) + d.val, by omega⟩ * Scalar.ofBits (F := Ideal) .f32 0x3E000000#32)
      fun x d => krot m c (keyRow (R.val / 128) (by omega) x) ⟨64 * (w.val / 512) + d.val, by omega⟩)
    fun x => argKV m c (ix2 (keyRow (R.val / 128) (by omega) x) (⟨256 + (64 * (w.val / 512) + w.val % 64), by omega⟩ : Fin 512))

theorem attn_block (c : Dev nD) (t : Fin cfg0.N) (r : Fin 128) (w : Fin 2048) :
    (outsAt0 m c t).1 (ix2 r w) = outAt m c ⟨128 * t.val + r.val, by have := points_lt t; omega⟩ w := by
  have ht := points_lt t
  rw [outs_attn, block_at]
  have hn : 8 * (w.val / 512) + w.val % 512 / 64 = w.val / 64 := by omega
  have hq : 512 * (w.val / 512) + 64 * (w.val % 512 / 64) = 64 * (w.val / 64) := by omega
  have hr : (128 * t.val + r.val) % 128 = r.val := by omega
  have hd : (128 * t.val + r.val) / 128 = t.val := by omega
  have hm := fun x => maskAt_at ⟨(grid0.coords t 1).val, by rw [(idx_tabs t).2.2.2.2.2.2.2]; omega⟩ (grp w) r x
  dsimp only at hm
  simp only [hm, query_block, keys_at, values_at, blk_sink, hn, hq]
  unfold outAt
  simp only [hr, hd, (idx_tabs t).2.2.2.2.2.2.2]

/-- The first result: row by row, the attention. -/
theorem attn_final (c : Dev nD) : (dats m 0 c).arrAt 12 cfg0.N
    = (fun i => outAt m c (i 0) (i 1) : FVec Ideal S8192x2048 .f32) := by
  refine (dats m 0 c).arrAt_eq_of_covers 12 _ (by decide +kernel) fun t _ y => ?_
  blk_simp
  rw [after0_12]
  have hy0 : (y 0).val < 128 := (y 0).isLt
  have hy1 : (y 1).val < 2048 := (y 1).isLt
  have ht := points_lt t
  have e : (win0_12.blk t).view.emb y
      = ix2 (⟨128 * t.val + (y 0).val, by omega⟩ : Fin 8192) (⟨(y 1).val, hy1⟩ : Fin 2048) := by
    blk_ext [idx_rows t]
  rw [e]
  refine Eq.trans ?_ (attn_block m c t ⟨(y 0).val, hy0⟩ ⟨(y 1).val, hy1⟩)
  refine congrArg (outsAt0 m c t).1 ?_
  idx_ext

end Cert.KernelIdeal.Attn

end
-- ==== Proof.RefRope.lean ====
module

public import proofs.«01_k».proof.Proof.Gen.ReferenceIdeal.Read
public import proofs.«01_k».proof.Proof.Spin

@[expose] public section

set_option maxRecDepth 16384

noncomputable section

namespace Cert.ReferenceIdeal.Attn

open Cert.ReferenceIdeal Cert.ReferenceIdeal.Read Idealize.ShloMosaic
open Cert.KernelIdeal.Attn (spin cosA sinA angle)

theorem angle_q : val_main_v13 (F := Ideal) = angle := rfl

theorem angle_k : val_main_v49 (F := Ideal) = angle := rfl

/-- The queries by batch, position, key head, group and dimension. -/
theorem v1_at (x0 : FVec Ideal S8192x2048 .f32) (b : Fin 4) (s : Fin 2048) (h : Fin 4) (g : Fin 8) (d : Fin 64) :
    val_main_v1 (F := Ideal) x0 (ix5 b s h g d)
      = x0 (ix2 (⟨2048 * b.val + s.val, by omega⟩ : Fin 8192) (⟨512 * h.val + 64 * g.val + d.val, by omega⟩ : Fin 2048)) := by
  rw [val_main_v1_apply]
  refine congrArg x0 ?_
  idx_ext

/-- The keys by batch, position, key head and dimension. -/
theorem v37_at (x1 : FVec Ideal S8192x512 .f32) (b : Fin 4) (s : Fin 2048) (h : Fin 4) (d : Fin 64) :
    val_main_v37 (F := Ideal) x1 (ix4 b s h d)
      = x1 (ix2 (⟨2048 * b.val + s.val, by omega⟩ : Fin 8192) (⟨64 * h.val + d.val, by omega⟩ : Fin 512)) := by
  rw [val_main_v37_apply, val_main_v36_apply]
  refine congrArg x1 ?_
  idx_ext

/-- The values likewise. -/
theorem v73_at (x1 : FVec Ideal S8192x512 .f32) (b : Fin 4) (s : Fin 2048) (h : Fin 4) (d : Fin 64) :
    val_main_v73 (F := Ideal) x1 (ix4 b s h d)
      = x1 (ix2 (⟨2048 * b.val + s.val, by omega⟩ : Fin 8192) (⟨256 + (64 * h.val + d.val), by omega⟩ : Fin 512)) := by
  rw [val_main_v73_apply, val_main_v72_apply]
  refine congrArg x1 ?_
  idx_ext

theorem v15_at (s : Fin 2048) (a b : Fin 1) (l : Fin 8) : val_main_v15 (F := Ideal) (ix4 s a b l) = cosA s l := by
  rw [val_main_v15_apply, val_main_v14_apply, angle_q]
  refine congrArg (fun i => Ideal.cos (angle i)) ?_
  idx_ext

theorem v17_at (s : Fin 2048) (a b : Fin 1) (l : Fin 8) : val_main_v17 (F := Ideal) (ix4 s a b l) = sinA s l := by
  rw [val_main_v17_apply, val_main_v16_apply, angle_q]
  refine congrArg (fun i => Ideal.sin (angle i)) ?_
  idx_ext

theorem v51_at (s : Fin 2048) (a : Fin 1) (l : Fin 8) : val_main_v51 (F := Ideal) (ix3 s a l) = cosA s l := by
  rw [val_main_v51_apply, val_main_v50_apply, angle_k]
  refine congrArg (fun i => Ideal.cos (angle i)) ?_
  idx_ext

theorem v53_at (s : Fin 2048) (a : Fin 1) (l : Fin 8) : val_main_v53 (F := Ideal) (ix3 s a l) = sinA s l := by
  rw [val_main_v53_apply, val_main_v52_apply, angle_k]
  refine congrArg (fun i => Ideal.sin (angle i)) ?_
  idx_ext

/-- The two rotated halves of the queries. -/
theorem v26_at (x0 : FVec Ideal S8192x2048 .f32) (b : Fin 4) (s : Fin 2048) (h : Fin 4) (g : Fin 8) (l : Fin 8) :
    val_main_v26 (F := Ideal) x0 (ix5 b s h g l)
      = val_main_v1 (F := Ideal) x0 (ix5 b s h g ⟨l.val, by omega⟩) * cosA s l
        - val_main_v1 (F := Ideal) x0 (ix5 b s h g ⟨l.val + 8, by omega⟩) * sinA s l := by
  rw [val_main_v26_apply, val_main_v22_apply, val_main_v25_apply, val_main_v21_apply, val_main_v20_apply, val_main_v24_apply,
    val_main_v23_apply, val_main_v18_apply, val_main_v19_apply, ← v15_at s 0 0 l, ← v17_at s 0 0 l]
  generalize val_main_v1 (F := Ideal) x0 = y
  generalize val_main_v15 (F := Ideal) = c
  generalize val_main_v17 (F := Ideal) = z
  show y _ * c _ - y _ * z _ = _
  congr 3 <;> idx_ext

theorem v33_at (x0 : FVec Ideal S8192x2048 .f32) (b : Fin 4) (s : Fin 2048) (h : Fin 4) (g : Fin 8) (l : Fin 8) :
    val_main_v33 (F := Ideal) x0 (ix5 b s h g l)
      = val_main_v1 (F := Ideal) x0 (ix5 b s h g ⟨l.val + 8, by omega⟩) * cosA s l
        + val_main_v1 (F := Ideal) x0 (ix5 b s h g ⟨l.val, by omega⟩) * sinA s l := by
  rw [val_main_v33_apply, val_main_v29_apply, val_main_v32_apply, val_main_v28_apply, val_main_v27_apply, val_main_v31_apply,
    val_main_v30_apply, val_main_v18_apply, val_main_v19_apply, ← v15_at s 0 0 l, ← v17_at s 0 0 l]
  generalize val_main_v1 (F := Ideal) x0 = y
  generalize val_main_v15 (F := Ideal) = c
  generalize val_main_v17 (F := Ideal) = z
  show y _ * c _ + y _ * z _ = _
  congr 3 <;> idx_ext

theorem v34_at (x0 : FVec Ideal S8192x2048 .f32) (b : Fin 4) (s : Fin 2048) (h : Fin 4) (g : Fin 8) (l : Fin 48) :
    val_main_v34 (F := Ideal) x0 (ix5 b s h g l) = val_main_v1 (F := Ideal) x0 (ix5 b s h g ⟨l.val + 16, by omega⟩) := by
  rw [val_main_v34_apply]
  refine congrArg (val_main_v1 (F := Ideal) x0) ?_
  idx_ext

/-- The rotated queries. -/
theorem v35_at (x0 : FVec Ideal S8192x2048 .f32) (b : Fin 4) (s : Fin 2048) (h : Fin 4) (g : Fin 8) (d : Fin 64) :
    val_main_v35 (F := Ideal) x0 (ix5 b s h g d)
      = spin s (fun d => x0 (ix2 (⟨2048 * b.val + s.val, by omega⟩ : Fin 8192)
          (⟨512 * h.val + 64 * g.val + d.val, by omega⟩ : Fin 2048))) d := by
  have h26 := v26_at x0 b s h g
  have h33 := v33_at x0 b s h g
  have h34 := v34_at x0 b s h g
  simp only [v1_at] at h26 h33 h34
  unfold val_main_v35
  generalize val_main_v26 (F := Ideal) x0 = y at *
  generalize val_main_v33 (F := Ideal) x0 = y' at *
  generalize val_main_v34 (F := Ideal) x0 = y'' at *
  pointwise
  unfold spin
  by_cases h8 : d.val < 8
  · rw [dif_pos h8, dif_pos h8, h26]
  · rw [dif_neg h8, dif_neg h8]
    by_cases h16 : d.val < 16
    · rw [dif_pos (show d.val - 8 < 8 by omega), dif_pos h16, h33]
      refine congrArg₂ (· + ·) (congrArg (· * _) ?_) rfl
      exact congrArg (fun n : Fin 64 => x0 (ix2 (⟨2048 * b.val + s.val, by omega⟩ : Fin 8192) (⟨512 * h.val + 64 * g.val + n.val, by omega⟩ : Fin 2048)))
        (show (⟨d.val - 8 + 8, by omega⟩ : Fin 64) = d from Fin.ext (by show d.val - 8 + 8 = d.val; omega))
    · rw [dif_neg (show ¬ d.val - 8 < 8 by omega), dif_neg h16, h34]
      exact congrArg (fun n : Fin 64 => x0 (ix2 (⟨2048 * b.val + s.val, by omega⟩ : Fin 8192) (⟨512 * h.val + 64 * g.val + n.val, by omega⟩ : Fin 2048)))
        (show (⟨d.val - 8 - 8 + 16, by omega⟩ : Fin 64) = d from Fin.ext (by show d.val - 8 - 8 + 16 = d.val; omega))

/-- The two rotated halves of the keys. -/
theorem v62_at (x1 : FVec Ideal S8192x512 .f32) (b : Fin 4) (s : Fin 2048) (h : Fin 4) (l : Fin 8) :
    val_main_v62 (F := Ideal) x1 (ix4 b s h l)
      = val_main_v37 (F := Ideal) x1 (ix4 b s h ⟨l.val, by omega⟩) * cosA s l
        - val_main_v37 (F := Ideal) x1 (ix4 b s h ⟨l.val + 8, by omega⟩) * sinA s l := by
  rw [val_main_v62_apply, val_main_v58_apply, val_main_v61_apply, val_main_v57_apply, val_main_v56_apply, val_main_v60_apply,
    val_main_v59_apply, val_main_v54_apply, val_main_v55_apply, ← v51_at s 0 l, ← v53_at s 0 l]
  generalize val_main_v37 (F := Ideal) x1 = y
  generalize val_main_v51 (F := Ideal) = c
  generalize val_main_v53 (F := Ideal) = z
  show y _ * c _ - y _ * z _ = _
  congr 3 <;> idx_ext

theorem v69_at (x1 : FVec Ideal S8192x512 .f32) (b : Fin 4) (s : Fin 2048) (h : Fin 4) (l : Fin 8) :
    val_main_v69 (F := Ideal) x1 (ix4 b s h l)
      = val_main_v37 (F := Ideal) x1 (ix4 b s h ⟨l.val + 8, by omega⟩) * cosA s l
        + val_main_v37 (F := Ideal) x1 (ix4 b s h ⟨l.val, by omega⟩) * sinA s l := by
  rw [val_main_v69_apply, val_main_v65_apply, val_main_v68_apply, val_main_v64_apply, val_main_v63_apply, val_main_v67_apply,
    val_main_v66_apply, val_main_v54_apply, val_main_v55_apply, ← v51_at s 0 l, ← v53_at s 0 l]
  generalize val_main_v37 (F := Ideal) x1 = y
  generalize val_main_v51 (F := Ideal) = c
  generalize val_main_v53 (F := Ideal) = z
  show y _ * c _ + y _ * z _ = _
  congr 3 <;> idx_ext

theorem v70_at (x1 : FVec Ideal S8192x512 .f32) (b : Fin 4) (s : Fin 2048) (h : Fin 4) (l : Fin 48) :
    val_main_v70 (F := Ideal) x1 (ix4 b s h l) = val_main_v37 (F := Ideal) x1 (ix4 b s h ⟨l.val + 16, by omega⟩) := by
  rw [val_main_v70_apply]
  refine congrArg (val_main_v37 (F := Ideal) x1) ?_
  idx_ext

/-- The rotated keys. -/
theorem v71_at (x1 : FVec Ideal S8192x512 .f32) (b : Fin 4) (s : Fin 2048) (h : Fin 4) (d : Fin 64) :
    val_main_v71 (F := Ideal) x1 (ix4 b s h d)
      = spin s (fun d => x1 (ix2 (⟨2048 * b.val + s.val, by omega⟩ : Fin 8192)
          (⟨64 * h.val + d.val, by omega⟩ : Fin 512))) d := by
  have h26 := v62_at x1 b s h
  have h33 := v69_at x1 b s h
  have h34 := v70_at x1 b s h
  simp only [v37_at] at h26 h33 h34
  unfold val_main_v71
  generalize val_main_v62 (F := Ideal) x1 = y at *
  generalize val_main_v69 (F := Ideal) x1 = y' at *
  generalize val_main_v70 (F := Ideal) x1 = y'' at *
  pointwise
  unfold spin
  by_cases h8 : d.val < 8
  · rw [dif_pos h8, dif_pos h8, h26]
  · rw [dif_neg h8, dif_neg h8]
    by_cases h16 : d.val < 16
    · rw [dif_pos (show d.val - 8 < 8 by omega), dif_pos h16, h33]
      refine congrArg₂ (· + ·) (congrArg (· * _) ?_) rfl
      exact congrArg (fun n : Fin 64 => x1 (ix2 (⟨2048 * b.val + s.val, by omega⟩ : Fin 8192) (⟨64 * h.val + n.val, by omega⟩ : Fin 512)))
        (show (⟨d.val - 8 + 8, by omega⟩ : Fin 64) = d from Fin.ext (by show d.val - 8 + 8 = d.val; omega))
    · rw [dif_neg (show ¬ d.val - 8 < 8 by omega), dif_neg h16, h34]
      exact congrArg (fun n : Fin 64 => x1 (ix2 (⟨2048 * b.val + s.val, by omega⟩ : Fin 8192) (⟨64 * h.val + n.val, by omega⟩ : Fin 512)))
        (show (⟨d.val - 8 - 8 + 16, by omega⟩ : Fin 64) = d from Fin.ext (by show d.val - 8 - 8 + 16 = d.val; omega))

end Cert.ReferenceIdeal.Attn

end
-- ==== Proof.RefBand.lean ====
module

public import proofs.«01_k».proof.Proof.RefRope
public import proofs.«01_k».proof.Proof.Mask
public import Idealize.ShloMosaic.Lib.ValueIdxRank6

@[expose] public section

set_option maxRecDepth 16384

noncomputable section

namespace Cert.ReferenceIdeal.Attn

open Cert.ReferenceIdeal Cert.ReferenceIdeal.Read Idealize.ShloMosaic
open Cert.KernelIdeal.Attn (spin cosA sinA angle sees gap_sees andi_ofBool peak negInf)

/-- The rotated queries by block and row of the block. -/
theorem v74_at (x0 : FVec Ideal S8192x2048 .f32) (b : Fin 4) (i : Fin 16) (r : Fin 128) (h : Fin 4) (g : Fin 8) (d : Fin 64) :
    val_main_v74 (F := Ideal) x0 (ix6 b i r h g d)
      = val_main_v35 (F := Ideal) x0 (ix5 b (⟨128 * i.val + r.val, by omega⟩ : Fin 2048) h g d) := by
  unfold val_main_v74
  generalize val_main_v35 (F := Ideal) x0 = y
  exact shapeCast_apply y Gen.shapeCasts_S4x2048x4x8x64_S4x16x128x4x8x64 _ _ (by
    rewrite [Shape.rowMajor_val_five, Shape.rowMajor_val_six]
    show ((((b.val * 2048 + (128 * i.val + r.val)) * 4 + h.val) * 8 + g.val) * 64 + d.val)
      = (((((b.val * 16 + i.val) * 128 + r.val) * 4 + h.val) * 8 + g.val) * 64 + d.val)
    omega)

theorem zero_word : FloatOps.sitofp (F := Ideal) .f32 (0#32) = (0 : EReal) := by
  show (((0#32 : BitVec 32).toInt : ℝ) : EReal) = 0
  simp

theorem v105_at (x1 : FVec Ideal S8192x512 .f32) (b : Fin 4) (s : Fin 2176) (h : Fin 4) (d : Fin 64) :
    val_main_v105 (F := Ideal) x1 (ix4 b s h d)
      = if hs : 128 ≤ s.val then val_main_v71 (F := Ideal) x1 (ix4 b (⟨s.val - 128, by omega⟩ : Fin 2048) h d) else 0 := by
  unfold val_main_v105
  generalize val_main_v71 (F := Ideal) x1 = y
  pointwise [val_main_call0_v0, val_main_c_8]
  by_cases hs : 128 ≤ s.val
  · rw [dif_pos hs, dif_pos ⟨hs, by omega⟩]
  · rw [dif_neg hs, dif_neg fun h => hs h.1, zero_word]

theorem v110_at (x1 : FVec Ideal S8192x512 .f32) (b : Fin 4) (s : Fin 2176) (h : Fin 4) (d : Fin 64) :
    val_main_v110 (F := Ideal) x1 (ix4 b s h d)
      = if hs : 128 ≤ s.val then val_main_v73 (F := Ideal) x1 (ix4 b (⟨s.val - 128, by omega⟩ : Fin 2048) h d) else 0 := by
  unfold val_main_v110
  generalize val_main_v73 (F := Ideal) x1 = y
  pointwise [val_main_call1_v0, val_main_c_9]
  by_cases hs : 128 ≤ s.val
  · rw [dif_pos hs, dif_pos ⟨hs, by omega⟩]
  · rw [dif_neg hs, dif_neg fun h => hs h.1, zero_word]

/-- A block's 256 keys: the padded sequence from the block's own start. -/
theorem v109_at (x1 : FVec Ideal S8192x512 .f32) (b : Fin 4) (i : Fin 16) (x : Fin 256) (h : Fin 4) (d : Fin 64) :
    val_main_v109 (F := Ideal) x1 (ix5 b i x h d)
      = val_main_v105 (F := Ideal) x1 (ix4 b (⟨128 * i.val + x.val, by omega⟩ : Fin 2176) h d) := by
  have e7 : ∀ r : Fin 128, val_main_v107 (F := Ideal) x1 (ix5 b i r h d)
      = val_main_v105 (F := Ideal) x1 (ix4 b (⟨128 * i.val + r.val, by omega⟩ : Fin 2176) h d) := fun r => by
    rw [val_main_v107_apply, val_main_v106_apply]
    refine congrArg (val_main_v105 (F := Ideal) x1) ?_
    idx_ext
  have e8 : ∀ r : Fin 128, val_main_v108 (F := Ideal) x1 (ix5 b i r h d)
      = val_main_v105 (F := Ideal) x1 (ix4 b (⟨128 * i.val + r.val + 128, by omega⟩ : Fin 2176) h d) := fun r => by
    rw [val_main_v108_apply, val_main_v106_apply]
    refine congrArg (val_main_v105 (F := Ideal) x1) ?_
    idx_ext
  unfold val_main_v109
  generalize val_main_v105 (F := Ideal) x1 = y at *
  generalize val_main_v107 (F := Ideal) x1 = y' at *
  generalize val_main_v108 (F := Ideal) x1 = y'' at *
  pointwise
  by_cases hx : x.val < 128
  · rw [dif_pos hx, e7]
  · rw [dif_neg hx, e8]
    refine congrArg y ?_
    idx_ext

theorem v114_at (x1 : FVec Ideal S8192x512 .f32) (b : Fin 4) (i : Fin 16) (x : Fin 256) (h : Fin 4) (d : Fin 64) :
    val_main_v114 (F := Ideal) x1 (ix5 b i x h d)
      = val_main_v110 (F := Ideal) x1 (ix4 b (⟨128 * i.val + x.val, by omega⟩ : Fin 2176) h d) := by
  have e7 : ∀ r : Fin 128, val_main_v112 (F := Ideal) x1 (ix5 b i r h d)
      = val_main_v110 (F := Ideal) x1 (ix4 b (⟨128 * i.val + r.val, by omega⟩ : Fin 2176) h d) := fun r => by
    rw [val_main_v112_apply, val_main_v111_apply]
    refine congrArg (val_main_v110 (F := Ideal) x1) ?_
    idx_ext
  have e8 : ∀ r : Fin 128, val_main_v113 (F := Ideal) x1 (ix5 b i r h d)
      = val_main_v110 (F := Ideal) x1 (ix4 b (⟨128 * i.val + r.val + 128, by omega⟩ : Fin 2176) h d) := fun r => by
    rw [val_main_v113_apply, val_main_v111_apply]
    refine congrArg (val_main_v110 (F := Ideal) x1) ?_
    idx_ext
  unfold val_main_v114
  generalize val_main_v110 (F := Ideal) x1 = y at *
  generalize val_main_v112 (F := Ideal) x1 = y' at *
  generalize val_main_v113 (F := Ideal) x1 = y'' at *
  pointwise
  by_cases hx : x.val < 128
  · rw [dif_pos hx, e7]
  · rw [dif_neg hx, e8]
    refine congrArg y ?_
    idx_ext

theorem first_sees : ∀ (i : Fin 16) (x : Fin 256),
    IntOp.cmpi CmpIPredicate.sge
      (IntOp.subi (IntOp.addi (IntOp.muli (BitVec.ofNat 32 i.val) 128#32) (BitVec.ofNat 32 x.val)) 128#32) 0#32
    = BitVec.ofBool (decide (128 ≤ x.val ∨ 0 < i.val)) := by
  decide +kernel

/-- The mask. -/
theorem v104_at (i : Fin 16) (r : Fin 128) (x : Fin 256) :
    val_main_v104 (F := Ideal) (ix3 i r x) = BitVec.ofBool (decide (sees i.val r.val x.val)) := by
  have e : val_main_v104 (F := Ideal) (ix3 i r x) = IntOp.andi
      (IntOp.andi
        (IntOp.cmpi CmpIPredicate.sge
          (IntOp.subi (IntOp.addi (128#32) (BitVec.ofNat 32 r.val)) (BitVec.ofNat 32 x.val)) 0#32)
        (IntOp.cmpi CmpIPredicate.sle
          (IntOp.subi (IntOp.addi (128#32) (BitVec.ofNat 32 r.val)) (BitVec.ofNat 32 x.val)) 128#32))
      (IntOp.cmpi CmpIPredicate.sge
        (IntOp.subi (IntOp.addi (IntOp.muli (BitVec.ofNat 32 i.val) 128#32) (BitVec.ofNat 32 x.val)) 128#32) 0#32) := by
    simp only [val_main_v104_apply, val_main_v102_apply, val_main_v101_apply, val_main_v90_apply, val_main_v87_apply,
      val_main_v89_apply, val_main_v85_apply, val_main_v83_apply, val_main_v84_apply, val_main_v82_apply, val_main_v81_apply,
      val_main_v76_apply, val_main_v75_apply, val_main_v78_apply, val_main_v77_apply, val_main_v86_apply, val_main_v88_apply,
      val_main_c_apply, val_main_c_3_apply, val_main_c_4_apply, val_main_v103_apply, val_main_v100_apply, val_main_v98_apply,
      val_main_v99_apply, val_main_v96_apply, val_main_v97_apply, val_main_v94_apply, val_main_v95_apply, val_main_v93_apply,
      val_main_v92_apply, val_main_v91_apply, val_main_v80_apply, val_main_v79_apply, val_main_c_5_apply, val_main_c_6_apply,
      val_main_c_7_apply]
    rfl
  rw [e, gap_sees, first_sees, andi_ofBool]
  refine congrArg BitVec.ofBool ?_
  by_cases h1 : r.val ≤ x.val <;> by_cases h2 : x.val ≤ r.val + 128 <;> by_cases h3 : 128 ≤ x.val ∨ 0 < i.val <;>
    simp [sees, h1, h2, h3]

/-- The masked, scaled scores. -/
theorem v120_at (x0 : FVec Ideal S8192x2048 .f32) (x1 : FVec Ideal S8192x512 .f32) (b : Fin 4) (i : Fin 16) (h : Fin 4)
    (g : Fin 8) (r : Fin 128) (x : Fin 256) :
    val_main_v120 (F := Ideal) x0 x1 (ix6 b i h g r x)
      = Scalar.select (BitVec.ofBool (decide (sees i.val r.val x.val)))
          ((∑ d : Fin 64, val_main_v109 (F := Ideal) x1 (ix5 b i x h d) * val_main_v74 (F := Ideal) x0 (ix6 b i r h g d))
            * Ideal.ofBits .f32 0x3E000000#32) ⊥ := by
  rw [val_main_v120_apply, val_main_call2_v1_apply, val_main_v115_apply, val_main_v119_apply, val_main_v117_apply,
    val_main_v118_apply, val_main_cst_10_apply, val_main_v116_apply, val_main_call2_v2_apply, val_main_call2_v0_apply,
    val_main_cst_11_apply, ← v104_at i r x, ← negInf]
  generalize val_main_v104 (F := Ideal) = M
  generalize val_main_v109 (F := Ideal) x1 = k
  generalize val_main_v74 (F := Ideal) x0 = q
  refine congr (congr (congrArg Scalar.select (congrArg M ?_)) (congrArg (· * _) (Finset.sum_congr rfl fun d _ => ?_))) rfl
  · idx_ext
  · refine congr (congrArg _ (congrArg k ?_)) (congrArg q ?_) <;> idx_ext

/-- The largest score. -/
theorem v122_at (x0 : FVec Ideal S8192x2048 .f32) (x1 : FVec Ideal S8192x512 .f32) (b : Fin 4) (i : Fin 16) (h : Fin 4)
    (g : Fin 8) (r : Fin 128) :
    val_main_v122 (F := Ideal) x0 x1 (ix5 b i h g r)
      = Finset.univ.fold max ⊥ fun x : Fin 256 => val_main_v120 (F := Ideal) x0 x1 (ix6 b i h g r x) := by
  unfold val_main_v122
  generalize val_main_v120 (F := Ideal) x0 x1 = y
  refine (Host.reduce_eq_fold_single _ _ _ Gen.reducesTo_S4x16x4x8x128x256_S4x16x4x8x128_d5 (by decide) _ _).trans ?_
  rw [val_main_cst_12_apply]
  refine Eq.trans (b := Finset.univ.fold max (Ideal.ofBits .f32 0xFF800000#32) fun x : Fin 256 => y (ix6 b i h g r x)) ?_
    (by rw [negInf])
  refine congrArg (fun f => Finset.univ.fold max (Ideal.ofBits .f32 0xFF800000#32) f) (funext fun x => congrArg y ?_)
  exact funext fun a => Fin.ext (by
    match a with | ⟨0, _⟩ => rfl | ⟨1, _⟩ => rfl | ⟨2, _⟩ => rfl | ⟨3, _⟩ => rfl | ⟨4, _⟩ => rfl | ⟨5, _⟩ => rfl)

end Cert.ReferenceIdeal.Attn

end
-- ==== Proof.RefAttn.lean ====
module

public import proofs.«01_k».proof.Proof.RefBand

@[expose] public section

set_option maxRecDepth 16384

noncomputable section

namespace Cert.ReferenceIdeal.Attn

open Cert.ReferenceIdeal Cert.ReferenceIdeal.Read Idealize.ShloMosaic
open Cert.KernelIdeal.Attn (spin cosA sinA angle sees peak)

/-- One entry of the reference's attention: each weight over the weights' sum with the sink's, times its value. -/
def attendR (s : EReal) (sc v : Fin 256 → EReal) : EReal :=
  ∑ x, v x * Ideal.div (Ideal.exp (sc x - peak s sc)) ((∑ x, Ideal.exp (sc x - peak s sc)) + Ideal.exp (s - peak s sc))

theorem v121_at (x2 : FVec Ideal S32 .f32) (h : Fin 4) (g : Fin 8) (a b : Fin 1) :
    val_main_v121 (F := Ideal) x2 (ix4 h g a b) = x2 (ix1 (⟨8 * h.val + g.val, by omega⟩ : Fin 32)) := by
  rw [val_main_v121_apply]
  refine congrArg x2 ?_
  idx_ext

variable (x0 : FVec Ideal S8192x2048 .f32) (x1 : FVec Ideal S8192x512 .f32) (x2 : FVec Ideal S32 .f32)

/-- A row's sink. -/
abbrev snk (h : Fin 4) (g : Fin 8) : EReal := x2 (ix1 (⟨8 * h.val + g.val, by omega⟩ : Fin 32))

/-- A row's masked scores. -/
abbrev scs (b : Fin 4) (i : Fin 16) (h : Fin 4) (g : Fin 8) (r : Fin 128) (x : Fin 256) : EReal :=
  val_main_v120 (F := Ideal) x0 x1 (ix6 b i h g r x)

theorem v126_at (b : Fin 4) (i : Fin 16) (h : Fin 4) (g : Fin 8) (r : Fin 128) (z : Fin 1) :
    val_main_v126 (F := Ideal) x0 x1 x2 (ix6 b i h g r z) = peak (snk x2 h g) (scs x0 x1 b i h g r) := by
  have e1 : val_main_v123 (F := Ideal) x0 x1 (ix6 b i h g r z) = val_main_v122 (F := Ideal) x0 x1 (ix5 b i h g r) := by
    rw [val_main_v123_apply]
    refine congrArg (val_main_v122 (F := Ideal) x0 x1) ?_
    idx_ext
  have e2 : val_main_v125 (F := Ideal) x2 (ix6 b i h g r z) = val_main_v121 (F := Ideal) x2 (ix4 h g 0 0) := by
    rw [val_main_v125_apply, val_main_v124_apply]
    refine congrArg (val_main_v121 (F := Ideal) x2) ?_
    idx_ext
  rw [val_main_v126_apply, e1, e2, v122_at, v121_at]
  exact max_comm _ _

theorem v129_at (b : Fin 4) (i : Fin 16) (h : Fin 4) (g : Fin 8) (r : Fin 128) (x : Fin 256) :
    val_main_v129 (F := Ideal) x0 x1 x2 (ix6 b i h g r x)
      = Ideal.exp (scs x0 x1 b i h g r x - peak (snk x2 h g) (scs x0 x1 b i h g r)) := by
  have e : val_main_v127 (F := Ideal) x0 x1 x2 (ix6 b i h g r x)
      = val_main_v126 (F := Ideal) x0 x1 x2 (ix6 b i h g r 0) := by
    rw [val_main_v127_apply]
    refine congrArg (val_main_v126 (F := Ideal) x0 x1 x2) ?_
    idx_ext
  rw [val_main_v129_apply, val_main_v128_apply, e, v126_at]
  rfl

theorem v136_at (b : Fin 4) (i : Fin 16) (h : Fin 4) (g : Fin 8) (r : Fin 128) (z : Fin 1) :
    val_main_v136 (F := Ideal) x0 x1 x2 (ix6 b i h g r z)
      = (∑ x, Ideal.exp (scs x0 x1 b i h g r x - peak (snk x2 h g) (scs x0 x1 b i h g r)))
        + Ideal.exp (snk x2 h g - peak (snk x2 h g) (scs x0 x1 b i h g r)) := by
  have e1 : val_main_v131 (F := Ideal) x0 x1 x2 (ix6 b i h g r z)
      = ∑ x, Ideal.exp (scs x0 x1 b i h g r x - peak (snk x2 h g) (scs x0 x1 b i h g r)) := by
    rw [val_main_v131_apply, val_main_v130_apply, val_main_cst_13_apply]
    refine (congrArg (· + _) (show FloatOps.ofBits (F := Ideal) .f32 0x00000000#32 = (0 : EReal) by
      simp [Ideal.ofBits, Ideal.ieee])).trans ((zero_add _).trans (Finset.sum_congr rfl fun x _ => ?_))
    rw [← v129_at]
    refine congrArg (val_main_v129 (F := Ideal) x0 x1 x2) ?_
    idx_ext
  have e2 : val_main_v133 (F := Ideal) x2 (ix6 b i h g r z) = val_main_v121 (F := Ideal) x2 (ix4 h g 0 0) := by
    rw [val_main_v133_apply, val_main_v132_apply]
    refine congrArg (val_main_v121 (F := Ideal) x2) ?_
    idx_ext
  rw [val_main_v136_apply, val_main_v135_apply, val_main_v134_apply, e1, e2, v126_at, v121_at]
  rfl

theorem v139_at (b : Fin 4) (i : Fin 16) (h : Fin 4) (d : Fin 64) (g : Fin 8) (r : Fin 128) :
    val_main_v139 (F := Ideal) x0 x1 x2 (ix6 b i h d g r)
      = attendR (snk x2 h g) (scs x0 x1 b i h g r) fun x => val_main_v114 (F := Ideal) x1 (ix5 b i x h d) := by
  rw [val_main_v139_apply]
  unfold attendR
  refine Finset.sum_congr rfl fun x _ => congr (congrArg _ (congrArg (val_main_v114 (F := Ideal) x1) ?_)) ?_
  · idx_ext
  · have e : val_main_v137 (F := Ideal) x0 x1 x2 (ix6 b i h g r x)
        = val_main_v136 (F := Ideal) x0 x1 x2 (ix6 b i h g r 0) := by
      rw [val_main_v137_apply]
      refine congrArg (val_main_v136 (F := Ideal) x0 x1 x2) ?_
      idx_ext
    refine Eq.trans (b := val_main_v138 (F := Ideal) x0 x1 x2 (ix6 b i h g r x)) (congrArg _ ?_) ?_
    · idx_ext
    · rw [val_main_v138_apply, e, v136_at, v129_at]
      rfl

/-- The first result, entry by entry. -/
theorem v143_at (b : Fin 4) (i : Fin 16) (r : Fin 128) (h : Fin 4) (g : Fin 8) (d : Fin 64) :
    val_main_v143 (F := Ideal) x0 x1 x2 (ix2 (⟨2048 * b.val + (128 * i.val + r.val), by omega⟩ : Fin 8192)
        (⟨512 * h.val + 64 * g.val + d.val, by omega⟩ : Fin 2048))
      = attendR (snk x2 h g) (scs x0 x1 b i h g r) fun x => val_main_v114 (F := Ideal) x1 (ix5 b i x h d) := by
  have e1 : val_main_v142 (F := Ideal) x0 x1 x2 (ix2 (⟨2048 * b.val + (128 * i.val + r.val), by omega⟩ : Fin 8192)
        (⟨512 * h.val + 64 * g.val + d.val, by omega⟩ : Fin 2048))
      = val_main_v141 (F := Ideal) x0 x1 x2 (ix5 b (⟨128 * i.val + r.val, by omega⟩ : Fin 2048) h g d) := by
    rw [val_main_v142_apply]
    refine congrArg (val_main_v141 (F := Ideal) x0 x1 x2) ?_
    idx_ext
  have e2 : val_main_v141 (F := Ideal) x0 x1 x2 (ix5 b (⟨128 * i.val + r.val, by omega⟩ : Fin 2048) h g d)
      = val_main_v140 (F := Ideal) x0 x1 x2 (ix6 b i r h g d) := by
    unfold val_main_v141
    generalize val_main_v140 (F := Ideal) x0 x1 x2 = y
    exact shapeCast_apply y Gen.shapeCasts_S4x16x128x4x8x64_S4x2048x4x8x64 _ _ (by
      rewrite [Shape.rowMajor_val_five, Shape.rowMajor_val_six]
      show (((((b.val * 16 + i.val) * 128 + r.val) * 4 + h.val) * 8 + g.val) * 64 + d.val)
        = ((((b.val * 2048 + (128 * i.val + r.val)) * 4 + h.val) * 8 + g.val) * 64 + d.val)
      omega)
  have e3 : val_main_v140 (F := Ideal) x0 x1 x2 (ix6 b i r h g d) = val_main_v139 (F := Ideal) x0 x1 x2 (ix6 b i h d g r) := by
    rw [val_main_v140_apply]
    refine congrArg (val_main_v139 (F := Ideal) x0 x1 x2) ?_
    idx_ext
  rw [val_main_v143_apply]
  exact e1.trans (e2.trans (e3.trans (v139_at x0 x1 x2 b i h d g r)))

/-- The second result, entry by entry. -/
theorem v144_at (b : Fin 4) (s : Fin 2048) (h : Fin 4) (d : Fin 64) :
    val_main_v144 (F := Ideal) x1 (ix2 (⟨2048 * b.val + s.val, by omega⟩ : Fin 8192) (⟨64 * h.val + d.val, by omega⟩ : Fin 256))
      = val_main_v71 (F := Ideal) x1 (ix4 b s h d) := by
  rw [val_main_v144_apply]
  refine congrArg (val_main_v71 (F := Ideal) x1) ?_
  idx_ext

end Cert.ReferenceIdeal.Attn

end
-- ==== Proof.Weights.lean ====
module

public import proofs.«01_k».proof.Proof.AttnOut
public import proofs.«01_k».proof.Proof.RefAttn

@[expose] public section

set_option maxRecDepth 16384

noncomputable section

namespace Cert.Weights

open Idealize.ShloMosaic
open Cert.KernelIdeal.Attn (attend score peak)
open Cert.ReferenceIdeal.Attn (attendR)

/-- A sum of real numbers, read as extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A nonnegative real factor goes into a sum of any extended reals. -/
theorem sum_mul_coe {ι : Type} (s : Finset ι) (f : ι → EReal) (r : ℝ) (hr : 0 ≤ r) :
    (∑ x ∈ s, f x) * (r : EReal) = ∑ x ∈ s, f x * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The scale, an eighth. -/
theorem eighth : Ideal.ofBits .f32 0x3E000000#32 = ((1 / 8 : ℝ) : EReal) := by
  simp [Ideal.ofBits, Ideal.ieee, -EReal.coe_mul]
  norm_num

/-- The largest of a real sink and scores below infinity is real. -/
theorem peak_real (s : ℝ) (sc : Fin 256 → EReal) (h : ∀ x, sc x ≠ ⊤) : ∃ p : ℝ, peak (s : EReal) sc = p := by
  have h1 : peak (s : EReal) sc ≠ ⊤ := by
    refine ne_of_lt (max_lt (EReal.coe_lt_top s) ?_)
    exact (Finset.fold_max_lt _).mpr ⟨bot_lt_top, fun x _ => lt_top_iff_ne_top.mpr (h x)⟩
  have h2 : peak (s : EReal) sc ≠ ⊥ := ne_of_gt (lt_of_lt_of_le (EReal.bot_lt_coe s) (le_max_left _ _))
  exact ⟨(peak (s : EReal) sc).toReal, (EReal.coe_toReal h1 h2).symm⟩

/-- Dividing the weighted sum or each weight: one value, where the scores are real or masked and the sink is real. -/
theorem attend_attendR (s : ℝ) (M : Fin 256 → Bool) (sc v v' : Fin 256 → EReal) (h1 : ∀ x, M x = true → ∃ a : ℝ, sc x = a)
    (h0 : ∀ x, M x = false → sc x = ⊥) (hv : ∀ x, M x = true → v' x = v x) :
    attend (s : EReal) sc v = attendR (s : EReal) sc v' := by
  obtain ⟨p, hp⟩ := peak_real s sc fun x => by
    cases hM : M x with
    | false => rw [h0 x hM]; exact bot_ne_top
    | true => obtain ⟨a, ha⟩ := h1 x hM; rw [ha]; exact EReal.coe_ne_top a
  have hw : ∀ x, ∃ w : ℝ, 0 ≤ w ∧ Ideal.exp (sc x - peak (s : EReal) sc) = w ∧ (M x = false → w = 0) := fun x => by
    cases hM : M x with
    | false => exact ⟨0, le_refl 0, by rw [h0 x hM, EReal.bot_sub]; rfl, fun _ => rfl⟩
    | true =>
      obtain ⟨a, ha⟩ := h1 x hM
      exact ⟨Real.exp (a - p), (Real.exp_pos _).le, by rw [ha, hp, ← EReal.coe_sub, Ideal.exp_coe], fun h => by cases h⟩
  choose w hw0 hw1 hw2 using hw
  have hs : Ideal.exp ((s : EReal) - peak (s : EReal) sc) = ((Real.exp (s - p) : ℝ) : EReal) := by
    rw [hp, ← EReal.coe_sub, Ideal.exp_coe]
  have hD : (0 : ℝ) < (∑ x, w x) + Real.exp (s - p) :=
    add_pos_of_nonneg_of_pos (Finset.sum_nonneg fun x _ => hw0 x) (Real.exp_pos _)
  unfold attend attendR
  simp only [hw1, hs, ← coe_sum, ← EReal.coe_add]
  rw [add_comm (Real.exp (s - p)), Ideal.div_coe hD.ne']
  simp only [Ideal.div_coe hD.ne']
  rw [sum_mul_coe _ _ _ (one_div_nonneg.mpr hD.le)]
  refine Finset.sum_congr rfl fun x _ => ?_
  cases hM : M x with
  | false => rw [hw2 x hM, EReal.coe_zero, zero_mul, zero_mul, mul_zero]
  | true => rw [hv x hM, mul_comm (w x : EReal), mul_assoc]

/-- The two sides' scores: the scale on the queries or on the product. -/
theorem scores_eq (M : Fin 256 → Bool) (q : Fin 64 → EReal) (k k' : Fin 256 → Fin 64 → EReal)
    (hq : ∀ d, ∃ a : ℝ, q d = a) (hk : ∀ x, M x = true → ∀ d, ∃ a : ℝ, k x d = a) (hkk : ∀ x, M x = true → ∀ d, k' x d = k x d)
    (x : Fin 256) :
    score (fun x => BitVec.ofBool (M x)) (fun d => q d * Ideal.ofBits .f32 0x3E000000#32) k x
      = Scalar.select (BitVec.ofBool (M x)) ((∑ d, k' x d * q d) * Ideal.ofBits .f32 0x3E000000#32) ⊥
    ∧ (M x = true → ∃ a : ℝ,
        Scalar.select (BitVec.ofBool (M x)) ((∑ d, k' x d * q d) * Ideal.ofBits .f32 0x3E000000#32) (⊥ : EReal) = a)
    ∧ (M x = false →
        Scalar.select (BitVec.ofBool (M x)) ((∑ d, k' x d * q d) * Ideal.ofBits .f32 0x3E000000#32) (⊥ : EReal) = ⊥) := by
  unfold score
  cases hM : M x with
  | false =>
    have e : ∀ u w : EReal, Scalar.select (BitVec.ofBool false) u w = w := fun _ _ => rfl
    simp only [hM, e]
    exact ⟨trivial, fun h => (by cases h), fun _ => trivial⟩
  | true =>
    choose a ha using hq
    choose b hb using hk x hM
    have e : ∀ u w : EReal, Scalar.select (BitVec.ofBool true) u w = u := fun _ _ => rfl
    simp only [hM, e, hkk x hM, ha, hb, eighth, ← EReal.coe_mul, ← coe_sum]
    refine ⟨congrArg _ ?_, fun _ => ⟨_, rfl⟩, fun h => (by cases h)⟩
    rw [Finset.sum_mul]
    exact Finset.sum_congr rfl fun d _ => by ring

end Cert.Weights

end
-- ==== Proof.Real.lean ====
module

public import proofs.«01_k».proof.Proof.Weights

@[expose] public section

set_option maxRecDepth 16384

noncomputable section

namespace Cert.Weights

open Idealize.ShloMosaic
open Cert.KernelIdeal.Attn (spin cosA sinA angle)

theorem theta : Ideal.ofBits .f32 0x48F42400#32 = ((500000 : ℝ) : EReal) := by
  simp [Ideal.ofBits, Ideal.ieee, -EReal.coe_mul]
  norm_num

theorem eight : Ideal.ofBits .f32 0x41000000#32 = ((8 : ℝ) : EReal) := by
  simp [Ideal.ofBits, Ideal.ieee, -EReal.coe_mul]
  norm_num

/-- Every angle is a real number. -/
theorem angle_real (p : Fin 2048) (l : Fin 8) : ∃ a : ℝ, angle (ix2 p l) = a := by
  pointwise [angle]
  rw [theta, eight]
  show ∃ a : ℝ, (((BitVec.ofNat 32 p.val).toInt : ℝ) : EReal) *
    Ideal.pow ((500000 : ℝ) : EReal) (Ideal.div (-(((BitVec.ofNat 32 l.val).toInt : ℝ) : EReal)) ((8 : ℝ) : EReal)) = a
  rw [Ideal.div_coe (by norm_num), ← EReal.coe_neg, ← EReal.coe_mul]
  exact ⟨_, (EReal.coe_mul _ _).symm⟩

theorem cosA_real (p : Fin 2048) (l : Fin 8) : ∃ a : ℝ, cosA p l = a := by
  obtain ⟨a, ha⟩ := angle_real p l
  exact ⟨Real.cos a, by unfold cosA; rw [ha]; rfl⟩

theorem sinA_real (p : Fin 2048) (l : Fin 8) : ∃ a : ℝ, sinA p l = a := by
  obtain ⟨a, ha⟩ := angle_real p l
  exact ⟨Real.sin a, by unfold sinA; rw [ha]; rfl⟩

/-- The rotary embedding of real numbers is real. -/
theorem spin_real (p : Fin 2048) (x : Fin 64 → EReal) (hx : ∀ d, ∃ a : ℝ, x d = a) (d : Fin 64) : ∃ a : ℝ, spin p x d = a := by
  choose y hy using hx
  choose c hc using cosA_real p
  choose s hs using sinA_real p
  unfold spin
  simp only [hy, hc, hs]
  by_cases h8 : d.val < 8
  · rw [dif_pos h8]
    exact ⟨_, by rw [← EReal.coe_mul, ← EReal.coe_mul, ← EReal.coe_sub]⟩
  · rw [dif_neg h8]
    by_cases h16 : d.val < 16
    · rw [dif_pos h16]
      exact ⟨_, by rw [← EReal.coe_mul, ← EReal.coe_mul, ← EReal.coe_add]⟩
    · rw [dif_neg h16]
      exact ⟨_, rfl⟩

end Cert.Weights

end
-- ==== Proof.Finite.lean ====
module

public import proofs.«01_k».proof.Proof.Weights
public import proofs.«01_k».proof.Defs
public import Idealize.ShloMosaic.Lib.ReduceAll

@[expose] public section

set_option maxRecDepth 16384

noncomputable section

namespace Cert.Finite

open Idealize.ShloMosaic Cert.Pre_finite

theorem pre_facts : Cert.Pre_finite.Facts where
  bcast_S_S8192x2048 := by decide
  reducesTo_S8192x2048_S_d0_1 := by decide
  h_S_ := by decide
  slices_S8192x512_S8192x256_0_0 := by decide
  bcast_S_S8192x256 := by decide
  reducesTo_S8192x256_S_d0_1 := by decide
  bcast_S_S32 := by decide
  reducesTo_S32_S_d0 := by decide

theorem inf_word : Ideal.ofBits .f32 0x7F800000#32 = (⊤ : EReal) := by
  simp [Ideal.ofBits, Ideal.ieee]

/-- A number whose absolute value is below `+∞` is real. -/
theorem real_of_abs (x : EReal) (h : (BitVec.ofBool (decide (max x (-x) < ⊤))) = 1#1) : ∃ a : ℝ, x = a := by
  have h' : max x (-x) < ⊤ := by
    by_contra hc
    rw [decide_eq_false hc] at h
    exact absurd h (by decide)
  induction x using EReal.rec with
  | bot => simp at h'
  | top => simp at h'
  | coe a => exact ⟨a, rfl⟩

instance : Subsingleton S_.Idx := ⟨fun _ _ => funext fun a => a.elim0⟩

variable [hF : Cert.Pre_finite.Facts]

/-- What the precondition says: the queries, the keys (columns below 256 of the key-value array) and the sinks are real. -/
theorem finite_real (x0 : FVec Ideal S8192x2048 .f32) (x1 : FVec Ideal S8192x512 .f32) (x2 : FVec Ideal S32 .f32)
    (h : Cert.Pre_finite.fn (F := Ideal) x0 x1 x2 = (fun _ => 1#1)) :
    (∀ i, ∃ a : ℝ, x0 i = a) ∧ (∀ (R : Fin 8192) (w : Fin 512), w.val < 256 → ∃ a : ℝ, x1 (ix2 R w) = a)
      ∧ ∀ i, ∃ a : ℝ, x2 i = a := by
  have h0 := congrFun h (fun a => a.elim0)
  dsimp only [fn] at h0
  obtain ⟨h01, h2⟩ := IntOp.andi_eq_one.1 h0
  obtain ⟨h0, h1⟩ := IntOp.andi_eq_one.1 h01
  have k0 := Host.reduce_andi_all _ _ _ _ _ h0
  have k1 := Host.reduce_andi_all _ _ _ _ _ h1
  have k2 := Host.reduce_andi_all _ _ _ _ _ h2
  refine ⟨fun i => real_of_abs _ ?_, fun R w hw => real_of_abs _ ?_, fun i => real_of_abs _ ?_⟩
  · have := k0 i
    rw [← inf_word]
    exact this
  · have := k1 (ix2 R (⟨w.val, hw⟩ : Fin 256))
    rw [← inf_word]
    refine Eq.trans (congrArg (fun z : EReal => BitVec.ofBool (decide (max z (-z) < Ideal.ofBits .f32 0x7F800000#32))) ?_) this
    refine congrArg x1 ?_
    idx_ext
  · have := k2 i
    rw [← inf_word]
    exact this

end Cert.Finite

end
-- ==== Proof.Agree.lean ====
module

public import proofs.«01_k».proof.Proof.Real
public import proofs.«01_k».proof.Proof.Finite

@[expose] public section

set_option maxRecDepth 16384

noncomputable section

namespace Cert.Agree

open Idealize.ShloMosaic Cert.Weights
open Cert.KernelIdeal (nD τ sig)
open Cert.KernelIdeal.Attn
open Cert.ReferenceIdeal.Attn (attendR snk scs v35_at v71_at v143_at v144_at v120_at v74_at v109_at v114_at v105_at v110_at v73_at)
open Cert.ReferenceIdeal.Read

variable (m : (ℓ : Loc nD τ sig) → Buf (Elt Ideal) ℓ)

/-- The kernel's rotated queries are the reference's. -/
theorem qrot_at (c : Dev nD) (b : Fin 4) (s : Fin 2048) (h : Fin 4) (g : Fin 8) (d : Fin 64) (R : Fin 8192) (w : Fin 2048)
    (hR : R.val = 2048 * b.val + s.val) (hw : w.val = 512 * h.val + 64 * g.val + d.val) :
    qrot m c R w = val_main_v35 (F := Ideal) (argQ m c) (ix5 b s h g d) := by
  have lR : 2048 * b.val + s.val < 8192 := by omega
  obtain rfl : R = ⟨2048 * b.val + s.val, lR⟩ := Fin.ext hR
  have lw : 512 * h.val + 64 * g.val + d.val < 2048 := by omega
  obtain rfl : w = ⟨512 * h.val + 64 * g.val + d.val, lw⟩ := Fin.ext hw
  rw [v35_at]
  unfold qrot
  have e1 : posOf (2048 * b.val + s.val) = s := Fin.ext (show (2048 * b.val + s.val) % 2048 = s.val by omega)
  have e2 : (⟨(512 * h.val + 64 * g.val + d.val) % 64, Nat.mod_lt _ (by decide)⟩ : Fin 64) = d :=
    Fin.ext (show (512 * h.val + 64 * g.val + d.val) % 64 = d.val by omega)
  rw [e1, e2]
  refine congrArg (fun f => spin s f d) (funext fun e => ?_)
  refine congrArg (argQ m c) (congrArg (ix2 _) (Fin.ext ?_))
  show 64 * ((512 * h.val + 64 * g.val + d.val) / 64) + e.val = 512 * h.val + 64 * g.val + e.val
  omega

/-- The kernel's rotated keys are the reference's. -/
theorem krot_at (c : Dev nD) (b : Fin 4) (s : Fin 2048) (h : Fin 4) (d : Fin 64) (R : Fin 8192) (w : Fin 256)
    (hR : R.val = 2048 * b.val + s.val) (hw : w.val = 64 * h.val + d.val) :
    krot m c R w = val_main_v71 (F := Ideal) (argKV m c) (ix4 b s h d) := by
  have lR : 2048 * b.val + s.val < 8192 := by omega
  obtain rfl : R = ⟨2048 * b.val + s.val, lR⟩ := Fin.ext hR
  have lw : 64 * h.val + d.val < 256 := by omega
  obtain rfl : w = ⟨64 * h.val + d.val, lw⟩ := Fin.ext hw
  rw [v71_at]
  unfold krot
  have e1 : posOf (2048 * b.val + s.val) = s := Fin.ext (show (2048 * b.val + s.val) % 2048 = s.val by omega)
  have e2 : (⟨(64 * h.val + d.val) % 64, Nat.mod_lt _ (by decide)⟩ : Fin 64) = d :=
    Fin.ext (show (64 * h.val + d.val) % 64 = d.val by omega)
  rw [e1, e2]
  refine congrArg (fun f => spin s f d) (funext fun e => ?_)
  refine congrArg (argKV m c) (congrArg (ix2 _) (Fin.ext ?_))
  show 64 * ((64 * h.val + d.val) / 64) + e.val = 64 * h.val + e.val
  omega

/-- The row a visible column of a block's keys comes from. -/
theorem keyRow_val (b : Fin 4) (i : Fin 16) (r : Fin 128) (x : Fin 256) (hs : sees i.val r.val x.val) (t : ℕ) (ht : t < 64)
    (e : t = 16 * b.val + i.val) : (keyRow t ht x).val = 2048 * b.val + (128 * i.val + x.val - 128) ∧ 128 ≤ 128 * i.val + x.val := by
  subst e
  obtain ⟨-, -, h3⟩ := hs
  unfold keyRow
  have := b.isLt
  have := i.isLt
  have := x.isLt
  by_cases hx : x.val < 128
  · rw [if_pos hx]
    have h4 : ¬ (16 * b.val + i.val) % 16 = 0 := by omega
    have h5 : before (16 * b.val + i.val) = 16 * b.val + i.val - 1 := if_neg h4
    refine ⟨?_, by omega⟩
    show (128 * before (16 * b.val + i.val) + x.val) % 8192 = _
    rw [h5]
    omega
  · rw [if_neg hx]
    refine ⟨?_, by omega⟩
    show (128 * (16 * b.val + i.val) + (x.val - 128)) % 8192 = _
    omega

section
variable (c : Dev nD) (hq : ∀ i, ∃ a : ℝ, argQ m c i = a)
  (hk : ∀ (R : Fin 8192) (w : Fin 512), w.val < 256 → ∃ a : ℝ, argKV m c (ix2 R w) = a)
  (hs : ∀ i, ∃ a : ℝ, argS m c i = a)

include hq in
theorem qrot_real (R : Fin 8192) (w : Fin 2048) : ∃ a : ℝ, qrot m c R w = a := spin_real _ _ (fun _ => hq _) _

include hk in
theorem krot_real (R : Fin 8192) (w : Fin 256) : ∃ a : ℝ, krot m c R w = a := spin_real _ _ (fun d => hk _ _ (show 64 * (w.val / 64) + d.val < 256 by omega)) _

include hq hk hs in
/-- The kernel's attention, at a column of a row, is the reference's. -/
theorem out_at (b : Fin 4) (i : Fin 16) (r : Fin 128) (h : Fin 4) (g : Fin 8) (d : Fin 64) (R : Fin 8192) (w : Fin 2048)
    (hR : R.val = 2048 * b.val + (128 * i.val + r.val)) (hw : w.val = 512 * h.val + 64 * g.val + d.val) :
    outAt m c R w = val_main_v143 (F := Ideal) (argQ m c) (argKV m c) (argS m c) (ix2 R w) := by
  have lR : 2048 * b.val + (128 * i.val + r.val) < 8192 := by omega
  obtain rfl : R = ⟨2048 * b.val + (128 * i.val + r.val), lR⟩ := Fin.ext hR
  have lw : 512 * h.val + 64 * g.val + d.val < 2048 := by omega
  obtain rfl : w = ⟨512 * h.val + 64 * g.val + d.val, lw⟩ := Fin.ext hw
  rw [v143_at]
  have t1 : (2048 * b.val + (128 * i.val + r.val)) / 128 = 16 * b.val + i.val := by omega
  have t2 : (2048 * b.val + (128 * i.val + r.val)) / 128 % 16 = i.val := by omega
  have t3 : (2048 * b.val + (128 * i.val + r.val)) % 128 = r.val := by omega
  have t4 : (512 * h.val + 64 * g.val + d.val) / 64 = 8 * h.val + g.val := by omega
  have t5 : (512 * h.val + 64 * g.val + d.val) / 512 = h.val := by omega
  have t6 : (512 * h.val + 64 * g.val + d.val) % 64 = d.val := by omega
  have es : argS m c (ix1 (⟨(512 * h.val + 64 * g.val + d.val) / 64, by omega⟩ : Fin 32)) = snk (argS m c) h g := by
    unfold snk
    refine congrArg (argS m c) (congrArg ix1 (Fin.ext ?_))
    show (512 * h.val + 64 * g.val + d.val) / 64 = 8 * h.val + g.val
    exact t4
  unfold outAt
  simp only [t2, t3]
  obtain ⟨s, hs'⟩ := hs (ix1 (⟨(512 * h.val + 64 * g.val + d.val) / 64, by omega⟩ : Fin 32))
  rw [← es, hs']
  have hvis := fun (x : Fin 256) (hx : decide (sees i.val r.val x.val) = true) =>
    keyRow_val b i r x (of_decide_eq_true hx) _ (show (2048 * b.val + (128 * i.val + r.val)) / 128 < 64 by omega) t1
  have sc := scores_eq (fun x => decide (sees i.val r.val x.val))
    (fun e => qrot m c ⟨2048 * b.val + (128 * i.val + r.val), by omega⟩ ⟨64 * ((512 * h.val + 64 * g.val + d.val) / 64) + e.val, by omega⟩)
    (fun x e => krot m c (keyRow ((2048 * b.val + (128 * i.val + r.val)) / 128) (by omega) x)
      ⟨64 * ((512 * h.val + 64 * g.val + d.val) / 512) + e.val, by omega⟩)
    (fun x e => val_main_v109 (F := Ideal) (argKV m c) (ix5 b i x h e))
    (fun e => qrot_real m c hq _ _) (fun x _ e => krot_real m c hk _ _) (fun x hx e => by
      obtain ⟨k1, k2⟩ := hvis x hx
      rw [v109_at, v105_at]
      refine (dif_pos k2).trans ?_
      refine (krot_at m c b _ h e _ _ k1 ?_).symm
      show 64 * ((512 * h.val + 64 * g.val + d.val) / 512) + e.val = 64 * h.val + e.val
      omega)
  have sR : ∀ x, scs (argQ m c) (argKV m c) b i h g r x
      = Scalar.select (BitVec.ofBool (decide (sees i.val r.val x.val)))
          ((∑ e : Fin 64, val_main_v109 (F := Ideal) (argKV m c) (ix5 b i x h e)
            * qrot m c ⟨2048 * b.val + (128 * i.val + r.val), by omega⟩ ⟨64 * ((512 * h.val + 64 * g.val + d.val) / 64) + e.val, by omega⟩)
            * Ideal.ofBits .f32 0x3E000000#32) ⊥ := fun x => by
    unfold scs
    rw [v120_at]
    refine congrArg (fun f : EReal => Scalar.select _ (f * _) ⊥) (Finset.sum_congr rfl fun e _ => congrArg (_ * ·) ?_)
    rw [v74_at]
    refine (qrot_at m c b _ h g e _ _ rfl ?_).symm
    show 64 * ((512 * h.val + 64 * g.val + d.val) / 64) + e.val = 512 * h.val + 64 * g.val + e.val
    omega
  have e : (scs (argQ m c) (argKV m c) b i h g r) = _ := funext fun x => (sR x).trans (sc x).1.symm
  rw [e]
  refine attend_attendR s (fun x => decide (sees i.val r.val x.val)) _ _ _ (fun x hx => ?_) (fun x hx => ?_) fun x hx => ?_
  · obtain ⟨a, ha⟩ := (sc x).2.1 hx
    exact ⟨a, (sc x).1.trans ha⟩
  · exact (sc x).1.trans ((sc x).2.2 hx)
  · obtain ⟨k1, k2⟩ := hvis x hx
    rw [v114_at, v110_at]
    refine (dif_pos k2).trans ?_
    rw [v73_at]
    refine congrArg (argKV m c) (congr (congrArg ix2 (Fin.ext k1.symm)) (Fin.ext ?_))
    show 256 + (64 * h.val + d.val)
      = 256 + (64 * ((512 * h.val + 64 * g.val + d.val) / 512) + (512 * h.val + 64 * g.val + d.val) % 64)
    omega

include hq hk hs in
/-- The kernel's attention is the reference's. -/
theorem out_all : (fun i => outAt m c (i 0) (i 1) : FVec Ideal Cert.KernelIdeal.S8192x2048 .f32)
    = val_main_v143 (F := Ideal) (argQ m c) (argKV m c) (argS m c) := by
  refine funext fun j => ?_
  obtain ⟨R, w, rfl⟩ : ∃ (R : Fin 8192) (w : Fin 2048), j = ix2 R w := ⟨j 0, j 1, eq_ix2 j⟩
  have := R.isLt
  have := w.isLt
  exact out_at m c hq hk hs ⟨R.val / 2048, by omega⟩ ⟨R.val % 2048 / 128, by omega⟩ ⟨R.val % 128, by omega⟩ ⟨w.val / 512, by omega⟩
    ⟨w.val % 512 / 64, by omega⟩ ⟨w.val % 64, by omega⟩ R w
    (show R.val = 2048 * (R.val / 2048) + (128 * (R.val % 2048 / 128) + R.val % 128) by omega)
    (show w.val = 512 * (w.val / 512) + 64 * (w.val % 512 / 64) + w.val % 64 by omega)

end

/-- The kernel's rotated keys are the reference's. -/
theorem krot_all (c : Dev nD) : (fun i => krot m c (i 0) (i 1) : FVec Ideal Cert.KernelIdeal.S8192x256 .f32)
    = val_main_v144 (F := Ideal) (argKV m c) := by
  refine funext fun j => ?_
  obtain ⟨R, w, rfl⟩ : ∃ (R : Fin 8192) (w : Fin 256), j = ix2 R w := ⟨j 0, j 1, eq_ix2 j⟩
  have := R.isLt
  have := w.isLt
  refine (krot_at m c ⟨R.val / 2048, by omega⟩ ⟨R.val % 2048, by omega⟩ ⟨w.val / 64, by omega⟩ ⟨w.val % 64, by omega⟩ R w
    (show R.val = 2048 * (R.val / 2048) + R.val % 2048 by omega) (show w.val = 64 * (w.val / 64) + w.val % 64 by omega)).trans ?_
  rw [← v144_at]
  refine congrArg (val_main_v144 (F := Ideal) (argKV m c)) (congr (congrArg ix2 (Fin.ext ?_)) (Fin.ext ?_))
  · show 2048 * (R.val / 2048) + R.val % 2048 = R.val
    omega
  · show 64 * (w.val / 64) + w.val % 64 = w.val
    omega

end Cert.Agree

end
-- ==== Proof.AttnClaims.lean ====
/- The claims of the attention: the three frames, the idealization, and the equality of its two results with the
   reference's. -/
module

public import proofs.«01_k».proof.Proof.Agree
public import proofs.«01_k».proof.Proof.KrotOut
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.AttnClaims

open Idealize.ShloMosaic Idealize.SL.Sem

instance : Cert.Pre_finite.Facts := Cert.Finite.pre_facts

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) :=
  fun m ρ _ => Cert.KernelIdeal.Gen.frame m ρ

theorem frame_pi_pre : Cert.quiescent_KernelIdeal_pre_finite (hKernelIdeal := Cert.KernelIdeal.Gen.facts)
    (hPre_finite := Cert.Finite.pre_facts) :=
  fun m ρ _ => Cert.KernelIdeal.Gen.frame m ρ

/-- The reference's run leaves its arguments, and a program without semaphores ends with every counter at zero. -/
theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ri_pre : Cert.quiescent_ReferenceIdeal_pre_finite (hReferenceIdeal := Cert.ReferenceIdeal.Gen.facts)
    (hPre_finite := Cert.Finite.pre_facts) :=
  fun m ρ _ => frame_ri m ρ trivial

/-- The one replaced constant: the mask's number is `-∞`. -/
theorem preserves : Cert.preserves_Kernel_KernelIdeal :=
  IdealRules.named_const.statement Cert.KernelIdeal.κ "mask" .f32 0xF149F2CA#32 ⊥ rfl

/-- From real queries, keys and sinks the kernel's attention is the reference's, and its rotated keys are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Finite.pre_facts) := by
  intro m ρ m' ρ' hpre hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hq, hk, hs⟩ := Cert.Finite.finite_real (hF := Cert.Finite.pre_facts) _ _ _ (hpre c)
    obtain ⟨e0, e1, e2⟩ := hagree c
    rw [Cert.ReferenceIdeal.Read.val_main_v143_eq, e0, e1, e2]
    exact ((Cert.KernelIdeal.Attn.attn_final m c).trans (Cert.Agree.out_all m c hq hk hs)).symm
  · obtain ⟨e0, e1, e2⟩ := hagree c
    rw [Cert.ReferenceIdeal.Read.val_main_v144_eq, e1]
    exact ((Cert.KernelIdeal.Attn.krot_final m c).trans (Cert.Agree.krot_all m c)).symm

end Cert.AttnClaims

end
-- ==== Proof.Layer.lean ====
module

public import Idealize.ShloMosaic.Lib.Pointwise
public import Idealize.ShloMosaic.Lib.Pipeline.ValueKit

@[expose] public section

noncomputable section

namespace Cert.Layer

open Idealize.ShloMosaic

/-- Column `j` of a block of `n` columns that starts at column `a`. -/
def shift {n N : ℕ} (a : ℕ) (h : a + n ≤ N) (j : Fin n) : Fin N := ⟨a + j.val, by omega⟩

/-- The sequence of a row, four sequences of 2048 rows each. -/
def seqOf (R : Fin 8192) : Fin 4 := ⟨R.val / 2048, by omega⟩

/-- A row's position in its sequence. -/
def posOf (R : Fin 8192) : Fin 2048 := ⟨R.val % 2048, by omega⟩

/-- A sample row's sequence and position: 128 sequences of 8 rows each. -/
def seqS (R : Fin 1024) : Fin 128 := ⟨R.val / 8, by omega⟩
def posS (R : Fin 1024) : Fin 8 := ⟨R.val % 8, by omega⟩

/-- An entry of the product of the layer's rows with a weight. -/
def prod {M N : ℕ} (x : FVec Ideal ⟨2, ![M, 4096]⟩ .bf16) (w : FVec Ideal ⟨2, ![4096, N]⟩ .f32) (R : Fin M) (j : Fin N) : EReal :=
  ∑ k : Fin 4096, x (ix2 R k) * w (ix2 k j)

/-- The number one of the programs' text. -/
abbrev one : EReal := Scalar.ofBits (F := Ideal) .f32 0x3F800000#32

/-- A modulation: column `n` of the condition's activation times the weight, plus the bias. -/
def ada {G : ℕ} (x : FVec Ideal ⟨2, ![G, 4096]⟩ .f32) (w : FVec Ideal ⟨2, ![4096, 24576]⟩ .f32) (b : Fin 24576 → EReal)
    (g : Fin G) (n : Fin 24576) : EReal :=
  (∑ k : Fin 4096, x (ix2 g k) * Ideal.logistic (x (ix2 g k)) * w (ix2 k n)) + b n

/-- Column `d` of the `p`-th of the six modulations. -/
def part (p : Fin 6) (d : Fin 4096) : Fin 24576 := ⟨4096 * p.val + d.val, by omega⟩

/-- A modulated entry: the row's, scaled by one plus its sequence's scale, plus its sequence's shift. -/
def modul {G T : ℕ} (x : FVec Ideal ⟨3, ![G, T, 4096]⟩ .f32) (sc sh : FVec Ideal ⟨3, ![G, 1, 4096]⟩ .f32) (g : Fin G) (t : Fin T)
    (d : Fin 4096) : EReal :=
  x (ix3 g t d) * (one + sc (ix3 g 0 d)) + sh (ix3 g 0 d)

/-- The rows the in-projection reads: the input's, modulated by the second and the first part of its condition's activations. -/
def step {G T : ℕ} (x : FVec Ideal ⟨3, ![G, T, 4096]⟩ .f32) (c : FVec Ideal ⟨2, ![G, 4096]⟩ .f32)
    (w : FVec Ideal ⟨2, ![4096, 24576]⟩ .f32) (b : FVec Ideal ⟨1, ![24576]⟩ .f32) (g : Fin G) (t : Fin T) (d : Fin 4096) : EReal :=
  x (ix3 g t d) * (one + ada c w (fun n => b (ix1 n)) g (part 1 d)) + ada c w (fun n => b (ix1 n)) g (part 0 d)

/-- An entry of the in-projection. -/
def inp {G T : ℕ} (x : FVec Ideal ⟨3, ![G, T, 4096]⟩ .f32) (c : FVec Ideal ⟨2, ![G, 4096]⟩ .f32)
    (w : FVec Ideal ⟨2, ![4096, 24576]⟩ .f32) (b : FVec Ideal ⟨1, ![24576]⟩ .f32) (wi : FVec Ideal ⟨2, ![4096, 4608]⟩ .f32)
    (g : Fin G) (t : Fin T) (j : Fin 4608) : EReal :=
  ∑ k : Fin 4096, step x c w b g t k * wi (ix2 k j)

/-- The in-projection's column that holds entry `e` of value head `h`. -/
def vcol (h : Fin 4) (e : Fin 64) : Fin 4608 := ⟨2304 + (h.val * 64 + e.val), by omega⟩

/-- Arrays that agree at every index written by its coordinates are equal. -/
theorem ext3 {a b c : ℕ} {f g : FVec Ideal ⟨3, ![a, b, c]⟩ .f32} (h : ∀ r k d, f (ix3 r k d) = g (ix3 r k d)) : f = g := by
  funext i
  have e : i = ix3 (i 0) (i 1) (i 2) := by funext x; fin_cases x <;> rfl
  rw [e]
  exact h _ _ _

theorem ext4 {a b c d : ℕ} {f g : FVec Ideal ⟨4, ![a, b, c, d]⟩ .f32} (h : ∀ r k l e, f (ix4 r k l e) = g (ix4 r k l e)) : f = g := by
  funext i
  have e : i = ix4 (i 0) (i 1) (i 2) (i 3) := by funext x; fin_cases x <;> rfl
  rw [e]
  exact h _ _ _ _

/-- The numbers of the normalization: the residual's scale, the row's length, the variance's guard. -/
abbrev scale : EReal := Scalar.ofBits (F := Ideal) .f32 0x3F9837F0#32
abbrev len : EReal := Scalar.ofBits (F := Ideal) .f32 0x45800000#32
abbrev guard : EReal := Scalar.ofBits (F := Ideal) .f32 0x3727C5AC#32

/-- The residual row: the scaled input and the gated output projection. -/
def resid (x : FVec Ideal ⟨3, ![4, 2048, 4096]⟩ .f32) (y : FVec Ideal ⟨2, ![8192, 4096]⟩ .f32) (g : FVec Ideal ⟨3, ![4, 1, 4096]⟩ .f32)
    (R : Fin 8192) (k : Fin 4096) : EReal :=
  scale * x (ix3 (seqOf R) (posOf R) k) + g (ix3 (seqOf R) 0 k) * y (ix2 R k)

/-- A row's mean, and its variance: the mean of the squared distances from it. -/
def mean (v : Fin 4096 → EReal) : EReal := Ideal.div (∑ k, v k) len
def var (v : Fin 4096 → EReal) : EReal := mean fun k => (v k - mean v) * (v k - mean v)

/-- A row normalized, with its gain and offset. -/
def norm (v g b : Fin 4096 → EReal) (d : Fin 4096) : EReal := (v d - mean v) * Ideal.rsqrt (var v + guard) * g d + b d

/-- An entry of the two-part product of the output projection: the attention's columns with the weight's upper half, the
    pool's with its lower half. -/
def two (a p : FVec Ideal ⟨2, ![8192, 2048]⟩ .bf16) (w : FVec Ideal ⟨2, ![4096, 4096]⟩ .f32) (R : Fin 8192) (j : Fin 4096) : EReal :=
  (∑ k : Fin 2048, a (ix2 R k) * w (ix2 (shift (n := 2048) 0 (by decide) k) j))
    + ∑ k : Fin 2048, p (ix2 R k) * w (ix2 (shift (n := 2048) 2048 (by decide) k) j)

end Cert.Layer

end
-- ==== Proof.InMmS.lean ====
module

public import proofs.«01_k».proof.Proof.Gen.Kernel2Ideal.Frame
public import proofs.«01_k».proof.Proof.Layer
public import Idealize.ShloMosaic.Lib.Pointwise
public import Idealize.ShloMosaic.Lib.Pipeline.ValueKit

@[expose] public section

set_option maxRecDepth 16384

noncomputable section

namespace Cert.Kernel2Ideal.Values

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b))

theorem out6 (x : Vec Ideal S1024x4096 .bf16) (w : Vec Ideal S4096x512 .f32) :
    out6_2 (F := Ideal) x w = k6_pay1 (F := Ideal) x w := by
  unfold out6_2
  rw [View.canon_cons_unit_lit _ _ _ (by decide), View.ld_unit_lit _ _ (by decide), View.ld_unit_lit _ _ (by decide)]

theorem tile6 (x : Vec Ideal S1024x4096 .bf16) (w : Vec Ideal S4096x512 .f32) (r : Fin 1024) (j : Fin 512) :
    k6_pay1 (F := Ideal) x w (ix2 r j) = ∑ k : Fin 4096, x (ix2 r k) * w (ix2 k j) := by
  pointwise [k6_pay1]

theorem idx6 : ∀ t : Fin cfg6.N, win6_0.index t = ![t.val / 4, 0] ∧ win6_1.index t = ![0, t.val % 4]
    ∧ win6_2.index t = ![t.val / 4, t.val % 4] :=
  (by decide +kernel : ∀ t : Fin grid6.N, _)

theorem lt6 (t : Fin cfg6.N) : t.val < 4 := t.isLt

theorem in6 (c : Dev nD) (t : Fin cfg6.N) (r : Fin 1024) (k : Fin 4096) :
    iblk6 V c 0 t (ix2 r k) = V c main_v27 (ix2 (⟨1024 * (t.val / 4) + r.val, by have := lt6 t; omega⟩ : Fin 1024) k) := by
  blk_point [iblk6, idx6 t]

theorem w6 (c : Dev nD) (t : Fin cfg6.N) (k : Fin 4096) (j : Fin 512) :
    iblk6 V c 1 t (ix2 k j) = V c main_arg8 (ix2 k (⟨512 * (t.val % 4) + j.val, by omega⟩ : Fin 4608)) := by
  blk_point [iblk6, idx6 t]

/-- The sample's queries' call leaves the product with the weight's first 2048 columns. -/
theorem qs_final (c : Dev nD) : (dat6 V c).arrAt 2 cfg6.N = (fun i =>
      Layer.prod (V c main_v27) (V c main_arg8) (i 0) (Layer.shift (n := 2048) 0 (by decide) (i 1))
    : FVec Ideal S1024x2048 .f32) := by
  refine (dat6 V c).arrAt_eq_of_covers 2 _ (by decide +kernel) fun t _ y => ?_
  blk_simp
  rw [after6_2, out6]
  have hy0 : (y 0).val < 1024 := (y 0).isLt
  have hy1 : (y 1).val < 512 := (y 1).isLt
  have ht := lt6 t
  have e : (win6_2.blk t).view.emb y
      = ix2 (⟨1024 * (t.val / 4) + (y 0).val, by omega⟩ : Fin 1024) (⟨512 * (t.val % 4) + (y 1).val, by omega⟩ : Fin 2048) := by
    blk_ext [idx6 t]
  rw [e]
  refine Eq.trans ?_ ((tile6 (iblk6 V c 0 t) (iblk6 V c 1 t) ⟨(y 0).val, hy0⟩ ⟨(y 1).val, hy1⟩).trans ?_)
  · refine congrArg (k6_pay1 (F := Ideal) (iblk6 V c 0 t) (iblk6 V c 1 t)) ?_
    idx_ext
  · unfold Layer.prod
    refine Finset.sum_congr rfl fun k _ => ?_
    rw [in6, w6]
    refine congrArg₂ (· * ·) rfl (congrArg _ (congrArg (ix2 k) (Fin.ext ?_)))
    show 512 * (t.val % 4) + (y 1).val = 0 + (512 * (t.val % 4) + (y 1).val)
    omega

theorem out7 (x : Vec Ideal S1024x4096 .bf16) (w : Vec Ideal S4096x512 .f32) :
    out7_2 (F := Ideal) x w = k7_pay1 (F := Ideal) x w := by
  unfold out7_2
  rw [View.canon_cons_unit_lit _ _ _ (by decide), View.ld_unit_lit _ _ (by decide), View.ld_unit_lit _ _ (by decide)]

theorem tile7 (x : Vec Ideal S1024x4096 .bf16) (w : Vec Ideal S4096x512 .f32) (r : Fin 1024) (j : Fin 512) :
    k7_pay1 (F := Ideal) x w (ix2 r j) = ∑ k : Fin 4096, x (ix2 r k) * w (ix2 k j) := by
  pointwise [k7_pay1]

theorem idx7 : ∀ t : Fin cfg7.N, win7_0.index t = ![t.val / 1, 0] ∧ win7_1.index t = ![0, 4 + t.val % 1]
    ∧ win7_2.index t = ![t.val / 1, t.val % 1] :=
  (by decide +kernel : ∀ t : Fin grid7.N, _)

theorem lt7 (t : Fin cfg7.N) : t.val < 1 := t.isLt

theorem in7 (c : Dev nD) (t : Fin cfg7.N) (r : Fin 1024) (k : Fin 4096) :
    iblk7 V c 0 t (ix2 r k) = V c main_v27 (ix2 (⟨1024 * (t.val / 1) + r.val, by have := lt7 t; omega⟩ : Fin 1024) k) := by
  blk_point [iblk7, idx7 t]

theorem w7 (c : Dev nD) (t : Fin cfg7.N) (k : Fin 4096) (j : Fin 512) :
    iblk7 V c 1 t (ix2 k j) = V c main_arg8 (ix2 k (⟨512 * (4 + t.val % 1) + j.val, by omega⟩ : Fin 4608)) := by
  blk_point [iblk7, idx7 t]

/-- The sample's keys' and values' call leaves the product with the weight's next 512 columns. -/
theorem kvs_final (c : Dev nD) : (dat7 V c).arrAt 2 cfg7.N = (fun i =>
      Layer.prod (V c main_v27) (V c main_arg8) (i 0) (Layer.shift (n := 512) 2048 (by decide) (i 1))
    : FVec Ideal S1024x512 .f32) := by
  refine (dat7 V c).arrAt_eq_of_covers 2 _ (by decide +kernel) fun t _ y => ?_
  blk_simp
  rw [after7_2, out7]
  have hy0 : (y 0).val < 1024 := (y 0).isLt
  have hy1 : (y 1).val < 512 := (y 1).isLt
  have ht := lt7 t
  have e : (win7_2.blk t).view.emb y
      = ix2 (⟨1024 * (t.val / 1) + (y 0).val, by omega⟩ : Fin 1024) (⟨512 * (t.val % 1) + (y 1).val, by omega⟩ : Fin 512) := by
    blk_ext [idx7 t]
  rw [e]
  refine Eq.trans ?_ ((tile7 (iblk7 V c 0 t) (iblk7 V c 1 t) ⟨(y 0).val, hy0⟩ ⟨(y 1).val, hy1⟩).trans ?_)
  · refine congrArg (k7_pay1 (F := Ideal) (iblk7 V c 0 t) (iblk7 V c 1 t)) ?_
    idx_ext
  · unfold Layer.prod
    refine Finset.sum_congr rfl fun k _ => ?_
    rw [in7, w7]
    refine congrArg₂ (· * ·) rfl (congrArg _ (congrArg (ix2 k) (Fin.ext ?_)))
    show 512 * (4 + t.val % 1) + (y 1).val = 2048 + (512 * (t.val % 1) + (y 1).val)
    omega

theorem out8 (x : Vec Ideal S1024x4096 .bf16) (w : Vec Ideal S4096x512 .f32) :
    out8_2 (F := Ideal) x w = k8_pay1 (F := Ideal) x w := by
  unfold out8_2
  rw [View.canon_cons_unit_lit _ _ _ (by decide), View.ld_unit_lit _ _ (by decide), View.ld_unit_lit _ _ (by decide)]

theorem tile8 (x : Vec Ideal S1024x4096 .bf16) (w : Vec Ideal S4096x512 .f32) (r : Fin 1024) (j : Fin 512) :
    k8_pay1 (F := Ideal) x w (ix2 r j) = ∑ k : Fin 4096, x (ix2 r k) * w (ix2 k j) := by
  pointwise [k8_pay1]

theorem idx8 : ∀ t : Fin cfg8.N, win8_0.index t = ![t.val / 4, 0] ∧ win8_1.index t = ![0, 5 + t.val % 4]
    ∧ win8_2.index t = ![t.val / 4, t.val % 4] :=
  (by decide +kernel : ∀ t : Fin grid8.N, _)

theorem lt8 (t : Fin cfg8.N) : t.val < 4 := t.isLt

theorem in8 (c : Dev nD) (t : Fin cfg8.N) (r : Fin 1024) (k : Fin 4096) :
    iblk8 V c 0 t (ix2 r k) = V c main_v27 (ix2 (⟨1024 * (t.val / 4) + r.val, by have := lt8 t; omega⟩ : Fin 1024) k) := by
  blk_point [iblk8, idx8 t]

theorem w8 (c : Dev nD) (t : Fin cfg8.N) (k : Fin 4096) (j : Fin 512) :
    iblk8 V c 1 t (ix2 k j) = V c main_arg8 (ix2 k (⟨512 * (5 + t.val % 4) + j.val, by omega⟩ : Fin 4608)) := by
  blk_point [iblk8, idx8 t]

/-- The sample's pool input's call leaves the product with the weight's last 2048 columns. -/
theorem us_final (c : Dev nD) : (dat8 V c).arrAt 2 cfg8.N = (fun i =>
      Layer.prod (V c main_v27) (V c main_arg8) (i 0) (Layer.shift (n := 2048) 2560 (by decide) (i 1))
    : FVec Ideal S1024x2048 .f32) := by
  refine (dat8 V c).arrAt_eq_of_covers 2 _ (by decide +kernel) fun t _ y => ?_
  blk_simp
  rw [after8_2, out8]
  have hy0 : (y 0).val < 1024 := (y 0).isLt
  have hy1 : (y 1).val < 512 := (y 1).isLt
  have ht := lt8 t
  have e : (win8_2.blk t).view.emb y
      = ix2 (⟨1024 * (t.val / 4) + (y 0).val, by omega⟩ : Fin 1024) (⟨512 * (t.val % 4) + (y 1).val, by omega⟩ : Fin 2048) := by
    blk_ext [idx8 t]
  rw [e]
  refine Eq.trans ?_ ((tile8 (iblk8 V c 0 t) (iblk8 V c 1 t) ⟨(y 0).val, hy0⟩ ⟨(y 1).val, hy1⟩).trans ?_)
  · refine congrArg (k8_pay1 (F := Ideal) (iblk8 V c 0 t) (iblk8 V c 1 t)) ?_
    idx_ext
  · unfold Layer.prod
    refine Finset.sum_congr rfl fun k _ => ?_
    rw [in8, w8]
    refine congrArg₂ (· * ·) rfl (congrArg _ (congrArg (ix2 k) (Fin.ext ?_)))
    show 512 * (5 + t.val % 4) + (y 1).val = 2560 + (512 * (t.val % 4) + (y 1).val)
    omega

end Cert.Kernel2Ideal.Values

end
-- ==== Proof.InMm.lean ====
module

public import proofs.«01_k».proof.Proof.Gen.Kernel2Ideal.Frame
public import proofs.«01_k».proof.Proof.Layer
public import Idealize.ShloMosaic.Lib.Pointwise
public import Idealize.ShloMosaic.Lib.Pipeline.ValueKit

@[expose] public section

set_option maxRecDepth 16384

noncomputable section

namespace Cert.Kernel2Ideal.Values

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b))

theorem out2 (x : Vec Ideal S1024x4096 .bf16) (w : Vec Ideal S4096x512 .f32) :
    out2_2 (F := Ideal) x w = k2_pay1 (F := Ideal) x w := by
  unfold out2_2
  rw [View.canon_cons_unit_lit _ _ _ (by decide), View.ld_unit_lit _ _ (by decide), View.ld_unit_lit _ _ (by decide)]

theorem tile2 (x : Vec Ideal S1024x4096 .bf16) (w : Vec Ideal S4096x512 .f32) (r : Fin 1024) (j : Fin 512) :
    k2_pay1 (F := Ideal) x w (ix2 r j) = ∑ k : Fin 4096, x (ix2 r k) * w (ix2 k j) := by
  pointwise [k2_pay1]

theorem idx2 : ∀ t : Fin cfg2.N, win2_0.index t = ![t.val / 4, 0] ∧ win2_1.index t = ![0, t.val % 4]
    ∧ win2_2.index t = ![t.val / 4, t.val % 4] :=
  (by decide +kernel : ∀ t : Fin grid2.N, _)

theorem lt2 (t : Fin cfg2.N) : t.val < 32 := t.isLt

theorem in2 (c : Dev nD) (t : Fin cfg2.N) (r : Fin 1024) (k : Fin 4096) :
    iblk2 V c 0 t (ix2 r k) = V c main_v16 (ix2 (⟨1024 * (t.val / 4) + r.val, by have := lt2 t; omega⟩ : Fin 8192) k) := by
  blk_point [iblk2, idx2 t]

theorem w2 (c : Dev nD) (t : Fin cfg2.N) (k : Fin 4096) (j : Fin 512) :
    iblk2 V c 1 t (ix2 k j) = V c main_arg8 (ix2 k (⟨512 * (t.val % 4) + j.val, by omega⟩ : Fin 4608)) := by
  blk_point [iblk2, idx2 t]

/-- The queries' call leaves the product with the weight's first 2048 columns. -/
theorem q_final (c : Dev nD) : (dat2 V c).arrAt 2 cfg2.N = (fun i =>
      Layer.prod (V c main_v16) (V c main_arg8) (i 0) (Layer.shift (n := 2048) 0 (by decide) (i 1))
    : FVec Ideal S8192x2048 .f32) := by
  refine (dat2 V c).arrAt_eq_of_covers 2 _ (by decide +kernel) fun t _ y => ?_
  blk_simp
  rw [after2_2, out2]
  have hy0 : (y 0).val < 1024 := (y 0).isLt
  have hy1 : (y 1).val < 512 := (y 1).isLt
  have ht := lt2 t
  have e : (win2_2.blk t).view.emb y
      = ix2 (⟨1024 * (t.val / 4) + (y 0).val, by omega⟩ : Fin 8192) (⟨512 * (t.val % 4) + (y 1).val, by omega⟩ : Fin 2048) := by
    blk_ext [idx2 t]
  rw [e]
  refine Eq.trans ?_ ((tile2 (iblk2 V c 0 t) (iblk2 V c 1 t) ⟨(y 0).val, hy0⟩ ⟨(y 1).val, hy1⟩).trans ?_)
  · refine congrArg (k2_pay1 (F := Ideal) (iblk2 V c 0 t) (iblk2 V c 1 t)) ?_
    idx_ext
  · unfold Layer.prod
    refine Finset.sum_congr rfl fun k _ => ?_
    rw [in2, w2]
    refine congrArg₂ (· * ·) rfl (congrArg _ (congrArg (ix2 k) (Fin.ext ?_)))
    show 512 * (t.val % 4) + (y 1).val = 0 + (512 * (t.val % 4) + (y 1).val)
    omega

theorem out3 (x : Vec Ideal S1024x4096 .bf16) (w : Vec Ideal S4096x512 .f32) :
    out3_2 (F := Ideal) x w = k3_pay1 (F := Ideal) x w := by
  unfold out3_2
  rw [View.canon_cons_unit_lit _ _ _ (by decide), View.ld_unit_lit _ _ (by decide), View.ld_unit_lit _ _ (by decide)]

theorem tile3 (x : Vec Ideal S1024x4096 .bf16) (w : Vec Ideal S4096x512 .f32) (r : Fin 1024) (j : Fin 512) :
    k3_pay1 (F := Ideal) x w (ix2 r j) = ∑ k : Fin 4096, x (ix2 r k) * w (ix2 k j) := by
  pointwise [k3_pay1]

theorem idx3 : ∀ t : Fin cfg3.N, win3_0.index t = ![t.val / 1, 0] ∧ win3_1.index t = ![0, 4 + t.val % 1]
    ∧ win3_2.index t = ![t.val / 1, t.val % 1] :=
  (by decide +kernel : ∀ t : Fin grid3.N, _)

theorem lt3 (t : Fin cfg3.N) : t.val < 8 := t.isLt

theorem in3 (c : Dev nD) (t : Fin cfg3.N) (r : Fin 1024) (k : Fin 4096) :
    iblk3 V c 0 t (ix2 r k) = V c main_v16 (ix2 (⟨1024 * (t.val / 1) + r.val, by have := lt3 t; omega⟩ : Fin 8192) k) := by
  blk_point [iblk3, idx3 t]

theorem w3 (c : Dev nD) (t : Fin cfg3.N) (k : Fin 4096) (j : Fin 512) :
    iblk3 V c 1 t (ix2 k j) = V c main_arg8 (ix2 k (⟨512 * (4 + t.val % 1) + j.val, by omega⟩ : Fin 4608)) := by
  blk_point [iblk3, idx3 t]

/-- The keys' and values' call leaves the product with the weight's next 512 columns. -/
theorem kv_final (c : Dev nD) : (dat3 V c).arrAt 2 cfg3.N = (fun i =>
      Layer.prod (V c main_v16) (V c main_arg8) (i 0) (Layer.shift (n := 512) 2048 (by decide) (i 1))
    : FVec Ideal S8192x512 .f32) := by
  refine (dat3 V c).arrAt_eq_of_covers 2 _ (by decide +kernel) fun t _ y => ?_
  blk_simp
  rw [after3_2, out3]
  have hy0 : (y 0).val < 1024 := (y 0).isLt
  have hy1 : (y 1).val < 512 := (y 1).isLt
  have ht := lt3 t
  have e : (win3_2.blk t).view.emb y
      = ix2 (⟨1024 * (t.val / 1) + (y 0).val, by omega⟩ : Fin 8192) (⟨512 * (t.val % 1) + (y 1).val, by omega⟩ : Fin 512) := by
    blk_ext [idx3 t]
  rw [e]
  refine Eq.trans ?_ ((tile3 (iblk3 V c 0 t) (iblk3 V c 1 t) ⟨(y 0).val, hy0⟩ ⟨(y 1).val, hy1⟩).trans ?_)
  · refine congrArg (k3_pay1 (F := Ideal) (iblk3 V c 0 t) (iblk3 V c 1 t)) ?_
    idx_ext
  · unfold Layer.prod
    refine Finset.sum_congr rfl fun k _ => ?_
    rw [in3, w3]
    refine congrArg₂ (· * ·) rfl (congrArg _ (congrArg (ix2 k) (Fin.ext ?_)))
    show 512 * (4 + t.val % 1) + (y 1).val = 2048 + (512 * (t.val % 1) + (y 1).val)
    omega

theorem out4 (x : Vec Ideal S1024x4096 .bf16) (w : Vec Ideal S4096x512 .f32) :
    out4_2 (F := Ideal) x w = k4_pay1 (F := Ideal) x w := by
  unfold out4_2
  rw [View.canon_cons_unit_lit _ _ _ (by decide), View.ld_unit_lit _ _ (by decide), View.ld_unit_lit _ _ (by decide)]

theorem tile4 (x : Vec Ideal S1024x4096 .bf16) (w : Vec Ideal S4096x512 .f32) (r : Fin 1024) (j : Fin 512) :
    k4_pay1 (F := Ideal) x w (ix2 r j) = ∑ k : Fin 4096, x (ix2 r k) * w (ix2 k j) := by
  pointwise [k4_pay1]

theorem idx4 : ∀ t : Fin cfg4.N, win4_0.index t = ![t.val / 4, 0] ∧ win4_1.index t = ![0, 5 + t.val % 4]
    ∧ win4_2.index t = ![t.val / 4, t.val % 4] :=
  (by decide +kernel : ∀ t : Fin grid4.N, _)

theorem lt4 (t : Fin cfg4.N) : t.val < 32 := t.isLt

theorem in4 (c : Dev nD) (t : Fin cfg4.N) (r : Fin 1024) (k : Fin 4096) :
    iblk4 V c 0 t (ix2 r k) = V c main_v16 (ix2 (⟨1024 * (t.val / 4) + r.val, by have := lt4 t; omega⟩ : Fin 8192) k) := by
  blk_point [iblk4, idx4 t]

theorem w4 (c : Dev nD) (t : Fin cfg4.N) (k : Fin 4096) (j : Fin 512) :
    iblk4 V c 1 t (ix2 k j) = V c main_arg8 (ix2 k (⟨512 * (5 + t.val % 4) + j.val, by omega⟩ : Fin 4608)) := by
  blk_point [iblk4, idx4 t]

/-- The pool input's call leaves the product with the weight's last 2048 columns. -/
theorem u_final (c : Dev nD) : (dat4 V c).arrAt 2 cfg4.N = (fun i =>
      Layer.prod (V c main_v16) (V c main_arg8) (i 0) (Layer.shift (n := 2048) 2560 (by decide) (i 1))
    : FVec Ideal S8192x2048 .f32) := by
  refine (dat4 V c).arrAt_eq_of_covers 2 _ (by decide +kernel) fun t _ y => ?_
  blk_simp
  rw [after4_2, out4]
  have hy0 : (y 0).val < 1024 := (y 0).isLt
  have hy1 : (y 1).val < 512 := (y 1).isLt
  have ht := lt4 t
  have e : (win4_2.blk t).view.emb y
      = ix2 (⟨1024 * (t.val / 4) + (y 0).val, by omega⟩ : Fin 8192) (⟨512 * (t.val % 4) + (y 1).val, by omega⟩ : Fin 2048) := by
    blk_ext [idx4 t]
  rw [e]
  refine Eq.trans ?_ ((tile4 (iblk4 V c 0 t) (iblk4 V c 1 t) ⟨(y 0).val, hy0⟩ ⟨(y 1).val, hy1⟩).trans ?_)
  · refine congrArg (k4_pay1 (F := Ideal) (iblk4 V c 0 t) (iblk4 V c 1 t)) ?_
    idx_ext
  · unfold Layer.prod
    refine Finset.sum_congr rfl fun k _ => ?_
    rw [in4, w4]
    refine congrArg₂ (· * ·) rfl (congrArg _ (congrArg (ix2 k) (Fin.ext ?_)))
    show 512 * (5 + t.val % 4) + (y 1).val = 2560 + (512 * (t.val % 4) + (y 1).val)
    omega

end Cert.Kernel2Ideal.Values

end
-- ==== Proof.InMod.lean ====
module

public import proofs.«01_k».proof.Proof.Gen.Kernel2Ideal.Frame
public import proofs.«01_k».proof.Proof.Layer
public import Idealize.ShloMosaic.Lib.Pointwise
public import Idealize.ShloMosaic.Lib.Pipeline.ValueKit

@[expose] public section

set_option maxRecDepth 16384

noncomputable section

namespace Cert.Kernel2Ideal.Values

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b))

theorem ada_out (x : Vec Ideal S136x4096 .f32) (w : Vec Ideal S4096x512 .f32) (b : Vec Ideal S1x512 .f32) :
    out0_3 (F := Ideal) x w b = k0_pay1 (F := Ideal) x w b := by
  unfold out0_3
  rw [View.canon_cons_unit_lit _ _ _ (by decide), View.ld_unit_lit _ _ (by decide), View.ld_unit_lit _ _ (by decide),
    View.ld_unit_lit _ _ (by decide)]

theorem ada_tile (x : Vec Ideal S136x4096 .f32) (w : Vec Ideal S4096x512 .f32) (b : Vec Ideal S1x512 .f32)
    (u : Fin 1) (r : Fin 136) (j : Fin 512) : k0_pay1 (F := Ideal) x w b (ix3 u r j)
      = (∑ k : Fin 4096, x (ix2 r k) * Ideal.logistic (x (ix2 r k)) * w (ix2 k j)) + b (ix2 0 j) := by
  pointwise [k0_pay1]

theorem ada_idx : ∀ t : Fin cfg0.N, win0_0.index t = ![0, 0] ∧ win0_1.index t = ![0, t.val]
    ∧ win0_2.index t = ![0, t.val] ∧ win0_3.index t = ![t.val / 8, 0, t.val % 8] :=
  (by decide +kernel : ∀ t : Fin grid0.N, _)

theorem ada_lt (t : Fin cfg0.N) : t.val < 48 := t.isLt

theorem ada_x (c : Dev nD) (t : Fin cfg0.N) (r : Fin 136) (k : Fin 4096) :
    iblk0 V c 0 t (ix2 r k) = V c main_v1 (ix2 r k) := by
  blk_point [iblk0, ada_idx t]

theorem ada_w (c : Dev nD) (t : Fin cfg0.N) (k : Fin 4096) (j : Fin 512) :
    iblk0 V c 1 t (ix2 k j) = V c main_arg6 (ix2 k (⟨512 * t.val + j.val, by have := ada_lt t; omega⟩ : Fin 24576)) := by
  blk_point [iblk0, ada_idx t]

theorem ada_b (c : Dev nD) (t : Fin cfg0.N) (u : Fin 1) (j : Fin 512) :
    iblk0 V c 2 t (ix2 u j) = V c main_v2 (ix2 u (⟨512 * t.val + j.val, by have := ada_lt t; omega⟩ : Fin 24576)) := by
  blk_point [iblk0, ada_idx t]

/-- The first call leaves the six modulations, one plane each. -/
theorem ada_final (c : Dev nD) : (dat0 V c).arrAt 3 cfg0.N = (fun i =>
      Layer.ada (V c main_v1) (V c main_arg6) (fun n => (V c main_v2 : FVec Ideal S1x24576 .f32) (ix2 0 n)) (i 1) (Layer.part (i 0) (i 2))
    : FVec Ideal S6x136x4096 .f32) := by
  refine (dat0 V c).arrAt_eq_of_covers 3 _ (by decide +kernel) fun t _ y => ?_
  blk_simp
  rw [after0_3, ada_out]
  have hy0 : (y 0).val < 1 := (y 0).isLt
  have hy1 : (y 1).val < 136 := (y 1).isLt
  have hy2 : (y 2).val < 512 := (y 2).isLt
  have ht := ada_lt t
  have e : (win0_3.blk t).view.emb y
      = ix3 (⟨t.val / 8, by omega⟩ : Fin 6) (⟨(y 1).val, hy1⟩ : Fin 136) (⟨512 * (t.val % 8) + (y 2).val, by omega⟩ : Fin 4096) := by
    blk_ext [ada_idx t]
  rw [e]
  refine Eq.trans ?_ ((ada_tile (iblk0 V c 0 t) (iblk0 V c 1 t) (iblk0 V c 2 t) ⟨(y 0).val, hy0⟩ ⟨(y 1).val, hy1⟩ ⟨(y 2).val, hy2⟩).trans ?_)
  · refine congrArg (k0_pay1 (F := Ideal) (iblk0 V c 0 t) (iblk0 V c 1 t) (iblk0 V c 2 t)) ?_
    idx_ext
  · have en : (⟨512 * t.val + (y 2).val, by omega⟩ : Fin 24576)
        = Layer.part (⟨t.val / 8, by omega⟩ : Fin 6) (⟨512 * (t.val % 8) + (y 2).val, by omega⟩ : Fin 4096) :=
      Fin.ext (show 512 * t.val + (y 2).val = 4096 * (t.val / 8) + (512 * (t.val % 8) + (y 2).val) by omega)
    unfold Layer.ada
    refine congrArg₂ (· + ·) (Finset.sum_congr rfl fun k _ => ?_) ?_
    · rw [ada_x, ada_w, en]
      rfl
    · rw [ada_b, en]
      rfl

theorem mod_out (x : Vec Ideal S1x512x4096 .f32) (s1 s2 : Vec Ideal S1x1x4096 .f32) :
    out1_3 (F := Ideal) x s1 s2 = k1_pay1 (F := Ideal) x s1 s2 := by
  unfold out1_3
  rw [View.canon_cons_unit_lit _ _ _ (by decide), View.ld_unit_lit _ _ (by decide), View.ld_unit_lit _ _ (by decide),
    View.ld_unit_lit _ _ (by decide)]

theorem mod_tile (x : Vec Ideal S1x512x4096 .f32) (s1 s2 : Vec Ideal S1x1x4096 .f32) (r : Fin 512) (d : Fin 4096) :
    k1_pay1 (F := Ideal) x s1 s2 (ix2 r d) = x (ix3 0 r d) * (Layer.one + s1 (ix3 0 0 d)) + s2 (ix3 0 0 d) := by
  pointwise [k1_pay1]

theorem mod_idx : ∀ t : Fin cfg1.N, win1_0.index t = ![t.val / 4, t.val % 4, 0] ∧ win1_1.index t = ![t.val / 4, 0, 0]
    ∧ win1_2.index t = ![t.val / 4, 0, 0] ∧ win1_3.index t = ![t.val, 0] :=
  (by decide +kernel : ∀ t : Fin grid1.N, _)

theorem mod_lt (t : Fin cfg1.N) : t.val < 16 := t.isLt

theorem mod_x (c : Dev nD) (t : Fin cfg1.N) (u : Fin 1) (r : Fin 512) (d : Fin 4096) :
    iblk1 V c 0 t (ix3 u r d) = V c main_arg0 (ix3 (⟨t.val / 4, by have := mod_lt t; omega⟩ : Fin 4)
      (⟨512 * (t.val % 4) + r.val, by omega⟩ : Fin 2048) d) := by
  blk_point [iblk1, mod_idx t]

theorem mod_scale (c : Dev nD) (t : Fin cfg1.N) (u v : Fin 1) (d : Fin 4096) :
    iblk1 V c 1 t (ix3 u v d) = V c main_v9 (ix3 (⟨t.val / 4, by have := mod_lt t; omega⟩ : Fin 4) v d) := by
  blk_point [iblk1, mod_idx t]

theorem mod_shift (c : Dev nD) (t : Fin cfg1.N) (u v : Fin 1) (d : Fin 4096) :
    iblk1 V c 2 t (ix3 u v d) = V c main_v6 (ix3 (⟨t.val / 4, by have := mod_lt t; omega⟩ : Fin 4) v d) := by
  blk_point [iblk1, mod_idx t]

/-- The second call leaves the modulated rows. -/
theorem mod_final (c : Dev nD) : (dat1 V c).arrAt 3 cfg1.N = (fun i =>
      Layer.modul (V c main_arg0) (V c main_v9) (V c main_v6) (Layer.seqOf (i 0)) (Layer.posOf (i 0)) (i 1)
    : FVec Ideal S8192x4096 .bf16) := by
  refine (dat1 V c).arrAt_eq_of_covers 3 _ (by decide +kernel) fun t _ y => ?_
  blk_simp
  rw [after1_3, mod_out]
  have hy0 : (y 0).val < 512 := (y 0).isLt
  have hy1 : (y 1).val < 4096 := (y 1).isLt
  have ht := mod_lt t
  have e : (win1_3.blk t).view.emb y
      = ix2 (⟨512 * t.val + (y 0).val, by omega⟩ : Fin 8192) (⟨(y 1).val, hy1⟩ : Fin 4096) := by
    blk_ext [mod_idx t]
  rw [e]
  refine Eq.trans ?_ ((mod_tile (iblk1 V c 0 t) (iblk1 V c 1 t) (iblk1 V c 2 t) ⟨(y 0).val, hy0⟩ ⟨(y 1).val, hy1⟩).trans ?_)
  · refine congrArg (k1_pay1 (F := Ideal) (iblk1 V c 0 t) (iblk1 V c 1 t) (iblk1 V c 2 t)) ?_
    idx_ext
  · have e1 : (⟨t.val / 4, by omega⟩ : Fin 4) = Layer.seqOf (⟨512 * t.val + (y 0).val, by omega⟩ : Fin 8192) :=
      Fin.ext (show t.val / 4 = (512 * t.val + (y 0).val) / 2048 by omega)
    have e2 : (⟨512 * (t.val % 4) + (y 0).val, by omega⟩ : Fin 2048) = Layer.posOf (⟨512 * t.val + (y 0).val, by omega⟩ : Fin 8192) :=
      Fin.ext (show 512 * (t.val % 4) + (y 0).val = (512 * t.val + (y 0).val) % 2048 by omega)
    rw [mod_x, mod_scale, mod_shift, e1, e2]
    rfl

theorem mods_out (x : Vec Ideal S64x8x4096 .f32) (s1 s2 : Vec Ideal S64x1x4096 .f32) :
    out5_3 (F := Ideal) x s1 s2 = k5_pay1 (F := Ideal) x s1 s2 := by
  unfold out5_3
  rw [View.canon_cons_unit_lit _ _ _ (by decide), View.ld_unit_lit _ _ (by decide), View.ld_unit_lit _ _ (by decide),
    View.ld_unit_lit _ _ (by decide)]

theorem mods_tile (x : Vec Ideal S64x8x4096 .f32) (s1 s2 : Vec Ideal S64x1x4096 .f32) (r : Fin 512) (d : Fin 4096) :
    k5_pay1 (F := Ideal) x s1 s2 (ix2 r d)
      = x (ix3 (⟨r.val / 8, by omega⟩ : Fin 64) (⟨r.val % 8, by omega⟩ : Fin 8) d)
          * (Layer.one + s1 (ix3 (⟨r.val / 8, by omega⟩ : Fin 64) 0 d)) + s2 (ix3 (⟨r.val / 8, by omega⟩ : Fin 64) 0 d) := by
  pointwise [k5_pay1]

theorem mods_idx : ∀ t : Fin cfg5.N, win5_0.index t = ![t.val, 0, 0] ∧ win5_1.index t = ![t.val, 0, 0]
    ∧ win5_2.index t = ![t.val, 0, 0] ∧ win5_3.index t = ![t.val, 0] :=
  (by decide +kernel : ∀ t : Fin grid5.N, _)

theorem mods_lt (t : Fin cfg5.N) : t.val < 2 := t.isLt

theorem mods_x (c : Dev nD) (t : Fin cfg5.N) (u : Fin 64) (r : Fin 8) (d : Fin 4096) :
    iblk5 V c 0 t (ix3 u r d) = V c main_arg1 (ix3 (⟨64 * t.val + u.val, by have := mods_lt t; omega⟩ : Fin 128) r d) := by
  blk_point [iblk5, mods_idx t]

theorem mods_scale (c : Dev nD) (t : Fin cfg5.N) (u : Fin 64) (v : Fin 1) (d : Fin 4096) :
    iblk5 V c 1 t (ix3 u v d) = V c main_v15 (ix3 (⟨64 * t.val + u.val, by have := mods_lt t; omega⟩ : Fin 128) v d) := by
  blk_point [iblk5, mods_idx t]

theorem mods_shift (c : Dev nD) (t : Fin cfg5.N) (u : Fin 64) (v : Fin 1) (d : Fin 4096) :
    iblk5 V c 2 t (ix3 u v d) = V c main_v12 (ix3 (⟨64 * t.val + u.val, by have := mods_lt t; omega⟩ : Fin 128) v d) := by
  blk_point [iblk5, mods_idx t]

/-- The sample's modulation leaves its rows modulated, each sequence's by its own condition. -/
theorem mods_final (c : Dev nD) : (dat5 V c).arrAt 3 cfg5.N = (fun i =>
      Layer.modul (V c main_arg1) (V c main_v15) (V c main_v12) (Layer.seqS (i 0)) (Layer.posS (i 0)) (i 1)
    : FVec Ideal S1024x4096 .bf16) := by
  refine (dat5 V c).arrAt_eq_of_covers 3 _ (by decide +kernel) fun t _ y => ?_
  blk_simp
  rw [after5_3, mods_out]
  have hy0 : (y 0).val < 512 := (y 0).isLt
  have hy1 : (y 1).val < 4096 := (y 1).isLt
  have ht := mods_lt t
  have e : (win5_3.blk t).view.emb y
      = ix2 (⟨512 * t.val + (y 0).val, by omega⟩ : Fin 1024) (⟨(y 1).val, hy1⟩ : Fin 4096) := by
    blk_ext [mods_idx t]
  rw [e]
  refine Eq.trans ?_ ((mods_tile (iblk5 V c 0 t) (iblk5 V c 1 t) (iblk5 V c 2 t) ⟨(y 0).val, hy0⟩ ⟨(y 1).val, hy1⟩).trans ?_)
  · refine congrArg (k5_pay1 (F := Ideal) (iblk5 V c 0 t) (iblk5 V c 1 t) (iblk5 V c 2 t)) ?_
    idx_ext
  · have e1 : (⟨64 * t.val + (y 0).val / 8, by omega⟩ : Fin 128) = Layer.seqS (⟨512 * t.val + (y 0).val, by omega⟩ : Fin 1024) :=
      Fin.ext (show 64 * t.val + (y 0).val / 8 = (512 * t.val + (y 0).val) / 8 by omega)
    have e2 : (⟨(y 0).val % 8, by omega⟩ : Fin 8) = Layer.posS (⟨512 * t.val + (y 0).val, by omega⟩ : Fin 1024) :=
      Fin.ext (show (y 0).val % 8 = (512 * t.val + (y 0).val) % 8 by omega)
    rw [mods_x, mods_scale, mods_shift, e1, e2]
    rfl

end Cert.Kernel2Ideal.Values

end
-- ==== Proof.InRun.lean ====
module

public import proofs.«01_k».proof.Proof.Gen.Kernel2Ideal.Frame

@[expose] public section

set_option maxRecDepth 16384

noncomputable section

namespace Cert.Kernel2Ideal.Values

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]
variable (m : (ℓ : Loc nD τ sig) → Buf (Elt F) ℓ) (ρ : Dev nD → PrngReg)

set_option backward.isDefEq.respectTransparency.types false in
/-- The run of the modulation and the in-projections, of the prompt and the sample: the eleven results at what the program's end holds. The launch's set-up is the frame's; what differs is what is read at its end. -/
theorem run : θ_run defs (onTc (τ := τ) (main (F := F))) ⟨m, fun _ => 0, ρ⟩ (fun r => ∀ c : Dev nD,
      r.2.mem ((c.tc : Thread nD τ).loc main_v39) = W15 m ρ c (Proc.devRef .tc main_v39)
      ∧ r.2.mem ((c.tc : Thread nD τ).loc main_v17) = W15 m ρ c (Proc.devRef .tc main_v17)
      ∧ r.2.mem ((c.tc : Thread nD τ).loc main_v18) = W15 m ρ c (Proc.devRef .tc main_v18)
      ∧ r.2.mem ((c.tc : Thread nD τ).loc main_v19) = W15 m ρ c (Proc.devRef .tc main_v19)
      ∧ r.2.mem ((c.tc : Thread nD τ).loc main_v23) = W15 m ρ c (Proc.devRef .tc main_v23)
      ∧ r.2.mem ((c.tc : Thread nD τ).loc main_v26) = W15 m ρ c (Proc.devRef .tc main_v26)
      ∧ r.2.mem ((c.tc : Thread nD τ).loc main_v28) = W15 m ρ c (Proc.devRef .tc main_v28)
      ∧ r.2.mem ((c.tc : Thread nD τ).loc main_v29) = W15 m ρ c (Proc.devRef .tc main_v29)
      ∧ r.2.mem ((c.tc : Thread nD τ).loc main_v30) = W15 m ρ c (Proc.devRef .tc main_v30)
      ∧ r.2.mem ((c.tc : Thread nD τ).loc main_v35) = W15 m ρ c (Proc.devRef .tc main_v35)
      ∧ r.2.mem ((c.tc : Thread nD τ).loc main_v38) = W15 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz c =>
      ⟨h c _ (mem_uc main_v39 (by decide)),
       h c _ (mem_uc main_v17 (by decide)),
       h c _ (mem_uc main_v18 (by decide)),
       h c _ (mem_uc main_v19 (by decide)),
       h c _ (mem_uc main_v23 (by decide)),
       h c _ (mem_uc main_v26 (by decide)),
       h c _ (mem_uc main_v28 (by decide)),
       h c _ (mem_uc main_v29 (by decide)),
       h c _ (mem_uc main_v30 (by decide)),
       h c _ (mem_uc main_v35 (by decide)),
       h c _ (mem_uc main_v38 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.Kernel2Ideal.Values

end
-- ==== Proof.InOut.lean ====
module

public import proofs.«01_k».proof.Proof.InMm
public import proofs.«01_k».proof.Proof.InMod
public import proofs.«01_k».proof.Proof.InRun
public import Idealize.ShloMosaic.Lib.StableHlo.RunRead

@[expose] public section

set_option maxRecDepth 16384

noncomputable section

namespace Cert.Kernel2Ideal.Values

open Cert.Kernel2Ideal Cert.Kernel2Ideal.Gen Idealize.ShloMosaic.StableHlo Idealize.ShloMosaic Idealize.ShloMosaic.TcCoe Idealize.SL.Sem

variable (m : (ℓ : Loc nD τ sig) → Buf (Elt Ideal) ℓ) (ρ : Dev nD → PrngReg)

/-- The arrays the program is launched with. -/
abbrev argX (c : Dev nD) : FVec Ideal S4x2048x4096 .f32 := m ((c : Thread nD τ).loc main_arg0)
abbrev argXs (c : Dev nD) : FVec Ideal S128x8x4096 .f32 := m ((c : Thread nD τ).loc main_arg1)
abbrev argV (c : Dev nD) : FVec Ideal S128x128x4x64 .f32 := m ((c : Thread nD τ).loc main_arg2)
abbrev argP (c : Dev nD) : FVec Ideal S128x15x2048 .f32 := m ((c : Thread nD τ).loc main_arg3)
abbrev argC (c : Dev nD) : FVec Ideal S4x4096 .f32 := m ((c : Thread nD τ).loc main_arg4)
abbrev argS (c : Dev nD) : FVec Ideal S128x4096 .f32 := m ((c : Thread nD τ).loc main_arg5)
abbrev argA (c : Dev nD) : FVec Ideal S4096x24576 .f32 := m ((c : Thread nD τ).loc main_arg6)
abbrev argB (c : Dev nD) : FVec Ideal S24576 .f32 := m ((c : Thread nD τ).loc main_arg7)
abbrev argW (c : Dev nD) : FVec Ideal S4096x4608 .f32 := m ((c : Thread nD τ).loc main_arg8)

/-- The conditions' rows one below another: the prompt's four, the sample's, and four rows of zeros. -/
theorem conds (c : Dev nD) : (V1 m ρ c main_v1 : FVec Ideal S136x4096 .f32)
    = concatenate S136x4096 0 [⟨S4x4096, argC m c⟩, ⟨S128x4096, argS m c⟩,
        ⟨S4x4096, broadcastInDim S4x4096 ![] bcast_S_S4x4096 (constant S_ .f32 0x00000000#32)⟩]
        concatenates_S4x4096_S128x4096_S4x4096_S136x4096_d0 := by
  show StableHlo.after hostOps0 (W0 m ρ c) (Proc.devRef .tc _) = _
  after_reads_simp
  rfl

theorem bias (c : Dev nD) : (V1 m ρ c main_v2 : FVec Ideal S1x24576 .f32)
    = broadcastInDim S1x24576 ![1] bcast_S24576_S1x24576_1 (argB m c) := by
  show StableHlo.after hostOps0 (W0 m ρ c) (Proc.devRef .tc _) = _
  after_reads_simp

theorem bias_at (c : Dev nD) (n : Fin 24576) :
    (V1 m ρ c main_v2 : FVec Ideal S1x24576 .f32) (ix2 0 n) = argB m c (ix1 n) := by
  rw [bias]
  pointwise

theorem conds_at (c : Dev nD) (g : Fin 4) (k : Fin 4096) :
    (V1 m ρ c main_v1 : FVec Ideal S136x4096 .f32) (ix2 (⟨g.val, by omega⟩ : Fin 136) k) = argC m c (ix2 g k) := by
  rw [conds]
  pointwise

/-- The prompt's modulations. -/
theorem plane (c : Dev nD) (p : Fin 6) (g : Fin 4) (d : Fin 4096) :
    (W2 m ρ c (Proc.devRef .tc main_v3) : FVec Ideal S6x136x4096 .f32) (ix3 p (⟨g.val, by omega⟩ : Fin 136) d)
      = Layer.ada (argC m c) (argA m c) (fun n => argB m c (ix1 n)) g (Layer.part p d) := by
  rw [show (W2 m ρ c (Proc.devRef .tc main_v3) : FVec Ideal S6x136x4096 .f32) = _ from (W2_arr m ρ c 3).trans (ada_final (V1 m ρ) c)]
  show Layer.ada _ _ _ (⟨g.val, _⟩ : Fin 136) (Layer.part p d) = _
  unfold Layer.ada
  have ha : (V1 m ρ c main_arg6 : FVec Ideal S4096x24576 .f32) = argA m c := W1_args m ρ c main_arg6 (by decide)
  refine congrArg₂ (· + ·) (Finset.sum_congr rfl fun k _ => ?_) (bias_at m ρ c _)
  rw [conds_at, ha]

theorem shift_at (c : Dev nD) (g : Fin 4) (d : Fin 4096) :
    (V3 m ρ c main_v6 : FVec Ideal S4x1x4096 .f32) (ix3 g 0 d)
      = Layer.ada (argC m c) (argA m c) (fun n => argB m c (ix1 n)) g (Layer.part 0 d) := by
  have e : (V3 m ρ c main_v6 : FVec Ideal S4x1x4096 .f32)
      = shapeCast S4x1x4096 (shapeCast S4x4096 (extractStridedSlice S1x4x4096 ![0, 0, 0]
          (W2 m ρ c (Proc.devRef .tc main_v3) : FVec Ideal S6x136x4096 .f32) slices_S6x136x4096_S1x4x4096_0_0_0)
          shapeCasts_S1x4x4096_S4x4096) shapeCasts_S4x4096_S4x1x4096 := by
    show StableHlo.after hostOps1 (W2 m ρ c) (Proc.devRef .tc _) = _
    after_reads_simp
    rfl
  rw [e, ← plane m ρ c 0 g d]
  pointwise

theorem scale_at (c : Dev nD) (g : Fin 4) (d : Fin 4096) :
    (V3 m ρ c main_v9 : FVec Ideal S4x1x4096 .f32) (ix3 g 0 d)
      = Layer.ada (argC m c) (argA m c) (fun n => argB m c (ix1 n)) g (Layer.part 1 d) := by
  have e : (V3 m ρ c main_v9 : FVec Ideal S4x1x4096 .f32)
      = shapeCast S4x1x4096 (shapeCast S4x4096 (extractStridedSlice S1x4x4096 ![1, 0, 0]
          (W2 m ρ c (Proc.devRef .tc main_v3) : FVec Ideal S6x136x4096 .f32) slices_S6x136x4096_S1x4x4096_1_0_0)
          shapeCasts_S1x4x4096_S4x4096) shapeCasts_S4x4096_S4x1x4096 := by
    show StableHlo.after hostOps1 (W2 m ρ c) (Proc.devRef .tc _) = _
    after_reads_simp
    rfl
  rw [e, ← plane m ρ c 1 g d]
  pointwise

/-- The rows the three projections read. -/
theorem rows (c : Dev nD) : (V4 m ρ c main_v16 : FVec Ideal S8192x4096 .bf16)
    = (fun i => Layer.step (argX m c) (argC m c) (argA m c) (argB m c) (Layer.seqOf (i 0)) (Layer.posOf (i 0)) (i 1) : FVec Ideal S8192x4096 .bf16) := by
  suffices key : ∀ (g : Fin 4) (t : Fin 2048) (d : Fin 4096), Layer.modul (V3 m ρ c main_arg0) (V3 m ρ c main_v9) (V3 m ρ c main_v6) g t d
      = Layer.step (argX m c) (argC m c) (argA m c) (argB m c) g t d from
    ((W4_arr m ρ c 3).trans (mod_final (V3 m ρ) c)).trans (funext fun i => key (Layer.seqOf (i 0)) (Layer.posOf (i 0)) (i 1))
  intro g t d
  have hx : (V3 m ρ c main_arg0 : FVec Ideal S4x2048x4096 .f32) = argX m c := W3_args m ρ c main_arg0 (by decide)
  unfold Layer.modul Layer.step
  rw [shift_at, scale_at, hx]

theorem inp_of (c : Dev nD) (x : FVec Ideal S8192x4096 .bf16) (w : FVec Ideal S4096x4608 .f32)
    (hx : x = V4 m ρ c main_v16) (hw : w = argW m c) (R : Fin 8192) (j : Fin 4608) :
    Layer.prod x w R j = Layer.inp (argX m c) (argC m c) (argA m c) (argB m c) (argW m c) (Layer.seqOf R) (Layer.posOf R) j := by
  rw [hx, hw, rows]
  rfl

/-- The queries: the in-projection's first 2048 columns. -/
theorem q_call (c : Dev nD) : (W5 m ρ c (Proc.devRef .tc main_v17) : FVec Ideal S8192x2048 .f32)
    = fun i => Layer.inp (argX m c) (argC m c) (argA m c) (argB m c) (argW m c) (Layer.seqOf (i 0)) (Layer.posOf (i 0)) (Layer.shift (n := 2048) 0 (by decide) (i 1)) := by
  refine (W5_arr m ρ c 2).trans ((q_final (V4 m ρ) c).trans (funext fun i => ?_))
  exact inp_of m ρ c _ _ rfl (W4_args m ρ c main_arg8 (by decide)) _ _

theorem q_out (c : Dev nD) : (W15 m ρ c (Proc.devRef .tc main_v17) : FVec Ideal S8192x2048 .f32)
    = fun i => Layer.inp (argX m c) (argC m c) (argA m c) (argB m c) (argW m c) (Layer.seqOf (i 0)) (Layer.posOf (i 0)) (Layer.shift (n := 2048) 0 (by decide) (i 1)) :=
  ((W15_of m ρ c main_v17 (by decide)).trans ((W14_of m ρ c main_v17 (by decide)).trans ((W13_of m ρ c main_v17 (by decide)).trans ((W12_of m ρ c main_v17 (by decide)).trans ((W11_of m ρ c main_v17 (by decide)).trans ((W10_of m ρ c main_v17 (by decide)).trans ((W9_of m ρ c main_v17 (by decide)).trans ((W8_of m ρ c main_v17 (by decide)).trans ((W7_of m ρ c main_v17 (by decide)).trans (W6_of m ρ c main_v17 (by decide))))))))))).trans
    (q_call m ρ c)

/-- The keys and values: its next 512. -/
theorem kv_call (c : Dev nD) : (W6 m ρ c (Proc.devRef .tc main_v18) : FVec Ideal S8192x512 .f32)
    = fun i => Layer.inp (argX m c) (argC m c) (argA m c) (argB m c) (argW m c) (Layer.seqOf (i 0)) (Layer.posOf (i 0)) (Layer.shift (n := 512) 2048 (by decide) (i 1)) := by
  refine (W6_arr m ρ c 2).trans ((kv_final (V5 m ρ) c).trans (funext fun i => ?_))
  exact inp_of m ρ c _ _ (W5_of m ρ c main_v16 (by decide)) (W5_args m ρ c main_arg8 (by decide)) _ _

theorem kv_out (c : Dev nD) : (W15 m ρ c (Proc.devRef .tc main_v18) : FVec Ideal S8192x512 .f32)
    = fun i => Layer.inp (argX m c) (argC m c) (argA m c) (argB m c) (argW m c) (Layer.seqOf (i 0)) (Layer.posOf (i 0)) (Layer.shift (n := 512) 2048 (by decide) (i 1)) :=
  ((W15_of m ρ c main_v18 (by decide)).trans ((W14_of m ρ c main_v18 (by decide)).trans ((W13_of m ρ c main_v18 (by decide)).trans ((W12_of m ρ c main_v18 (by decide)).trans ((W11_of m ρ c main_v18 (by decide)).trans ((W10_of m ρ c main_v18 (by decide)).trans ((W9_of m ρ c main_v18 (by decide)).trans ((W8_of m ρ c main_v18 (by decide)).trans (W7_of m ρ c main_v18 (by decide)))))))))).trans
    (kv_call m ρ c)

/-- What the pool reads: its last 2048. -/
theorem u_call (c : Dev nD) : (W7 m ρ c (Proc.devRef .tc main_v19) : FVec Ideal S8192x2048 .f32)
    = fun i => Layer.inp (argX m c) (argC m c) (argA m c) (argB m c) (argW m c) (Layer.seqOf (i 0)) (Layer.posOf (i 0)) (Layer.shift (n := 2048) 2560 (by decide) (i 1)) := by
  refine (W7_arr m ρ c 2).trans ((u_final (V6 m ρ) c).trans (funext fun i => ?_))
  exact inp_of m ρ c _ _ ((W6_of m ρ c main_v16 (by decide)).trans (W5_of m ρ c main_v16 (by decide))) (W6_args m ρ c main_arg8 (by decide)) _ _

theorem u_out (c : Dev nD) : (W15 m ρ c (Proc.devRef .tc main_v19) : FVec Ideal S8192x2048 .f32)
    = fun i => Layer.inp (argX m c) (argC m c) (argA m c) (argB m c) (argW m c) (Layer.seqOf (i 0)) (Layer.posOf (i 0)) (Layer.shift (n := 2048) 2560 (by decide) (i 1)) :=
  ((W15_of m ρ c main_v19 (by decide)).trans ((W14_of m ρ c main_v19 (by decide)).trans ((W13_of m ρ c main_v19 (by decide)).trans ((W12_of m ρ c main_v19 (by decide)).trans ((W11_of m ρ c main_v19 (by decide)).trans ((W10_of m ρ c main_v19 (by decide)).trans ((W9_of m ρ c main_v19 (by decide)).trans (W8_of m ρ c main_v19 (by decide))))))))).trans
    (u_call m ρ c)

/-- A row of the prompt by its sequence and position. -/
theorem at_row (g : Fin 4) (t : ℕ) (ht : t < 2048) :
    Layer.seqOf (⟨g.val * 2048 + t, by omega⟩ : Fin 8192) = g ∧ Layer.posOf (⟨g.val * 2048 + t, by omega⟩ : Fin 8192) = ⟨t, ht⟩ :=
  ⟨Fin.ext (show (g.val * 2048 + t) / 2048 = g.val by omega), Fin.ext (show (g.val * 2048 + t) % 2048 = t by omega)⟩

theorem newv (c : Dev nD) : (W15 m ρ c (Proc.devRef .tc main_v23) : FVec Ideal S4x128x4x64 .f32)
    = shapeCast S4x128x4x64 (extractStridedSlice S4x128x256 ![0, 1920, 256]
        (shapeCast S4x2048x512 (W7 m ρ c (Proc.devRef .tc main_v18) : FVec Ideal S8192x512 .f32) shapeCasts_S8192x512_S4x2048x512)
        slices_S4x2048x512_S4x128x256_0_1920_256) shapeCasts_S4x128x256_S4x128x4x64 := by
  refine ((W15_of m ρ c main_v23 (by decide)).trans ((W14_of m ρ c main_v23 (by decide)).trans ((W13_of m ρ c main_v23 (by decide)).trans ((W12_of m ρ c main_v23 (by decide)).trans ((W11_of m ρ c main_v23 (by decide)).trans ((W10_of m ρ c main_v23 (by decide)).trans (W9_of m ρ c main_v23 (by decide)))))))).trans ?_
  show StableHlo.after hostOps5 (W7 m ρ c) (Proc.devRef .tc _) = _
  after_reads_simp
  rfl

/-- The values handed on: the last 128 positions' value columns. -/
theorem newv_at (c : Dev nD) (g : Fin 4) (t : Fin 128) (h : Fin 4) (e : Fin 64) :
    (W15 m ρ c (Proc.devRef .tc main_v23) : FVec Ideal S4x128x4x64 .f32) (ix4 g t h e)
      = Layer.inp (argX m c) (argC m c) (argA m c) (argB m c) (argW m c) g (⟨1920 + t.val, by omega⟩ : Fin 2048) (Layer.vcol h e) := by
  have hR := at_row g (1920 + t.val) (by omega)
  have hk := congrFun ((W7_of m ρ c main_v18 (by decide)).trans (kv_call m ρ c))
    (ix2 (⟨g.val * 2048 + (1920 + t.val), by omega⟩ : Fin 8192) (⟨256 + (h.val * 64 + e.val), by omega⟩ : Fin 512))
  refine Eq.trans ?_ (hk.trans ?_)
  · rw [newv]
    pointwise
  · show Layer.inp (argX m c) (argC m c) (argA m c) (argB m c) (argW m c) (Layer.seqOf (⟨g.val * 2048 + (1920 + t.val), by omega⟩ : Fin 8192))
      (Layer.posOf (⟨g.val * 2048 + (1920 + t.val), by omega⟩ : Fin 8192))
      (⟨2048 + (256 + (h.val * 64 + e.val)), by omega⟩ : Fin 4608) = _
    rw [hR.1, hR.2]
    exact congrArg _ (Fin.ext (show 2048 + (256 + (h.val * 64 + e.val)) = 2304 + (h.val * 64 + e.val) by omega))

theorem newpool (c : Dev nD) : (W15 m ρ c (Proc.devRef .tc main_v26) : FVec Ideal S4x15x2048 .f32)
    = extractStridedSlice S4x15x2048 ![0, 2049, 0]
        (concatenate S4x2064x2048 1 [⟨S4x16x2048, broadcastInDim S4x16x2048 ![] bcast_S_S4x16x2048 (constant (F := Ideal) S_ .f32 0x00000000#32)⟩,
          ⟨S4x2048x2048, shapeCast S4x2048x2048 (W7 m ρ c (Proc.devRef .tc main_v19) : FVec Ideal S8192x2048 .f32)
            shapeCasts_S8192x2048_S4x2048x2048⟩] concatenates_S4x16x2048_S4x2048x2048_S4x2064x2048_d1)
        slices_S4x2064x2048_S4x15x2048_0_2049_0 := by
  refine ((W15_of m ρ c main_v26 (by decide)).trans ((W14_of m ρ c main_v26 (by decide)).trans ((W13_of m ρ c main_v26 (by decide)).trans ((W12_of m ρ c main_v26 (by decide)).trans ((W11_of m ρ c main_v26 (by decide)).trans ((W10_of m ρ c main_v26 (by decide)).trans (W9_of m ρ c main_v26 (by decide)))))))).trans ?_
  show StableHlo.after hostOps5 (W7 m ρ c) (Proc.devRef .tc _) = _
  after_reads_simp
  rfl

/-- The pool inputs handed on: the last 15 positions'. -/
theorem newpool_at (c : Dev nD) (g : Fin 4) (t : Fin 15) (d : Fin 2048) :
    (W15 m ρ c (Proc.devRef .tc main_v26) : FVec Ideal S4x15x2048 .f32) (ix3 g t d)
      = Layer.inp (argX m c) (argC m c) (argA m c) (argB m c) (argW m c) g (⟨2033 + t.val, by omega⟩ : Fin 2048) (Layer.shift (n := 2048) 2560 (by decide) d) := by
  have hR := at_row g (2033 + t.val) (by omega)
  have hk := congrFun (u_call m ρ c) (ix2 (⟨g.val * 2048 + (2033 + t.val), by omega⟩ : Fin 8192) d)
  refine Eq.trans ?_ (hk.trans ?_)
  · rw [newpool]
    pointwise
    rw [dif_neg (by omega)]
    refine congrArg _ ?_
    idx_ext
  · show Layer.inp (argX m c) (argC m c) (argA m c) (argB m c) (argW m c) (Layer.seqOf (⟨g.val * 2048 + (2033 + t.val), by omega⟩ : Fin 8192))
      (Layer.posOf (⟨g.val * 2048 + (2033 + t.val), by omega⟩ : Fin 8192))
      (Layer.shift (n := 2048) 2560 (by decide) d) = _
    rw [hR.1, hR.2]

theorem mods (c : Dev nD) : (W15 m ρ c (Proc.devRef .tc main_v39) : FVec Ideal S6x132x4096 .f32)
    = extractStridedSlice S6x132x4096 ![0, 0, 0] (W2 m ρ c (Proc.devRef .tc main_v3) : FVec Ideal S6x136x4096 .f32)
        slices_S6x136x4096_S6x132x4096_0_0_0 := by
  have e : (W14 m ρ c (Proc.devRef .tc main_v3) : FVec Ideal S6x136x4096 .f32) = W2 m ρ c (Proc.devRef .tc main_v3) :=
    (W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans (W3_of m ρ c main_v3 (by decide))))))))))))
  rw [← e]
  show StableHlo.after hostOps9_2 (W14 m ρ c) (Proc.devRef .tc _) = _
  after_reads_simp

/-- The modulations handed on: the prompt's four conditions' come first. -/
theorem modp_at (c : Dev nD) (p : Fin 6) (g : Fin 4) (d : Fin 4096) :
    (W15 m ρ c (Proc.devRef .tc main_v39) : FVec Ideal S6x132x4096 .f32) (ix3 p (⟨g.val, by omega⟩ : Fin 132) d)
      = Layer.ada (argC m c) (argA m c) (fun n => argB m c (ix1 n)) g (Layer.part p d) := by
  rw [mods, ← plane m ρ c p g d]
  pointwise

end Cert.Kernel2Ideal.Values

end
-- ==== Proof.InOutS.lean ====
module

public import proofs.«01_k».proof.Proof.InMmS
public import proofs.«01_k».proof.Proof.InOut
public import Idealize.ShloMosaic.Lib.KernelVsHost
public import Idealize.ShloMosaic.Lib.StableHlo.RunRead

@[expose] public section

set_option maxRecDepth 16384

noncomputable section

namespace Cert.Kernel2Ideal.Values

open Cert.Kernel2Ideal Cert.Kernel2Ideal.Gen Idealize.ShloMosaic.StableHlo Idealize.ShloMosaic Idealize.ShloMosaic.TcCoe Idealize.SL.Sem

variable (m : (ℓ : Loc nD τ sig) → Buf (Elt Ideal) ℓ) (ρ : Dev nD → PrngReg)

theorem condss_at (c : Dev nD) (g : Fin 128) (k : Fin 4096) :
    (V1 m ρ c main_v1 : FVec Ideal S136x4096 .f32) (ix2 (⟨4 + g.val, by omega⟩ : Fin 136) k) = argS m c (ix2 g k) := by
  rw [conds]
  pointwise

/-- The sample's modulations, from the fifth row on. -/
theorem planes (c : Dev nD) (p : Fin 6) (g : Fin 128) (d : Fin 4096) :
    (W2 m ρ c (Proc.devRef .tc main_v3) : FVec Ideal S6x136x4096 .f32) (ix3 p (⟨4 + g.val, by omega⟩ : Fin 136) d)
      = Layer.ada (argS m c) (argA m c) (fun n => argB m c (ix1 n)) g (Layer.part p d) := by
  rw [show (W2 m ρ c (Proc.devRef .tc main_v3) : FVec Ideal S6x136x4096 .f32) = _ from (W2_arr m ρ c 3).trans (ada_final (V1 m ρ) c)]
  show Layer.ada _ _ _ (⟨4 + g.val, _⟩ : Fin 136) (Layer.part p d) = _
  unfold Layer.ada
  have ha : (V1 m ρ c main_arg6 : FVec Ideal S4096x24576 .f32) = argA m c := W1_args m ρ c main_arg6 (by decide)
  refine congrArg₂ (· + ·) (Finset.sum_congr rfl fun k _ => ?_) (bias_at m ρ c _)
  rw [condss_at, ha]

theorem shifts_at (c : Dev nD) (g : Fin 128) (d : Fin 4096) :
    (V3 m ρ c main_v12 : FVec Ideal S128x1x4096 .f32) (ix3 g 0 d)
      = Layer.ada (argS m c) (argA m c) (fun n => argB m c (ix1 n)) g (Layer.part 0 d) := by
  have e : (V3 m ρ c main_v12 : FVec Ideal S128x1x4096 .f32)
      = shapeCast S128x1x4096 (shapeCast S128x4096 (extractStridedSlice S1x128x4096 ![0, 4, 0]
          (W2 m ρ c (Proc.devRef .tc main_v3) : FVec Ideal S6x136x4096 .f32) slices_S6x136x4096_S1x128x4096_0_4_0)
          shapeCasts_S1x128x4096_S128x4096) shapeCasts_S128x4096_S128x1x4096 := by
    show StableHlo.after hostOps1 (W2 m ρ c) (Proc.devRef .tc _) = _
    after_reads_simp
    rfl
  rw [e, ← planes m ρ c 0 g d]
  pointwise

theorem scales_at (c : Dev nD) (g : Fin 128) (d : Fin 4096) :
    (V3 m ρ c main_v15 : FVec Ideal S128x1x4096 .f32) (ix3 g 0 d)
      = Layer.ada (argS m c) (argA m c) (fun n => argB m c (ix1 n)) g (Layer.part 1 d) := by
  have e : (V3 m ρ c main_v15 : FVec Ideal S128x1x4096 .f32)
      = shapeCast S128x1x4096 (shapeCast S128x4096 (extractStridedSlice S1x128x4096 ![1, 4, 0]
          (W2 m ρ c (Proc.devRef .tc main_v3) : FVec Ideal S6x136x4096 .f32) slices_S6x136x4096_S1x128x4096_1_4_0)
          shapeCasts_S1x128x4096_S128x4096) shapeCasts_S128x4096_S128x1x4096 := by
    show StableHlo.after hostOps1 (W2 m ρ c) (Proc.devRef .tc _) = _
    after_reads_simp
    rfl
  rw [e, ← planes m ρ c 1 g d]
  pointwise

/-- The rows the three projections read. -/
theorem rowss (c : Dev nD) : (V9 m ρ c main_v27 : FVec Ideal S1024x4096 .bf16)
    = (fun i => Layer.step (argXs m c) (argS m c) (argA m c) (argB m c) (Layer.seqS (i 0)) (Layer.posS (i 0)) (i 1) : FVec Ideal S1024x4096 .bf16) := by
  suffices key : ∀ (g : Fin 128) (t : Fin 8) (d : Fin 4096), Layer.modul (V8 m ρ c main_arg1) (V8 m ρ c main_v15) (V8 m ρ c main_v12) g t d
      = Layer.step (argXs m c) (argS m c) (argA m c) (argB m c) g t d from
    ((W9_arr m ρ c 3).trans (mods_final (V8 m ρ) c)).trans (funext fun i => key (Layer.seqS (i 0)) (Layer.posS (i 0)) (i 1))
  intro g t d
  have hx : (V8 m ρ c main_arg1 : FVec Ideal S128x8x4096 .f32) = argXs m c := W8_args m ρ c main_arg1 (by decide)
  have hs : (V8 m ρ c main_v12 : FVec Ideal S128x1x4096 .f32) = V3 m ρ c main_v12 :=
    (W8_of m ρ c main_v12 (by decide)).trans ((W7_of m ρ c main_v12 (by decide)).trans ((W6_of m ρ c main_v12 (by decide)).trans ((W5_of m ρ c main_v12 (by decide)).trans (W4_of m ρ c main_v12 (by decide)))))
  have hc : (V8 m ρ c main_v15 : FVec Ideal S128x1x4096 .f32) = V3 m ρ c main_v15 :=
    (W8_of m ρ c main_v15 (by decide)).trans ((W7_of m ρ c main_v15 (by decide)).trans ((W6_of m ρ c main_v15 (by decide)).trans ((W5_of m ρ c main_v15 (by decide)).trans (W4_of m ρ c main_v15 (by decide)))))
  unfold Layer.modul Layer.step
  rw [hs, hc, shifts_at, scales_at, hx]

theorem inps_of (c : Dev nD) (x : FVec Ideal S1024x4096 .bf16) (w : FVec Ideal S4096x4608 .f32)
    (hx : x = V9 m ρ c main_v27) (hw : w = argW m c) (R : Fin 1024) (j : Fin 4608) :
    Layer.prod x w R j = Layer.inp (argXs m c) (argS m c) (argA m c) (argB m c) (argW m c) (Layer.seqS R) (Layer.posS R) j := by
  rw [hx, hw, rowss]
  rfl

/-- The sample's queries: the in-projection's first 2048 columns. -/
theorem qs_call (c : Dev nD) : (W10 m ρ c (Proc.devRef .tc main_v28) : FVec Ideal S1024x2048 .f32)
    = fun i => Layer.inp (argXs m c) (argS m c) (argA m c) (argB m c) (argW m c) (Layer.seqS (i 0)) (Layer.posS (i 0)) (Layer.shift (n := 2048) 0 (by decide) (i 1)) := by
  refine (W10_arr m ρ c 2).trans ((qs_final (V9 m ρ) c).trans (funext fun i => ?_))
  exact inps_of m ρ c _ _ rfl (W9_args m ρ c main_arg8 (by decide)) _ _

theorem qs_out (c : Dev nD) : (W15 m ρ c (Proc.devRef .tc main_v28) : FVec Ideal S1024x2048 .f32)
    = fun i => Layer.inp (argXs m c) (argS m c) (argA m c) (argB m c) (argW m c) (Layer.seqS (i 0)) (Layer.posS (i 0)) (Layer.shift (n := 2048) 0 (by decide) (i 1)) :=
  ((W15_of m ρ c main_v28 (by decide)).trans ((W14_of m ρ c main_v28 (by decide)).trans ((W13_of m ρ c main_v28 (by decide)).trans ((W12_of m ρ c main_v28 (by decide)).trans (W11_of m ρ c main_v28 (by decide)))))).trans
    (qs_call m ρ c)

/-- The sample's keys and values: its next 512. -/
theorem kvs_call (c : Dev nD) : (W11 m ρ c (Proc.devRef .tc main_v29) : FVec Ideal S1024x512 .f32)
    = fun i => Layer.inp (argXs m c) (argS m c) (argA m c) (argB m c) (argW m c) (Layer.seqS (i 0)) (Layer.posS (i 0)) (Layer.shift (n := 512) 2048 (by decide) (i 1)) := by
  refine (W11_arr m ρ c 2).trans ((kvs_final (V10 m ρ) c).trans (funext fun i => ?_))
  exact inps_of m ρ c _ _ (W10_of m ρ c main_v27 (by decide)) (W10_args m ρ c main_arg8 (by decide)) _ _

theorem kvs_out (c : Dev nD) : (W15 m ρ c (Proc.devRef .tc main_v29) : FVec Ideal S1024x512 .f32)
    = fun i => Layer.inp (argXs m c) (argS m c) (argA m c) (argB m c) (argW m c) (Layer.seqS (i 0)) (Layer.posS (i 0)) (Layer.shift (n := 512) 2048 (by decide) (i 1)) :=
  ((W15_of m ρ c main_v29 (by decide)).trans ((W14_of m ρ c main_v29 (by decide)).trans ((W13_of m ρ c main_v29 (by decide)).trans (W12_of m ρ c main_v29 (by decide))))).trans
    (kvs_call m ρ c)

/-- What the sample's pool reads: its last 2048. -/
theorem us_call (c : Dev nD) : (W12 m ρ c (Proc.devRef .tc main_v30) : FVec Ideal S1024x2048 .f32)
    = fun i => Layer.inp (argXs m c) (argS m c) (argA m c) (argB m c) (argW m c) (Layer.seqS (i 0)) (Layer.posS (i 0)) (Layer.shift (n := 2048) 2560 (by decide) (i 1)) := by
  refine (W12_arr m ρ c 2).trans ((us_final (V11 m ρ) c).trans (funext fun i => ?_))
  exact inps_of m ρ c _ _ ((W11_of m ρ c main_v27 (by decide)).trans (W10_of m ρ c main_v27 (by decide))) (W11_args m ρ c main_arg8 (by decide)) _ _

theorem us_out (c : Dev nD) : (W15 m ρ c (Proc.devRef .tc main_v30) : FVec Ideal S1024x2048 .f32)
    = fun i => Layer.inp (argXs m c) (argS m c) (argA m c) (argB m c) (argW m c) (Layer.seqS (i 0)) (Layer.posS (i 0)) (Layer.shift (n := 2048) 2560 (by decide) (i 1)) :=
  ((W15_of m ρ c main_v30 (by decide)).trans ((W14_of m ρ c main_v30 (by decide)).trans (W13_of m ρ c main_v30 (by decide)))).trans
    (us_call m ρ c)

/-- A row of the sample by its sequence and position. -/
theorem at_rows (g : Fin 128) (t : Fin 8) :
    Layer.seqS (⟨g.val * 8 + t.val, by omega⟩ : Fin 1024) = g ∧ Layer.posS (⟨g.val * 8 + t.val, by omega⟩ : Fin 1024) = t :=
  ⟨Fin.ext (show (g.val * 8 + t.val) / 8 = g.val by omega), Fin.ext (show (g.val * 8 + t.val) % 8 = t.val by omega)⟩

theorem newvs (c : Dev nD) : (W15 m ρ c (Proc.devRef .tc main_v35) : FVec Ideal S128x128x4x64 .f32)
    = extractStridedSlice S128x128x4x64 ![0, 8, 0, 0]
        (concatenate S128x136x4x64 1 [⟨S128x128x4x64, argV m c⟩,
          ⟨S128x8x4x64, shapeCast S128x8x4x64 (extractStridedSlice S1024x256 ![0, 256]
            (W11 m ρ c (Proc.devRef .tc main_v29) : FVec Ideal S1024x512 .f32) slices_S1024x512_S1024x256_0_256)
            shapeCasts_S1024x256_S128x8x4x64⟩] concatenates_S128x128x4x64_S128x8x4x64_S128x136x4x64_d1)
        slices_S128x136x4x64_S128x128x4x64_0_8_0_0 := by
  have e : (W14 m ρ c (Proc.devRef .tc main_v29) : FVec Ideal S1024x512 .f32) = W11 m ρ c (Proc.devRef .tc main_v29) :=
    (W14_of m ρ c main_v29 (by decide)).trans ((W13_of m ρ c main_v29 (by decide)).trans (W12_of m ρ c main_v29 (by decide)))
  have ha : (W14 m ρ c (Proc.devRef .tc main_arg2) : FVec Ideal S128x128x4x64 .f32) = argV m c := W14_args m ρ c main_arg2 (by decide)
  rw [← e, ← ha]
  show StableHlo.after hostOps9_2 (W14 m ρ c) (Proc.devRef .tc _) = _
  after_reads_simp
  rfl

/-- The sample's values handed on: its cache's last 120 positions, then its own eight. -/
theorem cached_at (c : Dev nD) (g : Fin 128) (t : Fin 120) (h : Fin 4) (e : Fin 64) :
    (W15 m ρ c (Proc.devRef .tc main_v35) : FVec Ideal S128x128x4x64 .f32) (ix4 g (⟨t.val, by omega⟩ : Fin 128) h e)
      = argV m c (ix4 g (⟨8 + t.val, by omega⟩ : Fin 128) h e) := by
  rw [newvs]
  pointwise
  rw [dif_pos (by omega)]

theorem newvs_at (c : Dev nD) (g : Fin 128) (t : Fin 8) (h : Fin 4) (e : Fin 64) :
    (W15 m ρ c (Proc.devRef .tc main_v35) : FVec Ideal S128x128x4x64 .f32) (ix4 g (⟨120 + t.val, by omega⟩ : Fin 128) h e)
      = Layer.inp (argXs m c) (argS m c) (argA m c) (argB m c) (argW m c) g t (Layer.vcol h e) := by
  have hR := at_rows g t
  have hk := congrFun (kvs_call m ρ c)
    (ix2 (⟨g.val * 8 + t.val, by omega⟩ : Fin 1024) (⟨256 + (h.val * 64 + e.val), by omega⟩ : Fin 512))
  refine Eq.trans ?_ (hk.trans ?_)
  · rw [newvs]
    pointwise
    rw [dif_neg (by omega)]
    refine congrArg _ ?_
    idx_ext
  · show Layer.inp (argXs m c) (argS m c) (argA m c) (argB m c) (argW m c) (Layer.seqS (⟨g.val * 8 + t.val, by omega⟩ : Fin 1024))
      (Layer.posS (⟨g.val * 8 + t.val, by omega⟩ : Fin 1024))
      (⟨2048 + (256 + (h.val * 64 + e.val)), by omega⟩ : Fin 4608) = _
    rw [hR.1, hR.2]
    exact congrArg _ (Fin.ext (show 2048 + (256 + (h.val * 64 + e.val)) = 2304 + (h.val * 64 + e.val) by omega))

/-- The sample's state with a row of zeros before it. -/
theorem padded (c : Dev nD) (g : Fin 128) (t : Fin 15) (d : Fin 2048) :
    (W14 m ρ c (Proc.devRef .tc main_v31) : FVec Ideal S128x16x2048 .f32) (ix3 g (⟨1 + t.val, by omega⟩ : Fin 16) d)
      = argP m c (ix3 g t d) := by
  have ha : (W13 m ρ c (Proc.devRef .tc main_arg3) : FVec Ideal S128x15x2048 .f32) = argP m c := W13_args m ρ c main_arg3 (by decide)
  have e : (W14 m ρ c (Proc.devRef .tc main_v31) : FVec Ideal S128x16x2048 .f32)
      = pad S128x16x2048 ![0, 1, 0] ![0, 0, 0] ![0, 0, 0] (W13 m ρ c (Proc.devRef .tc main_arg3) : FVec Ideal S128x15x2048 .f32)
          (sitofp (F := Ideal) .f32 (W13 m ρ c (Proc.devRef .tc main_c))) pads_S128x15x2048_S128x16x2048_000_100_000 h_S_ := by
    show StableHlo.after hostOps9_1 (W13 m ρ c) (Proc.devRef .tc _) = _
    after_reads_simp
    rfl
  rw [e, ha]
  refine pad_apply_of_inside _ _ _ _ _ _ _ _ (ix3 g t d) fun a => ?_
  fin_cases a
  · show g.val = 0 + g.val * 1
    omega
  · show 1 + t.val = 1 + t.val * 1
    omega
  · show d.val = 0 + d.val * 1
    omega

theorem newpools (c : Dev nD) : (W15 m ρ c (Proc.devRef .tc main_v38) : FVec Ideal S128x15x2048 .f32)
    = extractStridedSlice S128x15x2048 ![0, 9, 0]
        (concatenate S128x24x2048 1 [⟨S128x16x2048, (W14 m ρ c (Proc.devRef .tc main_v31) : FVec Ideal S128x16x2048 .f32)⟩,
          ⟨S128x8x2048, shapeCast S128x8x2048 (W12 m ρ c (Proc.devRef .tc main_v30) : FVec Ideal S1024x2048 .f32)
            shapeCasts_S1024x2048_S128x8x2048⟩] concatenates_S128x16x2048_S128x8x2048_S128x24x2048_d1)
        slices_S128x24x2048_S128x15x2048_0_9_0 := by
  have e : (W14 m ρ c (Proc.devRef .tc main_v30) : FVec Ideal S1024x2048 .f32) = W12 m ρ c (Proc.devRef .tc main_v30) :=
    (W14_of m ρ c main_v30 (by decide)).trans (W13_of m ρ c main_v30 (by decide))
  rw [← e]
  show StableHlo.after hostOps9_2 (W14 m ρ c) (Proc.devRef .tc _) = _
  after_reads_simp
  rfl

/-- The sample's pool inputs handed on: its state's last seven positions, then its own eight. -/
theorem state_at (c : Dev nD) (g : Fin 128) (t : Fin 7) (d : Fin 2048) :
    (W15 m ρ c (Proc.devRef .tc main_v38) : FVec Ideal S128x15x2048 .f32) (ix3 g (⟨t.val, by omega⟩ : Fin 15) d)
      = argP m c (ix3 g (⟨8 + t.val, by omega⟩ : Fin 15) d) := by
  rw [newpools, ← padded m ρ c]
  pointwise
  rw [dif_pos (by omega)]
  refine congrArg _ ?_
  idx_ext

theorem newpools_at (c : Dev nD) (g : Fin 128) (t : Fin 8) (d : Fin 2048) :
    (W15 m ρ c (Proc.devRef .tc main_v38) : FVec Ideal S128x15x2048 .f32) (ix3 g (⟨7 + t.val, by omega⟩ : Fin 15) d)
      = Layer.inp (argXs m c) (argS m c) (argA m c) (argB m c) (argW m c) g t (Layer.shift (n := 2048) 2560 (by decide) d) := by
  have hR := at_rows g t
  have hk := congrFun (us_call m ρ c) (ix2 (⟨g.val * 8 + t.val, by omega⟩ : Fin 1024) d)
  refine Eq.trans ?_ (hk.trans ?_)
  · rw [newpools]
    pointwise
    rw [dif_neg (by omega)]
    refine congrArg _ ?_
    idx_ext
  · show Layer.inp (argXs m c) (argS m c) (argA m c) (argB m c) (argW m c) (Layer.seqS (⟨g.val * 8 + t.val, by omega⟩ : Fin 1024))
      (Layer.posS (⟨g.val * 8 + t.val, by omega⟩ : Fin 1024))
      (Layer.shift (n := 2048) 2560 (by decide) d) = _
    rw [hR.1, hR.2]

/-- The modulations handed on: the sample's conditions' from the fifth row on. -/
theorem modps_at (c : Dev nD) (p : Fin 6) (g : Fin 128) (d : Fin 4096) :
    (W15 m ρ c (Proc.devRef .tc main_v39) : FVec Ideal S6x132x4096 .f32) (ix3 p (⟨4 + g.val, by omega⟩ : Fin 132) d)
      = Layer.ada (argS m c) (argA m c) (fun n => argB m c (ix1 n)) g (Layer.part p d) := by
  rw [mods, ← planes m ρ c p g d]
  pointwise

end Cert.Kernel2Ideal.Values

end
-- ==== Proof.InRef.lean ====
module

public import proofs.«01_k».proof.Proof.Gen.Reference2Ideal.Run
public import proofs.«01_k».proof.Proof.Gen.Reference2Ideal.Read
public import proofs.«01_k».proof.Proof.Layer
public import Idealize.ShloMosaic.Lib.IdealHost

@[expose] public section

set_option maxRecDepth 16384

noncomputable section

namespace Cert.Reference2Ideal.Values

open Cert.Reference2Ideal Cert.Reference2Ideal.Gen Cert.Reference2Ideal.Read Idealize.ShloMosaic Idealize.ShloMosaic.TcCoe Idealize.SL.Sem

variable (x0 : FVec Ideal S4x2048x4096 .f32) (x1 : FVec Ideal S128x8x4096 .f32) (x2 : FVec Ideal S128x128x4x64 .f32)
  (x3 : FVec Ideal S128x15x2048 .f32) (x4 : FVec Ideal S4x4096 .f32) (x5 : FVec Ideal S128x4096 .f32)
  (x6 : FVec Ideal S4096x24576 .f32) (x7 : FVec Ideal S24576 .f32) (x8 : FVec Ideal S4096x4608 .f32)

/-- The reference's activation is the kernel's: the same quotient. -/
theorem silu_at (g : Fin 4) (k : Fin 4096) :
    val_main_v0 (F := Ideal) x4 (ix2 g k) = x4 (ix2 g k) * Ideal.logistic (x4 (ix2 g k)) := by
  pointwise [val_main_v0, val_main_call0_v5, val_main_call0_v4, val_main_call0_cst_0, val_main_call0_v3, val_main_call0_v2, val_main_call0_cst, val_main_call0_v1, val_main_call0_v0]
  simp only [Ideal.logistic, Ideal.ofBits_one_f32]

theorem mods_at (g : Fin 4) (n : Fin 24576) :
    val_main_v4 (F := Ideal) x4 x6 x7 (ix2 g n) = Layer.ada x4 x6 (fun n => x7 (ix1 n)) g n := by
  unfold Layer.ada
  simp only [← silu_at]
  pointwise [val_main_v4, val_main_v1, val_main_v3, val_main_v2]

theorem plane_at (g : Fin 4) (p : Fin 6) (v : Fin 1) (d : Fin 4096) :
    val_main_v6 (F := Ideal) x4 x6 x7 (ix4 g p v d) = Layer.ada x4 x6 (fun n => x7 (ix1 n)) g (Layer.part p d) := by
  rw [← mods_at]
  unfold Layer.part
  pointwise [val_main_v6, val_main_v5]
  refine congrArg _ ?_
  idx_ext

theorem shift_at (g : Fin 4) (u : Fin 1) (d : Fin 4096) :
    val_main_v21 (F := Ideal) x4 x6 x7 (ix3 g u d) = Layer.ada x4 x6 (fun n => x7 (ix1 n)) g (Layer.part 0 d) := by
  rw [← mods_at]
  unfold Layer.part
  pointwise [val_main_v21, val_main_v20, val_main_v6, val_main_v5]

theorem scale_at (g : Fin 4) (u : Fin 1) (d : Fin 4096) :
    val_main_v15 (F := Ideal) x4 x6 x7 (ix3 g u d) = Layer.ada x4 x6 (fun n => x7 (ix1 n)) g (Layer.part 1 d) := by
  rw [← mods_at]
  unfold Layer.part
  pointwise [val_main_v15, val_main_v14, val_main_v6, val_main_v5]

theorem rows_at (g : Fin 4) (t : Fin 2048) (d : Fin 4096) :
    val_main_v23 (F := Ideal) x0 x4 x6 x7 (ix3 g t d) = Layer.step x0 x4 x6 x7 g t d := by
  unfold Layer.step
  rw [← shift_at x4 x6 x7 _ 0, ← scale_at x4 x6 x7 _ 0]
  pointwise [val_main_v23, val_main_v22, val_main_v19, val_main_v18, val_main_v17, val_main_v16, val_main_cst]

theorem inp_at (g : Fin 4) (t : Fin 2048) (j : Fin 4608) :
    val_main_v24 (F := Ideal) x0 x4 x6 x7 x8 (ix3 g t j) = Layer.inp x0 x4 x6 x7 x8 g t j := by
  unfold Layer.inp
  simp only [← rows_at]
  pointwise [val_main_v24]

theorem flat_at (R : Fin 8192) (j : Fin 4608) :
    val_main_v32 (F := Ideal) x0 x4 x6 x7 x8 (ix2 R j) = Layer.inp x0 x4 x6 x7 x8 (Layer.seqOf R) (Layer.posOf R) j := by
  rw [← inp_at]
  unfold Layer.seqOf Layer.posOf
  pointwise [val_main_v32]

theorem q_at (i : S8192x2048.Idx) : val_main_v55 (F := Ideal) x0 x4 x6 x7 x8 i
    = Layer.inp x0 x4 x6 x7 x8 (Layer.seqOf (i 0)) (Layer.posOf (i 0)) (Layer.shift (n := 2048) 0 (by decide) (i 1)) := by
  refine Eq.trans ?_ (flat_at x0 x4 x6 x7 x8 (i 0) _)
  rw [val_main_v55_apply]
  refine congrArg (val_main_v32 (F := Ideal) x0 x4 x6 x7 x8) ?_
  unfold Layer.shift
  idx_ext

theorem kv_at (i : S8192x512.Idx) : val_main_v56 (F := Ideal) x0 x4 x6 x7 x8 i
    = Layer.inp x0 x4 x6 x7 x8 (Layer.seqOf (i 0)) (Layer.posOf (i 0)) (Layer.shift (n := 512) 2048 (by decide) (i 1)) := by
  refine Eq.trans ?_ (flat_at x0 x4 x6 x7 x8 (i 0) _)
  rw [val_main_v56_apply]
  refine congrArg (val_main_v32 (F := Ideal) x0 x4 x6 x7 x8) ?_
  unfold Layer.shift
  idx_ext

theorem u_at (i : S8192x2048.Idx) : val_main_v57 (F := Ideal) x0 x4 x6 x7 x8 i
    = Layer.inp x0 x4 x6 x7 x8 (Layer.seqOf (i 0)) (Layer.posOf (i 0)) (Layer.shift (n := 2048) 2560 (by decide) (i 1)) := by
  refine Eq.trans ?_ (flat_at x0 x4 x6 x7 x8 (i 0) _)
  rw [val_main_v57_apply]
  refine congrArg (val_main_v32 (F := Ideal) x0 x4 x6 x7 x8) ?_
  unfold Layer.shift
  idx_ext

/-- The values handed on: the last 128 positions' value columns. -/
theorem newv_at (g : Fin 4) (t : Fin 128) (h : Fin 4) (e : Fin 64) :
    val_main_v29 (F := Ideal) x0 x4 x6 x7 x8 (ix4 g t h e)
      = Layer.inp x0 x4 x6 x7 x8 g (⟨1920 + t.val, by omega⟩ : Fin 2048) (Layer.vcol h e) := by
  rw [← inp_at]
  unfold Layer.vcol
  pointwise [val_main_v29, val_main_v26, val_main_v25]

/-- The pool inputs handed on: the last 15 positions'. -/
theorem newpool_at (g : Fin 4) (t : Fin 15) (d : Fin 2048) :
    val_main_v31 (F := Ideal) x0 x4 x6 x7 x8 (ix3 g t d)
      = Layer.inp x0 x4 x6 x7 x8 g (⟨2033 + t.val, by omega⟩ : Fin 2048) (Layer.shift (n := 2048) 2560 (by decide) d) := by
  rw [← inp_at]
  unfold Layer.shift
  pointwise [val_main_v31, val_main_v30, val_main_v27]
  rw [dif_neg (by omega)]
  refine congrArg _ ?_
  idx_ext

end Cert.Reference2Ideal.Values

end
-- ==== Proof.InRefS.lean ====
module

public import proofs.«01_k».proof.Proof.Gen.Reference2Ideal.Run
public import proofs.«01_k».proof.Proof.Gen.Reference2Ideal.Read
public import proofs.«01_k».proof.Proof.InRef
public import Idealize.ShloMosaic.Lib.IdealHost

@[expose] public section

set_option maxRecDepth 16384

noncomputable section

namespace Cert.Reference2Ideal.Values

open Cert.Reference2Ideal Cert.Reference2Ideal.Gen Cert.Reference2Ideal.Read Idealize.ShloMosaic Idealize.ShloMosaic.TcCoe Idealize.SL.Sem

variable (x0 : FVec Ideal S4x2048x4096 .f32) (x1 : FVec Ideal S128x8x4096 .f32) (x2 : FVec Ideal S128x128x4x64 .f32)
  (x3 : FVec Ideal S128x15x2048 .f32) (x4 : FVec Ideal S4x4096 .f32) (x5 : FVec Ideal S128x4096 .f32)
  (x6 : FVec Ideal S4096x24576 .f32) (x7 : FVec Ideal S24576 .f32) (x8 : FVec Ideal S4096x4608 .f32)

/-- The reference's activation is the kernel's: the same quotient. -/
theorem silus_at (g : Fin 128) (k : Fin 4096) :
    val_main_v7 (F := Ideal) x5 (ix2 g k) = x5 (ix2 g k) * Ideal.logistic (x5 (ix2 g k)) := by
  pointwise [val_main_v7, val_main_call1_v5, val_main_call1_v4, val_main_call1_cst_0, val_main_call1_v3, val_main_call1_v2, val_main_call1_cst, val_main_call1_v1, val_main_call1_v0]
  simp only [Ideal.logistic, Ideal.ofBits_one_f32]

theorem modss_at (g : Fin 128) (n : Fin 24576) :
    val_main_v11 (F := Ideal) x5 x6 x7 (ix2 g n) = Layer.ada x5 x6 (fun n => x7 (ix1 n)) g n := by
  unfold Layer.ada
  simp only [← silus_at]
  pointwise [val_main_v11, val_main_v8, val_main_v10, val_main_v9]

theorem planes_at (g : Fin 128) (p : Fin 6) (v : Fin 1) (d : Fin 4096) :
    val_main_v13 (F := Ideal) x5 x6 x7 (ix4 g p v d) = Layer.ada x5 x6 (fun n => x7 (ix1 n)) g (Layer.part p d) := by
  rw [← modss_at]
  unfold Layer.part
  pointwise [val_main_v13, val_main_v12]
  refine congrArg _ ?_
  idx_ext

theorem shifts_at (g : Fin 128) (u : Fin 1) (d : Fin 4096) :
    val_main_v40 (F := Ideal) x5 x6 x7 (ix3 g u d) = Layer.ada x5 x6 (fun n => x7 (ix1 n)) g (Layer.part 0 d) := by
  rw [← modss_at]
  unfold Layer.part
  pointwise [val_main_v40, val_main_v39, val_main_v13, val_main_v12]

theorem scales_at (g : Fin 128) (u : Fin 1) (d : Fin 4096) :
    val_main_v34 (F := Ideal) x5 x6 x7 (ix3 g u d) = Layer.ada x5 x6 (fun n => x7 (ix1 n)) g (Layer.part 1 d) := by
  rw [← modss_at]
  unfold Layer.part
  pointwise [val_main_v34, val_main_v33, val_main_v13, val_main_v12]

theorem rowss_at (g : Fin 128) (t : Fin 8) (d : Fin 4096) :
    val_main_v42 (F := Ideal) x1 x5 x6 x7 (ix3 g t d) = Layer.step x1 x5 x6 x7 g t d := by
  unfold Layer.step
  rw [← shifts_at x5 x6 x7 _ 0, ← scales_at x5 x6 x7 _ 0]
  pointwise [val_main_v42, val_main_v41, val_main_v38, val_main_v37, val_main_v36, val_main_v35, val_main_cst_1]

theorem inps_at (g : Fin 128) (t : Fin 8) (j : Fin 4608) :
    val_main_v43 (F := Ideal) x1 x5 x6 x7 x8 (ix3 g t j) = Layer.inp x1 x5 x6 x7 x8 g t j := by
  unfold Layer.inp
  simp only [← rowss_at]
  pointwise [val_main_v43]

theorem flats_at (R : Fin 1024) (j : Fin 4608) :
    val_main_v51 (F := Ideal) x1 x5 x6 x7 x8 (ix2 R j) = Layer.inp x1 x5 x6 x7 x8 (Layer.seqS R) (Layer.posS R) j := by
  rw [← inps_at]
  unfold Layer.seqS Layer.posS
  pointwise [val_main_v51]

theorem qs_at (i : S1024x2048.Idx) : val_main_v58 (F := Ideal) x1 x5 x6 x7 x8 i
    = Layer.inp x1 x5 x6 x7 x8 (Layer.seqS (i 0)) (Layer.posS (i 0)) (Layer.shift (n := 2048) 0 (by decide) (i 1)) := by
  refine Eq.trans ?_ (flats_at x1 x5 x6 x7 x8 (i 0) _)
  rw [val_main_v58_apply]
  refine congrArg (val_main_v51 (F := Ideal) x1 x5 x6 x7 x8) ?_
  unfold Layer.shift
  idx_ext

theorem kvs_at (i : S1024x512.Idx) : val_main_v59 (F := Ideal) x1 x5 x6 x7 x8 i
    = Layer.inp x1 x5 x6 x7 x8 (Layer.seqS (i 0)) (Layer.posS (i 0)) (Layer.shift (n := 512) 2048 (by decide) (i 1)) := by
  refine Eq.trans ?_ (flats_at x1 x5 x6 x7 x8 (i 0) _)
  rw [val_main_v59_apply]
  refine congrArg (val_main_v51 (F := Ideal) x1 x5 x6 x7 x8) ?_
  unfold Layer.shift
  idx_ext

theorem us_at (i : S1024x2048.Idx) : val_main_v60 (F := Ideal) x1 x5 x6 x7 x8 i
    = Layer.inp x1 x5 x6 x7 x8 (Layer.seqS (i 0)) (Layer.posS (i 0)) (Layer.shift (n := 2048) 2560 (by decide) (i 1)) := by
  refine Eq.trans ?_ (flats_at x1 x5 x6 x7 x8 (i 0) _)
  rw [val_main_v60_apply]
  refine congrArg (val_main_v51 (F := Ideal) x1 x5 x6 x7 x8) ?_
  unfold Layer.shift
  idx_ext

/-- The sample's values handed on: its cache's last 120 positions, then its own eight. -/
theorem cached_at (g : Fin 128) (t : Fin 120) (h : Fin 4) (e : Fin 64) :
    val_main_v48 (F := Ideal) x1 x2 x5 x6 x7 x8 (ix4 g (⟨t.val, by omega⟩ : Fin 128) h e)
      = x2 (ix4 g (⟨8 + t.val, by omega⟩ : Fin 128) h e) := by
  pointwise [val_main_v48, val_main_v47]
  rw [dif_pos (by omega)]

theorem newvs_at (g : Fin 128) (t : Fin 8) (h : Fin 4) (e : Fin 64) :
    val_main_v48 (F := Ideal) x1 x2 x5 x6 x7 x8 (ix4 g (⟨120 + t.val, by omega⟩ : Fin 128) h e)
      = Layer.inp x1 x5 x6 x7 x8 g t (Layer.vcol h e) := by
  rw [← inps_at]
  unfold Layer.vcol
  pointwise [val_main_v48, val_main_v47, val_main_v45, val_main_v44]
  rw [dif_neg (by omega)]
  refine congrArg _ ?_
  idx_ext

/-- The sample's pool inputs handed on: its state's last seven positions, then its own eight. -/
theorem state_at (g : Fin 128) (t : Fin 7) (d : Fin 2048) :
    val_main_v50 (F := Ideal) x1 x3 x5 x6 x7 x8 (ix3 g (⟨t.val, by omega⟩ : Fin 15) d)
      = x3 (ix3 g (⟨8 + t.val, by omega⟩ : Fin 15) d) := by
  pointwise [val_main_v50, val_main_v49]
  rw [dif_pos (by omega)]

theorem newpools_at (g : Fin 128) (t : Fin 8) (d : Fin 2048) :
    val_main_v50 (F := Ideal) x1 x3 x5 x6 x7 x8 (ix3 g (⟨7 + t.val, by omega⟩ : Fin 15) d)
      = Layer.inp x1 x5 x6 x7 x8 g t (Layer.shift (n := 2048) 2560 (by decide) d) := by
  rw [← inps_at]
  unfold Layer.shift
  pointwise [val_main_v50, val_main_v49, val_main_v46]
  rw [dif_neg (by omega)]
  refine congrArg _ ?_
  idx_ext

/-- The modulations handed on: the prompt's four conditions', then the sample's. -/
theorem modp_at (p : Fin 6) (g : Fin 4) (d : Fin 4096) :
    val_main_v54 (F := Ideal) x4 x5 x6 x7 (ix3 p (⟨g.val, by omega⟩ : Fin 132) d)
      = Layer.ada x4 x6 (fun n => x7 (ix1 n)) g (Layer.part p d) := by
  rw [← plane_at x4 x6 x7 g p 0 d]
  pointwise [val_main_v54, val_main_v53, val_main_v52]

theorem modps_at (p : Fin 6) (g : Fin 128) (d : Fin 4096) :
    val_main_v54 (F := Ideal) x4 x5 x6 x7 (ix3 p (⟨4 + g.val, by omega⟩ : Fin 132) d)
      = Layer.ada x5 x6 (fun n => x7 (ix1 n)) g (Layer.part p d) := by
  rw [← planes_at x5 x6 x7 g p 0 d]
  pointwise [val_main_v54, val_main_v53, val_main_v52]

end Cert.Reference2Ideal.Values

end
-- ==== Proof.InClaims.lean ====
/- The claims of the conditions' modulations and the in-projections of both batches: the three frames, the (unchanged)
   idealization, and the equality of the eleven results with the reference's. -/
module

public import proofs.«01_k».proof.Proof.InOutS
public import proofs.«01_k».proof.Proof.InRefS
public import proofs.«01_k».proof.Proof.Gen.Kernel2.Frame
public import proofs.«01_k».proof.Defs

@[expose] public section

set_option maxRecDepth 16384

noncomputable section

namespace Cert.InClaims

open Idealize.ShloMosaic Idealize.SL.Sem
open Cert.Kernel2Ideal.Values (argX argXs argV argP argC argS argA argB argW)

theorem frame_p : Cert.quiescent_Kernel2 (hKernel2 := Cert.Kernel2.Gen.facts) := fun m ρ _ => Cert.Kernel2.Gen.frame m ρ

theorem frame_pi : Cert.quiescent_Kernel2Ideal (hKernel2Ideal := Cert.Kernel2Ideal.Gen.facts) :=
  fun m ρ _ => Cert.Kernel2Ideal.Gen.frame m ρ

theorem frame_ri : Cert.quiescent_Reference2Ideal (hReference2Ideal := Cert.Reference2Ideal.Gen.facts) := fun m ρ _ =>
  (θ_run Cert.Reference2Ideal.defs _ _).mono (fun r h => ⟨fun c => (h c).2.2.2.2.2.2.2.2.2.2.2, sem_eq_zero_of_no_sems (by decide) r.2⟩)
    (Cert.Reference2Ideal.Value.run (F := Ideal) m ρ)

theorem preserves : Cert.preserves_Kernel2_Kernel2Ideal := trivial

variable (m : (ℓ : Loc Cert.Kernel2Ideal.nD Cert.Kernel2Ideal.τ Cert.Kernel2Ideal.sig) → Buf (Elt Ideal) ℓ)
  (ρ : Dev Cert.Kernel2Ideal.nD → PrngReg) (c : Dev Cert.Kernel2Ideal.nD)

/-- What holds of the first `a` of `n` and of the `b` others holds of all. -/
theorem halves {a b n : ℕ} (h : a + b = n) {P : Fin n → Prop} (h1 : ∀ t : Fin a, P ⟨t.val, by omega⟩)
    (h2 : ∀ t : Fin b, P ⟨a + t.val, by omega⟩) (i : Fin n) : P i := by
  by_cases hi : i.val < a
  · exact h1 ⟨i.val, hi⟩
  · have e : (⟨a + (i.val - a), by omega⟩ : Fin n) = i := Fin.ext (show a + (i.val - a) = i.val by omega)
    exact e ▸ h2 ⟨i.val - a, by omega⟩

theorem mods_eq : Cert.Reference2Ideal.Read.val_main_v54 (F := Ideal) (argC m c) (argS m c) (argA m c) (argB m c)
    = (Cert.Kernel2Ideal.Gen.W15 m ρ c (Proc.devRef .tc Cert.Kernel2Ideal.main_v39) : FVec Ideal Cert.Kernel2Ideal.S6x132x4096 .f32) := by
  refine Layer.ext3 fun p r d => ?_
  revert r
  refine halves (a := 4) (b := 128) (n := 132) rfl (fun g => ?_) (fun g => ?_)
  · exact (Cert.Reference2Ideal.Values.modp_at _ _ _ _ p g d).trans (Cert.Kernel2Ideal.Values.modp_at m ρ c p g d).symm
  · exact (Cert.Reference2Ideal.Values.modps_at _ _ _ _ p g d).trans (Cert.Kernel2Ideal.Values.modps_at m ρ c p g d).symm

theorem q_eq : Cert.Reference2Ideal.Read.val_main_v55 (F := Ideal) (argX m c) (argC m c) (argA m c) (argB m c) (argW m c)
    = (Cert.Kernel2Ideal.Gen.W15 m ρ c (Proc.devRef .tc Cert.Kernel2Ideal.main_v17) : FVec Ideal Cert.Kernel2Ideal.S8192x2048 .f32) := by
  exact ((Cert.Kernel2Ideal.Values.q_out m ρ c).trans
    (funext fun i => (Cert.Reference2Ideal.Values.q_at _ _ _ _ _ i).symm)).symm

theorem kv_eq : Cert.Reference2Ideal.Read.val_main_v56 (F := Ideal) (argX m c) (argC m c) (argA m c) (argB m c) (argW m c)
    = (Cert.Kernel2Ideal.Gen.W15 m ρ c (Proc.devRef .tc Cert.Kernel2Ideal.main_v18) : FVec Ideal Cert.Kernel2Ideal.S8192x512 .f32) := by
  exact ((Cert.Kernel2Ideal.Values.kv_out m ρ c).trans
    (funext fun i => (Cert.Reference2Ideal.Values.kv_at _ _ _ _ _ i).symm)).symm

theorem u_eq : Cert.Reference2Ideal.Read.val_main_v57 (F := Ideal) (argX m c) (argC m c) (argA m c) (argB m c) (argW m c)
    = (Cert.Kernel2Ideal.Gen.W15 m ρ c (Proc.devRef .tc Cert.Kernel2Ideal.main_v19) : FVec Ideal Cert.Kernel2Ideal.S8192x2048 .f32) := by
  exact ((Cert.Kernel2Ideal.Values.u_out m ρ c).trans
    (funext fun i => (Cert.Reference2Ideal.Values.u_at _ _ _ _ _ i).symm)).symm

theorem newv_eq : Cert.Reference2Ideal.Read.val_main_v29 (F := Ideal) (argX m c) (argC m c) (argA m c) (argB m c) (argW m c)
    = (Cert.Kernel2Ideal.Gen.W15 m ρ c (Proc.devRef .tc Cert.Kernel2Ideal.main_v23) : FVec Ideal Cert.Kernel2Ideal.S4x128x4x64 .f32) := by
  exact Layer.ext4 fun g t h e => (Cert.Reference2Ideal.Values.newv_at _ _ _ _ _ g t h e).trans (Cert.Kernel2Ideal.Values.newv_at m ρ c g t h e).symm

theorem newpool_eq : Cert.Reference2Ideal.Read.val_main_v31 (F := Ideal) (argX m c) (argC m c) (argA m c) (argB m c) (argW m c)
    = (Cert.Kernel2Ideal.Gen.W15 m ρ c (Proc.devRef .tc Cert.Kernel2Ideal.main_v26) : FVec Ideal Cert.Kernel2Ideal.S4x15x2048 .f32) := by
  exact Layer.ext3 fun g t d => (Cert.Reference2Ideal.Values.newpool_at _ _ _ _ _ g t d).trans (Cert.Kernel2Ideal.Values.newpool_at m ρ c g t d).symm

theorem qs_eq : Cert.Reference2Ideal.Read.val_main_v58 (F := Ideal) (argXs m c) (argS m c) (argA m c) (argB m c) (argW m c)
    = (Cert.Kernel2Ideal.Gen.W15 m ρ c (Proc.devRef .tc Cert.Kernel2Ideal.main_v28) : FVec Ideal Cert.Kernel2Ideal.S1024x2048 .f32) := by
  exact ((Cert.Kernel2Ideal.Values.qs_out m ρ c).trans
    (funext fun i => (Cert.Reference2Ideal.Values.qs_at _ _ _ _ _ i).symm)).symm

theorem kvs_eq : Cert.Reference2Ideal.Read.val_main_v59 (F := Ideal) (argXs m c) (argS m c) (argA m c) (argB m c) (argW m c)
    = (Cert.Kernel2Ideal.Gen.W15 m ρ c (Proc.devRef .tc Cert.Kernel2Ideal.main_v29) : FVec Ideal Cert.Kernel2Ideal.S1024x512 .f32) := by
  exact ((Cert.Kernel2Ideal.Values.kvs_out m ρ c).trans
    (funext fun i => (Cert.Reference2Ideal.Values.kvs_at _ _ _ _ _ i).symm)).symm

theorem us_eq : Cert.Reference2Ideal.Read.val_main_v60 (F := Ideal) (argXs m c) (argS m c) (argA m c) (argB m c) (argW m c)
    = (Cert.Kernel2Ideal.Gen.W15 m ρ c (Proc.devRef .tc Cert.Kernel2Ideal.main_v30) : FVec Ideal Cert.Kernel2Ideal.S1024x2048 .f32) := by
  exact ((Cert.Kernel2Ideal.Values.us_out m ρ c).trans
    (funext fun i => (Cert.Reference2Ideal.Values.us_at _ _ _ _ _ i).symm)).symm

theorem newvs_eq : Cert.Reference2Ideal.Read.val_main_v48 (F := Ideal) (argXs m c) (argV m c) (argS m c) (argA m c) (argB m c) (argW m c)
    = (Cert.Kernel2Ideal.Gen.W15 m ρ c (Proc.devRef .tc Cert.Kernel2Ideal.main_v35) : FVec Ideal Cert.Kernel2Ideal.S128x128x4x64 .f32) := by
  refine Layer.ext4 fun g t h e => ?_
  revert t
  refine halves (a := 120) (b := 8) (n := 128) rfl (fun t => ?_) (fun t => ?_)
  · exact (Cert.Reference2Ideal.Values.cached_at _ _ _ _ _ _ g t h e).trans (Cert.Kernel2Ideal.Values.cached_at m ρ c g t h e).symm
  · exact (Cert.Reference2Ideal.Values.newvs_at _ _ _ _ _ _ g t h e).trans (Cert.Kernel2Ideal.Values.newvs_at m ρ c g t h e).symm

theorem newpools_eq : Cert.Reference2Ideal.Read.val_main_v50 (F := Ideal) (argXs m c) (argP m c) (argS m c) (argA m c) (argB m c) (argW m c)
    = (Cert.Kernel2Ideal.Gen.W15 m ρ c (Proc.devRef .tc Cert.Kernel2Ideal.main_v38) : FVec Ideal Cert.Kernel2Ideal.S128x15x2048 .f32) := by
  refine Layer.ext3 fun g t d => ?_
  revert t
  refine halves (a := 7) (b := 8) (n := 15) rfl (fun t => ?_) (fun t => ?_)
  · exact (Cert.Reference2Ideal.Values.state_at _ _ _ _ _ _ g t d).trans (Cert.Kernel2Ideal.Values.state_at m ρ c g t d).symm
  · exact (Cert.Reference2Ideal.Values.newpools_at _ _ _ _ _ _ g t d).trans (Cert.Kernel2Ideal.Values.newpools_at m ρ c g t d).symm

set_option maxHeartbeats 2000000 in
/-- The kernels' modulations, queries, keys and values, pool inputs and what is handed on of them are the reference's. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨_, _, _, _, _, _, _, _, _, _, _, Cert.Kernel2Ideal.Values.run (F := Ideal) m ρ, ?_⟩
  refine (θ_run Cert.Reference2Ideal.defs _ _).mono
    (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_,
      (h c).2.2.2.2.2.2.2.2.1.trans ?_, (h c).2.2.2.2.2.2.2.2.2.1.trans ?_,
      (h c).2.2.2.2.2.2.2.2.2.2.1.trans ?_, (h c).2.2.2.2.2.2.2.2.2.2.2⟩)
    (Cert.Reference2Ideal.Value.run (F := Ideal) m' ρ')
  · obtain ⟨e0, e1, e2, e3, e4, e5, e6, e7, e8⟩ := hagree c
    rw [Cert.Reference2Ideal.Read.val_main_v54_eq, e4, e5, e6, e7]
    exact mods_eq m ρ c
  · obtain ⟨e0, e1, e2, e3, e4, e5, e6, e7, e8⟩ := hagree c
    rw [Cert.Reference2Ideal.Read.val_main_v55_eq, e0, e4, e6, e7, e8]
    exact q_eq m ρ c
  · obtain ⟨e0, e1, e2, e3, e4, e5, e6, e7, e8⟩ := hagree c
    rw [Cert.Reference2Ideal.Read.val_main_v56_eq, e0, e4, e6, e7, e8]
    exact kv_eq m ρ c
  · obtain ⟨e0, e1, e2, e3, e4, e5, e6, e7, e8⟩ := hagree c
    rw [Cert.Reference2Ideal.Read.val_main_v57_eq, e0, e4, e6, e7, e8]
    exact u_eq m ρ c
  · obtain ⟨e0, e1, e2, e3, e4, e5, e6, e7, e8⟩ := hagree c
    rw [Cert.Reference2Ideal.Read.val_main_v29_eq, e0, e4, e6, e7, e8]
    exact newv_eq m ρ c
  · obtain ⟨e0, e1, e2, e3, e4, e5, e6, e7, e8⟩ := hagree c
    rw [Cert.Reference2Ideal.Read.val_main_v31_eq, e0, e4, e6, e7, e8]
    exact newpool_eq m ρ c
  · obtain ⟨e0, e1, e2, e3, e4, e5, e6, e7, e8⟩ := hagree c
    rw [Cert.Reference2Ideal.Read.val_main_v58_eq, e1, e5, e6, e7, e8]
    exact qs_eq m ρ c
  · obtain ⟨e0, e1, e2, e3, e4, e5, e6, e7, e8⟩ := hagree c
    rw [Cert.Reference2Ideal.Read.val_main_v59_eq, e1, e5, e6, e7, e8]
    exact kvs_eq m ρ c
  · obtain ⟨e0, e1, e2, e3, e4, e5, e6, e7, e8⟩ := hagree c
    rw [Cert.Reference2Ideal.Read.val_main_v60_eq, e1, e5, e6, e7, e8]
    exact us_eq m ρ c
  · obtain ⟨e0, e1, e2, e3, e4, e5, e6, e7, e8⟩ := hagree c
    rw [Cert.Reference2Ideal.Read.val_main_v48_eq, e1, e2, e5, e6, e7, e8]
    exact newvs_eq m ρ c
  · obtain ⟨e0, e1, e2, e3, e4, e5, e6, e7, e8⟩ := hagree c
    rw [Cert.Reference2Ideal.Read.val_main_v50_eq, e1, e3, e5, e6, e7, e8]
    exact newpools_eq m ρ c

end Cert.InClaims

end
-- ==== Proof.OutMm.lean ====
module

public import proofs.«01_k».proof.Proof.Gen.Kernel3Ideal.Frame
public import proofs.«01_k».proof.Proof.Layer
public import Idealize.ShloMosaic.Lib.Pointwise
public import Idealize.ShloMosaic.Lib.Pipeline.ValueKit

@[expose] public section

set_option maxRecDepth 16384

noncomputable section

namespace Cert.Kernel3Ideal.Values

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b))

theorem out2 (x : Vec Ideal S1024x4096 .bf16) (w : Vec Ideal S4096x512 .f32) :
    out2_2 (F := Ideal) x w = k2_pay1 (F := Ideal) x w := by
  unfold out2_2
  rw [View.canon_cons_unit_lit _ _ _ (by decide), View.ld_unit_lit _ _ (by decide), View.ld_unit_lit _ _ (by decide)]

theorem tile2 (x : Vec Ideal S1024x4096 .bf16) (w : Vec Ideal S4096x512 .f32) (r : Fin 1024) (j : Fin 512) :
    k2_pay1 (F := Ideal) x w (ix2 r j) = ∑ k : Fin 4096, x (ix2 r k) * w (ix2 k j) := by
  pointwise [k2_pay1]

theorem idx2 : ∀ t : Fin cfg2.N, win2_0.index t = ![t.val / 4, 0] ∧ win2_1.index t = ![0, t.val % 4]
    ∧ win2_2.index t = ![t.val / 4, t.val % 4] :=
  (by decide +kernel : ∀ t : Fin grid2.N, _)

theorem lt2 (t : Fin cfg2.N) : t.val < 32 := t.isLt

theorem in2 (c : Dev nD) (t : Fin cfg2.N) (r : Fin 1024) (k : Fin 4096) :
    iblk2 V c 0 t (ix2 r k) = V c main_v3_1 (ix2 (⟨1024 * (t.val / 4) + r.val, by have := lt2 t; omega⟩ : Fin 8192) k) := by
  blk_point [iblk2, idx2 t]

theorem w2 (c : Dev nD) (t : Fin cfg2.N) (k : Fin 4096) (j : Fin 512) :
    iblk2 V c 1 t (ix2 k j) = V c main_arg9 (ix2 k (⟨512 * (t.val % 4) + j.val, by omega⟩ : Fin 2048)) := by
  blk_point [iblk2, idx2 t]

/-- The query call leaves the product with the expert layer's query weight. -/
theorem qp_final (c : Dev nD) : (dat2 V c).arrAt 2 cfg2.N = (fun i =>
      Layer.prod (V c main_v3_1) (V c main_arg9) (i 0) (Layer.shift (n := 2048) 0 (by decide) (i 1))
    : FVec Ideal S8192x2048 .f32) := by
  refine (dat2 V c).arrAt_eq_of_covers 2 _ (by decide +kernel) fun t _ y => ?_
  blk_simp
  rw [after2_2, out2]
  have hy0 : (y 0).val < 1024 := (y 0).isLt
  have hy1 : (y 1).val < 512 := (y 1).isLt
  have ht := lt2 t
  have e : (win2_2.blk t).view.emb y
      = ix2 (⟨1024 * (t.val / 4) + (y 0).val, by omega⟩ : Fin 8192) (⟨512 * (t.val % 4) + (y 1).val, by omega⟩ : Fin 2048) := by
    blk_ext [idx2 t]
  rw [e]
  refine Eq.trans ?_ ((tile2 (iblk2 V c 0 t) (iblk2 V c 1 t) ⟨(y 0).val, hy0⟩ ⟨(y 1).val, hy1⟩).trans ?_)
  · refine congrArg (k2_pay1 (F := Ideal) (iblk2 V c 0 t) (iblk2 V c 1 t)) ?_
    idx_ext
  · unfold Layer.prod
    refine Finset.sum_congr rfl fun k _ => ?_
    rw [in2, w2]
    refine congrArg₂ (· * ·) rfl (congrArg _ (congrArg (ix2 k) (Fin.ext ?_)))
    show 512 * (t.val % 4) + (y 1).val = 0 + (512 * (t.val % 4) + (y 1).val)
    omega

end Cert.Kernel3Ideal.Values

end
-- ==== Proof.OutNorm.lean ====
module

public import proofs.«01_k».proof.Proof.Gen.Kernel3Ideal.Frame
public import proofs.«01_k».proof.Proof.Layer
public import Idealize.ShloMosaic.Lib.Pointwise
public import Idealize.ShloMosaic.Lib.Pipeline.ValueKit

@[expose] public section

set_option maxRecDepth 16384

noncomputable section

namespace Cert.Kernel3Ideal.Values

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b))

theorem norm_tile (x : Vec Ideal S1x128x4096 .f32) (g : Vec Ideal S1x1x4096 .f32) (y : Vec Ideal S128x4096 .f32)
    (a b : Vec Ideal S1x4096 .f32) (u : Fin 1) (r : Fin 128) (d : Fin 4096) : k1_pay3 (F := Ideal) x g y a b (ix3 u r d)
      = Layer.norm (fun k => Layer.scale * x (ix3 u r k) + g (ix3 0 0 k) * y (ix2 r k)) (fun k => a (ix2 0 k)) (fun k => b (ix2 0 k)) d := by
  obtain rfl : u = 0 := Subsingleton.elim u 0
  unfold Layer.norm Layer.var Layer.mean
  pointwise [k1_pay3]

/-- What an instance computes of its blocks: the residual rows, normalized. -/
theorem pay4 (x0 : Vec Ideal S1x128x4096 .f32) (x1 : Vec Ideal S128x4096 .f32) (x2 x3 x4 : Vec Ideal S1x1x4096 .f32)
    (x5 x6 : Vec Ideal S1x4096 .f32) : k1_pay4 (F := Ideal) x0 x1 x2 x3 x4 x5 x6 = k1_pay3 (F := Ideal) x0 x2 x1 x5 x6 := by
  unfold k1_pay4
  rw [View.ld_unit_lit _ _ (by decide), View.ld_unit_lit _ _ (by decide), View.ld_unit_lit _ _ (by decide),
    View.ld_unit_lit _ _ (by decide), View.ld_unit_lit _ _ (by decide)]

theorem out7 (x0 : Vec Ideal S1x128x4096 .f32) (x1 : Vec Ideal S128x4096 .f32) (x2 x3 x4 : Vec Ideal S1x1x4096 .f32)
    (x5 x6 : Vec Ideal S1x4096 .f32) :
    out1_7 (F := Ideal) x0 x1 x2 x3 x4 x5 x6 = k1_pay1 (F := Ideal) (k1_pay3 (F := Ideal) x0 x2 x1 x5 x6) := by
  unfold out1_7
  rw [View.canon_cons_unit_lit _ _ _ (by decide), pay4]

theorem out8 (x0 : Vec Ideal S1x128x4096 .f32) (x1 : Vec Ideal S128x4096 .f32) (x2 x3 x4 : Vec Ideal S1x1x4096 .f32)
    (x5 x6 : Vec Ideal S1x4096 .f32) :
    out1_8 (F := Ideal) x0 x1 x2 x3 x4 x5 x6 = k1_pay2 (F := Ideal) (k1_pay3 (F := Ideal) x0 x2 x1 x5 x6) x3 x4 := by
  unfold out1_8
  rw [View.canon_cons_unit_lit _ _ _ (by decide), pay4, View.ld_unit_lit _ _ (by decide), View.ld_unit_lit _ _ (by decide)]

theorem plain_tile (v : FVec Ideal S1x128x4096 .f32) (r : Fin 128) (d : Fin 4096) :
    k1_pay1 (F := Ideal) v (ix2 r d) = v (ix3 0 r d) := by
  pointwise [k1_pay1]

theorem modul_tile (v : FVec Ideal S1x128x4096 .f32) (s h : Vec Ideal S1x1x4096 .f32) (r : Fin 128) (d : Fin 4096) :
    k1_pay2 (F := Ideal) v s h (ix2 r d) = v (ix3 0 r d) * (Layer.one + s (ix3 0 0 d)) + h (ix3 0 0 d) := by
  pointwise [k1_pay2]

theorem norm_idx : ∀ t : Fin cfg1.N, win1_0.index t = ![t.val / 16, t.val % 16, 0] ∧ win1_1.index t = ![t.val, 0]
    ∧ win1_2.index t = ![t.val / 16, 0, 0] ∧ win1_3.index t = ![t.val / 16, 0, 0] ∧ win1_4.index t = ![t.val / 16, 0, 0]
    ∧ win1_5.index t = ![0, 0] ∧ win1_6.index t = ![0, 0] ∧ win1_7.index t = ![t.val, 0] ∧ win1_8.index t = ![t.val, 0] :=
  (by decide +kernel : ∀ t : Fin grid1.N, _)

theorem norm_lt (t : Fin cfg1.N) : t.val < 64 := t.isLt

/-- Row `r` of the row block `t`. -/
def rowOf (t : Fin cfg1.N) (r : Fin 128) : Fin 8192 := ⟨128 * t.val + r.val, by have := norm_lt t; omega⟩

theorem seqOf_rowOf (t : Fin cfg1.N) (r : Fin 128) : (⟨t.val / 16, by have := norm_lt t; omega⟩ : Fin 4) = Layer.seqOf (rowOf t r) :=
  Fin.ext (show t.val / 16 = (128 * t.val + r.val) / 2048 by omega)

theorem posOf_rowOf (t : Fin cfg1.N) (r : Fin 128) : (⟨128 * (t.val % 16) + r.val, by omega⟩ : Fin 2048) = Layer.posOf (rowOf t r) :=
  Fin.ext (show 128 * (t.val % 16) + r.val = (128 * t.val + r.val) % 2048 by omega)

theorem norm_x (c : Dev nD) (t : Fin cfg1.N) (u : Fin 1) (r : Fin 128) (k : Fin 4096) : iblk1 V c 0 t (ix3 u r k)
    = V c main_arg0 (ix3 (Layer.seqOf (rowOf t r)) (Layer.posOf (rowOf t r)) k) := by
  rw [← seqOf_rowOf, ← posOf_rowOf]
  blk_point [iblk1, norm_idx t]

theorem norm_y (c : Dev nD) (t : Fin cfg1.N) (r : Fin 128) (k : Fin 4096) : iblk1 V c 1 t (ix2 r k)
    = V c main_v0 (ix2 (rowOf t r) k) := by
  unfold rowOf
  blk_point [iblk1, norm_idx t]

theorem norm_gate (c : Dev nD) (t : Fin cfg1.N) (r : Fin 128) (u v : Fin 1) (k : Fin 4096) : iblk1 V c 2 t (ix3 u v k)
    = V c main_arg3 (ix3 (Layer.seqOf (rowOf t r)) v k) := by
  rw [← seqOf_rowOf]
  blk_point [iblk1, norm_idx t]

theorem norm_scale (c : Dev nD) (t : Fin cfg1.N) (r : Fin 128) (u v : Fin 1) (k : Fin 4096) : iblk1 V c 3 t (ix3 u v k)
    = V c main_arg4 (ix3 (Layer.seqOf (rowOf t r)) v k) := by
  rw [← seqOf_rowOf]
  blk_point [iblk1, norm_idx t]

theorem norm_shift (c : Dev nD) (t : Fin cfg1.N) (r : Fin 128) (u v : Fin 1) (k : Fin 4096) : iblk1 V c 4 t (ix3 u v k)
    = V c main_arg5 (ix3 (Layer.seqOf (rowOf t r)) v k) := by
  rw [← seqOf_rowOf]
  blk_point [iblk1, norm_idx t]

theorem norm_gain (c : Dev nD) (t : Fin cfg1.N) (u : Fin 1) (k : Fin 4096) : iblk1 V c 5 t (ix2 u k) = V c main_v1 (ix2 u k) := by
  blk_point [iblk1, norm_idx t]

theorem norm_offset (c : Dev nD) (t : Fin cfg1.N) (u : Fin 1) (k : Fin 4096) : iblk1 V c 6 t (ix2 u k) = V c main_v2 (ix2 u k) := by
  blk_point [iblk1, norm_idx t]

/-- The normalized residual row the arrays give. -/
def normed (c : Dev nD) (R : Fin 8192) (d : Fin 4096) : EReal :=
  Layer.norm (Layer.resid (V c main_arg0) (V c main_v0) (V c main_arg3) R)
    (fun k => (V c main_v1 : FVec Ideal S1x4096 .f32) (ix2 0 k)) (fun k => (V c main_v2 : FVec Ideal S1x4096 .f32) (ix2 0 k)) d

theorem normed_tile (c : Dev nD) (t : Fin cfg1.N) (r : Fin 128) (d : Fin 4096) :
    k1_pay3 (F := Ideal) (iblk1 V c 0 t) (iblk1 V c 2 t) (iblk1 V c 1 t) (iblk1 V c 5 t) (iblk1 V c 6 t) (ix3 0 r d)
      = normed V c (rowOf t r) d := by
  refine (norm_tile (iblk1 V c 0 t) (iblk1 V c 2 t) (iblk1 V c 1 t) (iblk1 V c 5 t) (iblk1 V c 6 t) 0 r d).trans ?_
  unfold normed
  refine congrFun (congr (congrArg₂ Layer.norm (funext fun k => ?_) (funext fun k => norm_gain V c t 0 k))
    (funext fun k => norm_offset V c t 0 k)) d
  rw [norm_x, norm_gate V c t r, norm_y]
  rfl

/-- The second call's first array: the normalized residual. -/
theorem x1_final (c : Dev nD) : (dat1 V c).arrAt 7 cfg1.N = (fun i => normed V c (i 0) (i 1) : FVec Ideal S8192x4096 .f32) := by
  refine (dat1 V c).arrAt_eq_of_covers 7 _ (by decide +kernel) fun t _ y => ?_
  blk_simp
  rw [after1_7, out7]
  have hy0 : (y 0).val < 128 := (y 0).isLt
  have hy1 : (y 1).val < 4096 := (y 1).isLt
  have e : (win1_7.blk t).view.emb y = ix2 (rowOf t ⟨(y 0).val, hy0⟩) (⟨(y 1).val, hy1⟩ : Fin 4096) := by
    unfold rowOf
    blk_ext [norm_idx t]
  rw [e]
  refine Eq.trans ?_ ((plain_tile
    (k1_pay3 (F := Ideal) (iblk1 V c 0 t) (iblk1 V c 2 t) (iblk1 V c 1 t) (iblk1 V c 5 t) (iblk1 V c 6 t)) ⟨(y 0).val, hy0⟩ ⟨(y 1).val, hy1⟩).trans (normed_tile V c t _ _))
  refine congrArg (k1_pay1 (F := Ideal)
    (k1_pay3 (F := Ideal) (iblk1 V c 0 t) (iblk1 V c 2 t) (iblk1 V c 1 t) (iblk1 V c 5 t) (iblk1 V c 6 t))) ?_
  idx_ext

/-- Its second array: that, modulated. -/
theorem h2_final (c : Dev nD) : (dat1 V c).arrAt 8 cfg1.N = (fun i => normed V c (i 0) (i 1)
      * (Layer.one + (V c main_arg4 : FVec Ideal S4x1x4096 .f32) (ix3 (Layer.seqOf (i 0)) 0 (i 1)))
      + (V c main_arg5 : FVec Ideal S4x1x4096 .f32) (ix3 (Layer.seqOf (i 0)) 0 (i 1)) : FVec Ideal S8192x4096 .bf16) := by
  refine (dat1 V c).arrAt_eq_of_covers 8 _ (by decide +kernel) fun t _ y => ?_
  blk_simp
  rw [after1_8, out8]
  have hy0 : (y 0).val < 128 := (y 0).isLt
  have hy1 : (y 1).val < 4096 := (y 1).isLt
  have e : (win1_8.blk t).view.emb y = ix2 (rowOf t ⟨(y 0).val, hy0⟩) (⟨(y 1).val, hy1⟩ : Fin 4096) := by
    unfold rowOf
    blk_ext [norm_idx t]
  rw [e]
  refine Eq.trans ?_ ((modul_tile
    (k1_pay3 (F := Ideal) (iblk1 V c 0 t) (iblk1 V c 2 t) (iblk1 V c 1 t) (iblk1 V c 5 t) (iblk1 V c 6 t)) (iblk1 V c 3 t) (iblk1 V c 4 t) ⟨(y 0).val, hy0⟩ ⟨(y 1).val, hy1⟩).trans ?_)
  · refine congrArg (k1_pay2 (F := Ideal)
      (k1_pay3 (F := Ideal) (iblk1 V c 0 t) (iblk1 V c 2 t) (iblk1 V c 1 t) (iblk1 V c 5 t) (iblk1 V c 6 t)) (iblk1 V c 3 t) (iblk1 V c 4 t)) ?_
    idx_ext
  · rw [normed_tile, norm_scale V c t ⟨(y 0).val, hy0⟩, norm_shift V c t ⟨(y 0).val, hy0⟩]
    rfl

end Cert.Kernel3Ideal.Values

end
-- ==== Proof.OutProj.lean ====
module

public import proofs.«01_k».proof.Proof.Gen.Kernel3Ideal.Frame
public import proofs.«01_k».proof.Proof.Layer
public import Idealize.ShloMosaic.Lib.Pointwise
public import Idealize.ShloMosaic.Lib.Pipeline.ValueKit

@[expose] public section

set_option maxRecDepth 16384

noncomputable section

namespace Cert.Kernel3Ideal.Values

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b))

theorem proj_out (x : Vec Ideal S1024x2048 .bf16) (w : Vec Ideal S2048x512 .f32) (y : Vec Ideal S1024x2048 .bf16) (v : Vec Ideal S2048x512 .f32) :
    out0_4 (F := Ideal) x w y v = k0_pay1 (F := Ideal) x w y v := by
  unfold out0_4
  rw [View.canon_cons_unit_lit _ _ _ (by decide), View.ld_unit_lit _ _ (by decide), View.ld_unit_lit _ _ (by decide),
    View.ld_unit_lit _ _ (by decide), View.ld_unit_lit _ _ (by decide)]

theorem proj_tile (x : Vec Ideal S1024x2048 .bf16) (w : Vec Ideal S2048x512 .f32) (y : Vec Ideal S1024x2048 .bf16)
    (v : Vec Ideal S2048x512 .f32) (r : Fin 1024) (j : Fin 512) : k0_pay1 (F := Ideal) x w y v (ix2 r j)
      = (∑ k : Fin 2048, x (ix2 r k) * w (ix2 k j)) + ∑ k : Fin 2048, y (ix2 r k) * v (ix2 k j) := by
  pointwise [k0_pay1]

theorem proj_idx : ∀ t : Fin cfg0.N, win0_0.index t = ![t.val / 8, 0] ∧ win0_1.index t = ![0, t.val % 8]
    ∧ win0_2.index t = ![t.val / 8, 0] ∧ win0_3.index t = ![1, t.val % 8] ∧ win0_4.index t = ![t.val / 8, t.val % 8] :=
  (by decide +kernel : ∀ t : Fin grid0.N, _)

theorem proj_lt (t : Fin cfg0.N) : t.val < 64 := t.isLt

theorem proj_a (c : Dev nD) (t : Fin cfg0.N) (r : Fin 1024) (k : Fin 2048) : iblk0 V c 0 t (ix2 r k)
    = V c main_arg1 (ix2 (⟨1024 * (t.val / 8) + r.val, by have := proj_lt t; omega⟩ : Fin 8192) k) := by
  blk_point [iblk0, proj_idx t]

theorem proj_p (c : Dev nD) (t : Fin cfg0.N) (r : Fin 1024) (k : Fin 2048) : iblk0 V c 2 t (ix2 r k)
    = V c main_arg2 (ix2 (⟨1024 * (t.val / 8) + r.val, by have := proj_lt t; omega⟩ : Fin 8192) k) := by
  blk_point [iblk0, proj_idx t]

theorem proj_upper (c : Dev nD) (t : Fin cfg0.N) (k : Fin 2048) (j : Fin 512) : iblk0 V c 1 t (ix2 k j)
    = V c main_arg6 (ix2 (Layer.shift (n := 2048) (N := 4096) 0 (by decide) k) (⟨512 * (t.val % 8) + j.val, by omega⟩ : Fin 4096)) := by
  unfold Layer.shift
  blk_point [iblk0, proj_idx t]

theorem proj_lower (c : Dev nD) (t : Fin cfg0.N) (k : Fin 2048) (j : Fin 512) : iblk0 V c 3 t (ix2 k j)
    = V c main_arg6 (ix2 (Layer.shift (n := 2048) (N := 4096) 2048 (by decide) k) (⟨512 * (t.val % 8) + j.val, by omega⟩ : Fin 4096)) := by
  unfold Layer.shift
  blk_point [iblk0, proj_idx t]

/-- The first call leaves the output projection. -/
theorem proj_final (c : Dev nD) : (dat0 V c).arrAt 4 cfg0.N = (fun i =>
      Layer.two (V c main_arg1) (V c main_arg2) (V c main_arg6) (i 0) (i 1)
    : FVec Ideal S8192x4096 .f32) := by
  refine (dat0 V c).arrAt_eq_of_covers 4 _ (by decide +kernel) fun t _ y => ?_
  blk_simp
  rw [after0_4, proj_out]
  have hy0 : (y 0).val < 1024 := (y 0).isLt
  have hy1 : (y 1).val < 512 := (y 1).isLt
  have ht := proj_lt t
  have e : (win0_4.blk t).view.emb y
      = ix2 (⟨1024 * (t.val / 8) + (y 0).val, by omega⟩ : Fin 8192) (⟨512 * (t.val % 8) + (y 1).val, by omega⟩ : Fin 4096) := by
    blk_ext [proj_idx t]
  rw [e]
  refine Eq.trans ?_ ((proj_tile (iblk0 V c 0 t) (iblk0 V c 1 t) (iblk0 V c 2 t) (iblk0 V c 3 t) ⟨(y 0).val, hy0⟩ ⟨(y 1).val, hy1⟩).trans ?_)
  · refine congrArg (k0_pay1 (F := Ideal) (iblk0 V c 0 t) (iblk0 V c 1 t) (iblk0 V c 2 t) (iblk0 V c 3 t)) ?_
    idx_ext
  · unfold Layer.two
    refine congrArg₂ (· + ·) (Finset.sum_congr rfl fun k _ => ?_) (Finset.sum_congr rfl fun k _ => ?_)
    · rw [proj_a, proj_upper]
      rfl
    · rw [proj_p, proj_lower]
      rfl

end Cert.Kernel3Ideal.Values

end
-- ==== Proof.OutRun.lean ====
module

public import proofs.«01_k».proof.Proof.Gen.Kernel3Ideal.Frame

@[expose] public section

set_option maxRecDepth 16384

noncomputable section

namespace Cert.Kernel3Ideal.Values

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]
variable (m : (ℓ : Loc nD τ sig) → Buf (Elt F) ℓ) (ρ : Dev nD → PrngReg)

set_option backward.isDefEq.respectTransparency.types false in
/-- The run of the output projection, the normalization and the query projection, the two results at what the last call leaves. The launch's set-up is the frame's; what differs is what is read at its end. -/
theorem run : θ_run defs (onTc (τ := τ) (main (F := F))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v3_0 (by decide)),
       h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Kernel3Ideal.Values

end
-- ==== Proof.OutOut.lean ====
module

public import proofs.«01_k».proof.Proof.OutMm
public import proofs.«01_k».proof.Proof.OutNorm
public import proofs.«01_k».proof.Proof.OutProj
public import proofs.«01_k».proof.Proof.OutRun
public import Idealize.ShloMosaic.Lib.StableHlo.RunRead

@[expose] public section

set_option maxRecDepth 16384

noncomputable section

namespace Cert.Kernel3Ideal.Values

open Cert.Kernel3Ideal Cert.Kernel3Ideal.Gen Idealize.ShloMosaic.StableHlo Idealize.ShloMosaic Idealize.ShloMosaic.TcCoe Idealize.SL.Sem

variable (m : (ℓ : Loc nD τ sig) → Buf (Elt Ideal) ℓ) (ρ : Dev nD → PrngReg)

/-- The arrays the program is launched with. -/
abbrev argX (c : Dev nD) : FVec Ideal S4x2048x4096 .f32 := m ((c : Thread nD τ).loc main_arg0)
abbrev argA (c : Dev nD) : FVec Ideal S8192x2048 .bf16 := m ((c : Thread nD τ).loc main_arg1)
abbrev argP (c : Dev nD) : FVec Ideal S8192x2048 .bf16 := m ((c : Thread nD τ).loc main_arg2)
abbrev argGate (c : Dev nD) : FVec Ideal S4x1x4096 .f32 := m ((c : Thread nD τ).loc main_arg3)
abbrev argScale (c : Dev nD) : FVec Ideal S4x1x4096 .f32 := m ((c : Thread nD τ).loc main_arg4)
abbrev argShift (c : Dev nD) : FVec Ideal S4x1x4096 .f32 := m ((c : Thread nD τ).loc main_arg5)
abbrev argW (c : Dev nD) : FVec Ideal S4096x4096 .f32 := m ((c : Thread nD τ).loc main_arg6)
abbrev argGain (c : Dev nD) : FVec Ideal S4096 .f32 := m ((c : Thread nD τ).loc main_arg7)
abbrev argOffset (c : Dev nD) : FVec Ideal S4096 .f32 := m ((c : Thread nD τ).loc main_arg8)
abbrev argQ (c : Dev nD) : FVec Ideal S4096x2048 .f32 := m ((c : Thread nD τ).loc main_arg9)

theorem gain_at (c : Dev nD) (k : Fin 4096) : (V2 m ρ c main_v1 : FVec Ideal S1x4096 .f32) (ix2 0 k) = argGain m c (ix1 k) := by
  have e : (V2 m ρ c main_v1 : FVec Ideal S1x4096 .f32)
      = broadcastInDim S1x4096 ![1] bcast_S4096_S1x4096_1 (W1 m ρ c (Proc.devRef .tc main_arg7)) := by
    show StableHlo.after hostOps1 (W1 m ρ c) (Proc.devRef .tc _) = _
    after_reads_simp
  have h : (W1 m ρ c (Proc.devRef .tc main_arg7) : FVec Ideal S4096 .f32) = argGain m c := W1_args m ρ c main_arg7 (by decide)
  rw [e, h]
  pointwise

theorem offset_at (c : Dev nD) (k : Fin 4096) : (V2 m ρ c main_v2 : FVec Ideal S1x4096 .f32) (ix2 0 k) = argOffset m c (ix1 k) := by
  have e : (V2 m ρ c main_v2 : FVec Ideal S1x4096 .f32)
      = broadcastInDim S1x4096 ![1] bcast_S4096_S1x4096_1 (W1 m ρ c (Proc.devRef .tc main_arg8)) := by
    show StableHlo.after hostOps1 (W1 m ρ c) (Proc.devRef .tc _) = _
    after_reads_simp
  have h : (W1 m ρ c (Proc.devRef .tc main_arg8) : FVec Ideal S4096 .f32) = argOffset m c := W1_args m ρ c main_arg8 (by decide)
  rw [e, h]
  pointwise

/-- The output projection, as the second call finds it. -/
theorem proj (c : Dev nD) : (V2 m ρ c main_v0 : FVec Ideal S8192x4096 .f32)
    = fun i => Layer.two (argA m c) (argP m c) (argW m c) (i 0) (i 1) :=
  (W2_of m ρ c main_v0 (by decide)).trans ((W1_arr m ρ c 4).trans (proj_final (V0 m ρ) c))

/-- The normalized residual. -/
def x1 (c : Dev nD) (R : Fin 8192) (d : Fin 4096) : EReal :=
  Layer.norm (Layer.resid (argX m c) (fun i => Layer.two (argA m c) (argP m c) (argW m c) (i 0) (i 1)) (argGate m c) R)
    (fun k => argGain m c (ix1 k)) (fun k => argOffset m c (ix1 k)) d

theorem normed_eq (c : Dev nD) (R : Fin 8192) (d : Fin 4096) : normed (V2 m ρ) c R d = x1 m c R d := by
  unfold normed x1
  have hx : (V2 m ρ c main_arg0 : FVec Ideal S4x2048x4096 .f32) = argX m c := W2_args m ρ c main_arg0 (by decide)
  have hg : (V2 m ρ c main_arg3 : FVec Ideal S4x1x4096 .f32) = argGate m c := W2_args m ρ c main_arg3 (by decide)
  rw [proj, hx, hg]
  exact congrFun (congr (congrArg (Layer.norm _) (funext fun k => gain_at m ρ c k)) (funext fun k => offset_at m ρ c k)) d

theorem x1_out (c : Dev nD) : (W4 m ρ c (Proc.devRef .tc main_v3_0) : FVec Ideal S8192x4096 .f32) = fun i => x1 m c (i 0) (i 1) :=
  (W4_of m ρ c main_v3_0 (by decide)).trans ((W3_arr m ρ c 7).trans ((x1_final (V2 m ρ) c).trans
    (funext fun i => normed_eq m ρ c (i 0) (i 1))))

theorem h2_at (c : Dev nD) (R : Fin 8192) (k : Fin 4096) : (V3 m ρ c main_v3_1 : FVec Ideal S8192x4096 .bf16) (ix2 R k)
    = x1 m c R k * (Layer.one + argScale m c (ix3 (Layer.seqOf R) 0 k)) + argShift m c (ix3 (Layer.seqOf R) 0 k) := by
  have hs : (V2 m ρ c main_arg4 : FVec Ideal S4x1x4096 .f32) = argScale m c := W2_args m ρ c main_arg4 (by decide)
  have hh : (V2 m ρ c main_arg5 : FVec Ideal S4x1x4096 .f32) = argShift m c := W2_args m ρ c main_arg5 (by decide)
  rw [show (V3 m ρ c main_v3_1 : FVec Ideal S8192x4096 .bf16) = _ from (W3_arr m ρ c 8).trans (h2_final (V2 m ρ) c), hs, hh]
  exact congrArg (· * _ + _) (normed_eq m ρ c R k)

theorem qp_out (c : Dev nD) : (W4 m ρ c (Proc.devRef .tc main_v4) : FVec Ideal S8192x2048 .f32)
    = fun i => ∑ k : Fin 4096, (x1 m c (i 0) k * (Layer.one + argScale m c (ix3 (Layer.seqOf (i 0)) 0 k))
        + argShift m c (ix3 (Layer.seqOf (i 0)) 0 k)) * argQ m c (ix2 k (i 1)) := by
  have hw : (V3 m ρ c main_arg9 : FVec Ideal S4096x2048 .f32) = argQ m c := W3_args m ρ c main_arg9 (by decide)
  suffices key : ∀ (R : Fin 8192) (j : Fin 2048), Layer.prod (V3 m ρ c main_v3_1) (V3 m ρ c main_arg9) R
      (Layer.shift (n := 2048) 0 (by decide) j) = ∑ k : Fin 4096, (x1 m c R k * (Layer.one + argScale m c (ix3 (Layer.seqOf R) 0 k))
        + argShift m c (ix3 (Layer.seqOf R) 0 k)) * argQ m c (ix2 k j) from
    (W4_arr m ρ c 2).trans ((qp_final (V3 m ρ) c).trans (funext fun i => key (i 0) (i 1)))
  intro R j
  unfold Layer.prod
  refine Finset.sum_congr rfl fun k _ => ?_
  rw [h2_at, hw]
  exact congrArg (_ * ·) (congrArg (argQ m c) (congrArg (ix2 k) (Fin.ext (Nat.zero_add _))))

end Cert.Kernel3Ideal.Values

end
-- ==== Proof.OutRef.lean ====
module

public import proofs.«01_k».proof.Proof.Gen.Reference3Ideal.Run
public import proofs.«01_k».proof.Proof.Gen.Reference3Ideal.Read
public import proofs.«01_k».proof.Proof.Layer
public import Idealize.ShloMosaic.Lib.IdealHost

@[expose] public section

set_option maxRecDepth 16384

noncomputable section

namespace Cert.Reference3Ideal.Values

open Cert.Reference3Ideal Cert.Reference3Ideal.Gen Cert.Reference3Ideal.Read Idealize.ShloMosaic Idealize.ShloMosaic.TcCoe Idealize.SL.Sem

variable (x0 : FVec Ideal S4x2048x4096 .f32) (x1 x2 : FVec Ideal S8192x2048 .bf16) (x3 x4 x5 : FVec Ideal S4x1x4096 .f32)
  (x6 : FVec Ideal S4096x4096 .f32) (x7 x8 : FVec Ideal S4096 .f32) (x9 : FVec Ideal S4096x2048 .f32)

/-- A sum over 4096 columns is the sum over the first 2048 and the sum over the rest. -/
theorem sum_halves (f : Fin 4096 → EReal) : (∑ k, f k)
    = (∑ k : Fin 2048, f (Layer.shift 0 (by decide) k)) + ∑ k : Fin 2048, f (Layer.shift 2048 (by decide) k) := by
  refine (Fin.sum_univ_add (a := 2048) (b := 2048) f).trans
    (congrArg₂ (· + ·) (Finset.sum_congr rfl fun k _ => ?_) (Finset.sum_congr rfl fun k _ => ?_))
  · exact congrArg f (Fin.ext (Nat.zero_add _).symm)
  · exact congrArg f (Fin.ext rfl)

theorem left_at (R : Fin 8192) (k : Fin 2048) :
    val_main_v2 (F := Ideal) x1 x2 (ix2 R (Layer.shift (n := 2048) (N := 4096) 0 (by decide) k)) = x1 (ix2 R k) := by
  unfold Layer.shift
  pointwise [val_main_v2, val_main_v0, val_main_v1]

theorem right_at (R : Fin 8192) (k : Fin 2048) :
    val_main_v2 (F := Ideal) x1 x2 (ix2 R (Layer.shift (n := 2048) (N := 4096) 2048 (by decide) k)) = x2 (ix2 R k) := by
  unfold Layer.shift
  pointwise [val_main_v2, val_main_v0, val_main_v1]

theorem proj_at (R : Fin 8192) (j : Fin 4096) :
    val_main_v4 (F := Ideal) x1 x2 x6 (ix3 (Layer.seqOf R) (Layer.posOf R) j) = Layer.two x1 x2 x6 R j := by
  unfold Layer.two
  simp only [← left_at x1 x2, ← right_at x1 x2]
  refine Eq.trans ?_ (sum_halves fun k => val_main_v2 (F := Ideal) x1 x2 (ix2 R k) * x6 (ix2 k j))
  unfold Layer.seqOf Layer.posOf
  pointwise [val_main_v4, val_main_v3]

/-- The residual row of row `R`. -/
abbrev row (R : Fin 8192) : Fin 4096 → EReal := Layer.resid x0 (fun i => Layer.two x1 x2 x6 (i 0) (i 1)) x3 R

theorem resid_at (R : Fin 8192) (k : Fin 4096) :
    val_main_v9 (F := Ideal) x0 x1 x2 x3 x6 (ix3 (Layer.seqOf R) (Layer.posOf R) k) = row x0 x1 x2 x3 x6 R k := by
  show _ = Layer.scale * x0 (ix3 (Layer.seqOf R) (Layer.posOf R) k) + x3 (ix3 (Layer.seqOf R) 0 k) * Layer.two x1 x2 x6 R k
  rw [← proj_at]
  pointwise [val_main_v9, val_main_v8, val_main_v7, val_main_v6, val_main_v5, val_main_cst]

theorem mean_at (R : Fin 8192) (u : Fin 1) :
    val_main_v13 (F := Ideal) x0 x1 x2 x3 x6 (ix3 (Layer.seqOf R) (Layer.posOf R) u) = Layer.mean (row x0 x1 x2 x3 x6 R) := by
  unfold Layer.mean
  simp only [← resid_at]
  pointwise [val_main_v13, val_main_v12, val_main_v11, val_main_v10, val_main_cst_0, val_main_cst_1]

theorem centred_at (R : Fin 8192) (k : Fin 4096) :
    val_main_v15 (F := Ideal) x0 x1 x2 x3 x6 (ix3 (Layer.seqOf R) (Layer.posOf R) k)
      = row x0 x1 x2 x3 x6 R k - Layer.mean (row x0 x1 x2 x3 x6 R) := by
  rw [← resid_at, ← mean_at x0 x1 x2 x3 x6 R 0]
  pointwise [val_main_v15, val_main_v14]

theorem var_at (R : Fin 8192) (u : Fin 1) :
    val_main_v20 (F := Ideal) x0 x1 x2 x3 x6 (ix3 (Layer.seqOf R) (Layer.posOf R) u) = Layer.var (row x0 x1 x2 x3 x6 R) := by
  rw [show Layer.var (row x0 x1 x2 x3 x6 R) = Ideal.div (∑ k, (row x0 x1 x2 x3 x6 R k - Layer.mean (row x0 x1 x2 x3 x6 R))
    * (row x0 x1 x2 x3 x6 R k - Layer.mean (row x0 x1 x2 x3 x6 R))) Layer.len from rfl]
  simp only [← centred_at]
  pointwise [val_main_v20, val_main_v19, val_main_v18, val_main_v17, val_main_v16, val_main_cst_2, val_main_cst_3]

theorem normed_at (R : Fin 8192) (d : Fin 4096) :
    val_main_v33 (F := Ideal) x0 x1 x2 x3 x6 x7 x8 (ix3 (Layer.seqOf R) (Layer.posOf R) d)
      = Layer.norm (row x0 x1 x2 x3 x6 R) (fun k => x7 (ix1 k)) (fun k => x8 (ix1 k)) d := by
  unfold Layer.norm
  rw [← var_at x0 x1 x2 x3 x6 R 0, ← resid_at, ← mean_at x0 x1 x2 x3 x6 R 0]
  pointwise [val_main_v33, val_main_v32, val_main_v31, val_main_v30, val_main_v29, val_main_v28, val_main_v27, val_main_v26,
    val_main_v25, val_main_v24, val_main_v23, val_main_v22, val_main_v21, val_main_cst_4]

theorem modul_at (R : Fin 8192) (d : Fin 4096) :
    val_main_v39 (F := Ideal) x0 x1 x2 x3 x4 x5 x6 x7 x8 (ix3 (Layer.seqOf R) (Layer.posOf R) d)
      = Layer.norm (row x0 x1 x2 x3 x6 R) (fun k => x7 (ix1 k)) (fun k => x8 (ix1 k)) d
        * (Layer.one + x4 (ix3 (Layer.seqOf R) 0 d)) + x5 (ix3 (Layer.seqOf R) 0 d) := by
  rw [← normed_at]
  pointwise [val_main_v39, val_main_v38, val_main_v37, val_main_v36, val_main_v35, val_main_v34, val_main_cst_5]

/-- The first result: the normalized residual, the sequences' rows one below another. -/
theorem x1_at (R : Fin 8192) (d : Fin 4096) : val_main_v42 (F := Ideal) x0 x1 x2 x3 x6 x7 x8 (ix2 R d)
    = Layer.norm (row x0 x1 x2 x3 x6 R) (fun k => x7 (ix1 k)) (fun k => x8 (ix1 k)) d := by
  rw [← normed_at]
  unfold Layer.seqOf Layer.posOf
  pointwise [val_main_v42]

/-- The second: the modulated rows' product with the query weight. -/
theorem qp_at (R : Fin 8192) (j : Fin 2048) : val_main_v41 (F := Ideal) x0 x1 x2 x3 x4 x5 x6 x7 x8 x9 (ix2 R j)
    = ∑ k : Fin 4096, (Layer.norm (row x0 x1 x2 x3 x6 R) (fun k => x7 (ix1 k)) (fun k => x8 (ix1 k)) k
        * (Layer.one + x4 (ix3 (Layer.seqOf R) 0 k)) + x5 (ix3 (Layer.seqOf R) 0 k)) * x9 (ix2 k j) := by
  simp only [← modul_at]
  unfold Layer.seqOf Layer.posOf
  pointwise [val_main_v41, val_main_v40]

end Cert.Reference3Ideal.Values

end
-- ==== Proof.OutClaims.lean ====
/- The claims of the output projection, the normalization and the query projection: the three frames, the (unchanged)
   idealization, and the equality of the two results with the reference's. -/
module

public import proofs.«01_k».proof.Proof.OutOut
public import proofs.«01_k».proof.Proof.OutRef
public import proofs.«01_k».proof.Proof.Gen.Kernel3.Frame
public import proofs.«01_k».proof.Defs

@[expose] public section

set_option maxRecDepth 16384

noncomputable section

namespace Cert.OutClaims

open Idealize.ShloMosaic Idealize.SL.Sem

theorem frame_p : Cert.quiescent_Kernel3 (hKernel3 := Cert.Kernel3.Gen.facts) := fun m ρ _ => Cert.Kernel3.Gen.frame m ρ

theorem frame_pi : Cert.quiescent_Kernel3Ideal (hKernel3Ideal := Cert.Kernel3Ideal.Gen.facts) :=
  fun m ρ _ => Cert.Kernel3Ideal.Gen.frame m ρ

theorem frame_ri : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves : Cert.preserves_Kernel3_Kernel3Ideal := trivial

/-- An array of two axes is known by its entries. -/
theorem ext2 {a b : ℕ} {φ : FTy} {f g : FVec Ideal ⟨2, ![a, b]⟩ φ} (h : ∀ (r : Fin a) (k : Fin b), f (ix2 r k) = g (ix2 r k)) :
    f = g :=
  funext fun i => by
    have e : i = ix2 (i 0) (i 1) := by funext x; fin_cases x <;> rfl
    rw [e]
    exact h (i 0) (i 1)

/-- The kernels' normalized residual and expert queries are the reference's. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, Cert.Kernel3Ideal.Values.run (F := Ideal) m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨e0, e1, e2, e3, e4, e5, e6, e7, e8, e9⟩ := hagree c
    rw [Cert.Reference3Ideal.Read.val_main_v42_eq, e0, e1, e2, e3, e6, e7, e8]
    exact ((Cert.Kernel3Ideal.Values.x1_out m ρ c).trans
      (ext2 (φ := .f32) fun R k => (Cert.Reference3Ideal.Values.x1_at _ _ _ _ _ _ _ R k).symm)).symm
  · obtain ⟨e0, e1, e2, e3, e4, e5, e6, e7, e8, e9⟩ := hagree c
    rw [Cert.Reference3Ideal.Read.val_main_v41_eq, e0, e1, e2, e3, e4, e5, e6, e7, e8, e9]
    exact ((Cert.Kernel3Ideal.Values.qp_out m ρ c).trans
      (ext2 (φ := .f32) fun R k => (Cert.Reference3Ideal.Values.qp_at _ _ _ _ _ _ _ _ _ _ R k).symm)).symm

end Cert.OutClaims

end
-- ==== Proof.Pool.lean ====
/- The pooling's common value: a row's mean over its window of the last rows, for each of the four groups of columns, less the
   row itself, through the group's mixing weight and the columns' scales. -/
module

public import Idealize.ShloMosaic.Lib.Pointwise

@[expose] public section

noncomputable section

namespace Cert.Pool

open Idealize.ShloMosaic

/-- The rows of the four sequences, and the mixing weights of the four groups. -/
abbrev Rows := FVec Ideal ⟨3, ![4, 2048, 2048]⟩ .f32
abbrev Mix := FVec Ideal ⟨3, ![4, 512, 512]⟩ .f32

/-- Column `c` of the `p`-th group. -/
def col (p : Fin 4) (c : Fin 512) : Fin 2048 := ⟨512 * p.val + c.val, by omega⟩

/-- The entry `k` rows before row `t`, zero before the sequence's start. -/
def back (u : Rows) (g : Fin 4) (t k : ℕ) (j : Fin 2048) : EReal :=
  if h : k ≤ t ∧ t < 2048 then u (ix3 g ⟨t - k, by omega⟩ j) else 0

/-- The sum of the last `w` rows, and how many of them there are. -/
def window (u : Rows) (w : ℕ) (g : Fin 4) (t : ℕ) (j : Fin 2048) : EReal := ∑ k ∈ Finset.range w, back u g t k j
def count (w t : ℕ) : EReal := ((min w (t + 1) : ℕ) : ℝ)

/-- The window of the `p`-th group. -/
def width (p : Fin 4) : ℕ := 2 ^ (p.val + 1)

/-- An entry of group `p`: the window's mean less the row, mixed, and scaled. -/
def mixed (u : Rows) (w : Mix) (s : Fin 2048 → EReal) (g : Fin 4) (t : Fin 2048) (p : Fin 4) (e : Fin 512) : EReal :=
  (∑ c : Fin 512, (Ideal.div (window u (width p) g t.val (col p c)) (count (width p) t.val) - u (ix3 g t (col p c))) * w (ix3 p c e))
    * s (col p e)

/-- An entry of the whole result: the sequences' rows one after the other, the groups' columns side by side. -/
def whole (u : Rows) (w : Mix) (s : Fin 2048 → EReal) (R : Fin 8192) (j : Fin 2048) : EReal :=
  mixed u w s ⟨R.val / 2048, by omega⟩ ⟨R.val % 2048, by omega⟩ ⟨j.val / 512, by omega⟩ ⟨j.val % 512, by omega⟩

/-- The count the programs compute in words is that number. -/
theorem word_count (w n : ℕ) (hw : w ≤ 16) (hn : n ≤ 2048) :
    FloatOps.sitofp (F := Ideal) .f32 (IntOp.minsi (BitVec.ofNat 32 w) (BitVec.ofNat 32 n)) = (((min w n : ℕ) : ℝ) : EReal) := by
  have e (k : ℕ) (hk : k ≤ 2048) : (BitVec.ofNat 32 k).toInt = k := by
    have hm : (BitVec.ofNat 32 k).toNat = k := by rw [BitVec.toNat_ofNat]; omega
    rw [BitVec.toInt_eq_toNat_of_lt (by omega), hm]
  have h : (IntOp.minsi (BitVec.ofNat 32 w) (BitVec.ofNat 32 n)) = BitVec.ofNat 32 (min w n) := by
    unfold IntOp.minsi
    simp only [BitVec.slt, e w (by omega), e n hn]
    by_cases hl : w < n
    · rw [min_eq_left hl.le]; simp [hl]
    · rw [min_eq_right (by omega)]; simp [hl]
  rw [h]
  show (((BitVec.ofNat 32 (min w n)).toInt : ℝ) : EReal) = _
  rw [e _ (by omega)]
  rfl

/-- Dividing by a count is multiplying by one over it. -/
theorem mul_count (w t : ℕ) (hw : 0 < w) (x : EReal) : x * Ideal.div 1 (count w t) = Ideal.div x (count w t) := by
  have h : (((min w (t + 1) : ℕ) : ℝ)) ≠ 0 := by
    have : 0 < min w (t + 1) := by omega
    positivity
  unfold count
  rw [Ideal.div_coe h, Ideal.div_coe h, one_mul]

end Cert.Pool

end
-- ==== Proof.PoolOut.lean ====
/- The pooling kernel's value: what a grid point loads of its scratch, and the entries it stores. -/
module

public import proofs.«01_k».proof.Proof.Gen.Kernel4Ideal.Value
public import proofs.«01_k».proof.Proof.Pool
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel4Ideal.Values

open Cert.Kernel4Ideal Cert.Kernel4Ideal.Gen Idealize.ShloMosaic Idealize.ShloMosaic.TcCoe Idealize.SL.Sem

variable (m : (ℓ : Loc nD τ sig) → Buf (Elt Ideal) ℓ)

theorem idxs : ∀ t : Fin cfg0.N, win0_0.index t = ![t.val / 4, t.val % 4, 0] ∧ win0_1.index t = ![t.val / 4, 32 * (t.val % 4) - 1, 0]
    ∧ win0_2.index t = ![t.val / 4, 0, 0] ∧ win0_3.index t = ![0, 0, 0] ∧ win0_4.index t = ![0, 0] ∧ win0_5.index t = ![t.val, 0]
    ∧ (grid0.coords t 1).val = t.val % 4 :=
  (by decide +kernel : ∀ t : Fin grid0.N, _)

theorem t_lt (t : Fin cfg0.N) : t.val < 16 := t.isLt

/-- The rows, the rows above them, and the zero rows of a grid point. -/
theorem in0 (c : Dev nD) (t : Fin cfg0.N) (r : Fin 512) (j : Fin 2048) :
    iblk m c 0 t (ix3 (0 : Fin 1) r j) = m (c.tc.loc main_arg0) (ix3 (⟨t.val / 4, by have := t_lt t; omega⟩ : Fin 4)
      (⟨512 * (t.val % 4) + r.val, by omega⟩ : Fin 2048) j) := by
  blk_point [iblk, idxs t]

theorem in1 (c : Dev nD) (t : Fin cfg0.N) (r : Fin 16) (j : Fin 2048) :
    iblk m c 1 t (ix3 (0 : Fin 1) r j) = m (c.tc.loc main_arg0) (ix3 (⟨t.val / 4, by have := t_lt t; omega⟩ : Fin 4)
      (⟨16 * (32 * (t.val % 4) - 1) + r.val, by omega⟩ : Fin 2048) j) := by
  blk_point [iblk, idxs t]

/-- The host's three arrays: zero rows, the mixing weights and the scales. -/
theorem V_zero (c : Dev nD) : V (F := Ideal) m c main_v0 = (fun _ => (0 : EReal) : FVec Ideal S4x16x2048 .f32) := by
  have e : V (F := Ideal) m c main_v0 = broadcastInDim S4x16x2048 ![] bcast_S_S4x16x2048 (constant (F := Ideal) S_ .f32 0x00000000#32) := by
    show StableHlo.after hostOps0 (fun b => m (c, b)) main_v0 = _
    after_reads_simp
  rw [e]
  funext i
  pointwise

theorem V_mix (c : Dev nD) : V (F := Ideal) m c main_v1 = (m (c.tc.loc main_arg1) : FVec Ideal S4x512x512 .f32) := by
  show StableHlo.after hostOps0 (fun b => m (c, b)) main_v1 = _
  after_reads_simp
  rfl

theorem V_scale (c : Dev nD) (j : Fin 2048) :
    (V (F := Ideal) m c main_v2 : FVec Ideal S1x2048 .f32) (ix2 (0 : Fin 1) j) = m (c.tc.loc main_arg2) (ix1 j) := by
  have e : V (F := Ideal) m c main_v2 = broadcastInDim S1x2048 ![1] bcast_S2048_S1x2048_1 (m (c.tc.loc main_arg2)) := by
    show StableHlo.after hostOps0 (fun b => m (c, b)) main_v2 = _
    after_reads_simp
  rw [e]
  pointwise

theorem in2 (c : Dev nD) (t : Fin cfg0.N) (r : Fin 16) (j : Fin 2048) : iblk m c 2 t (ix3 (0 : Fin 1) r j) = (0 : EReal) := by
  have e : iblk m c 2 t (ix3 (0 : Fin 1) r j) = V m c main_v0 (ix3 (⟨t.val / 4, by have := t_lt t; omega⟩ : Fin 4) r j) := by
    blk_point [iblk, idxs t]
  rw [e, V_zero]

theorem in3 (c : Dev nD) (t : Fin cfg0.N) (p : Fin 4) (x e : Fin 512) :
    iblk m c 3 t (ix3 p x e) = m (c.tc.loc main_arg1) (ix3 p x e) := by
  have h : iblk m c 3 t (ix3 p x e) = V m c main_v1 (ix3 p x e) := by
    blk_point [iblk, idxs t]
  rw [h, V_mix]

theorem in4 (c : Dev nD) (t : Fin cfg0.N) (j : Fin 2048) :
    iblk m c 4 t (ix2 (0 : Fin 1) j) = m (c.tc.loc main_arg2) (ix1 j) := by
  have h : iblk m c 4 t (ix2 (0 : Fin 1) j) = V m c main_v2 (ix2 (0 : Fin 1) j) := by
    blk_point [iblk, idxs t]
  rw [h, V_scale]

/-- A box of a staging buffer, as the body loads it. -/
theorem load_at {sp : Space} {S : Shape} {e : EltTy} (mr : Memref sig .tc sp S e) (h : mr.IsWhole) (X : S.Idx → Elt Ideal e)
    (off size : Fin S.rank → ℕ) (inb : ∀ a, off a + size a ≤ S.size a) (x : (Rect.unit off size inb).shape.Idx) (i : S.Idx)
    (hi : ∀ a, (i a : ℕ) = off a + x a) :
    View.readAt (Elt Ideal) mr.view (Rect.unit off size inb).toLoadRect (h.unread X) x = X i := by
  rw [View.readAt_eq_ld, h.read_unread]
  exact View.ld_unit_apply_of X off size inb x i hi

/-- A whole staging buffer's load: what the buffer holds. -/
theorem load_whole {sp : Space} {S : Shape} {e : EltTy} (mr : Memref sig .tc sp S e) (h : mr.IsWhole) (X : S.Idx → Elt Ideal e)
    (off : Fin S.rank → ℕ) (inb : ∀ a, off a + S.size a ≤ S.size a) (h0 : ∀ a, off a = 0) (x : S.Idx) :
    View.readAt (Elt Ideal) mr.view (Rect.unit off S.size inb).toLoadRect (h.unread X) x = X x := by
  rw [View.readAt_eq_ld, h.read_unread]
  exact congrFun (View.ld_unit_lit inb X h0) x

/-- The first block of a sequence takes the zero rows, the others the rows above. -/
theorem pay2_at (i : grid0.Coords) (a b : FVec Ideal S1x16x2048 .f32) (x : S1x16x2048.Idx) :
    k0_pay2 (F := Ideal) i a b x = if (i 1).val = 0 then a x else b x := by
  have hi : (i 1).val < 4 := (i 1).isLt
  have e : x = ix3 (x 0) (x 1) (x 2) := by funext a; fin_cases a <;> rfl
  rw [e]
  pointwise [k0_pay2]
  have hz : (BitVec.ofNat 32 (i 1).val = 0#32) ↔ (i 1).val = 0 := by
    constructor
    · intro h
      have := congrArg BitVec.toNat h
      rw [BitVec.toNat_ofNat] at this
      simp at this
      omega
    · intro h; rw [h]
  by_cases h : (i 1).val = 0
  · rw [if_pos h]
    simp [Scalar.select, Scalar.cmpi, IntOp.cmpi, hz, h]
  · rw [if_neg h]
    have hf : (BitVec.ofNat 32 (i 1).val == 0#32) = false := beq_eq_false_iff_ne.2 (mt hz.1 h)
    simp only [Scalar.select, Scalar.cmpi, IntOp.cmpi, hf]
    rfl

/-- Of two stores, the first holds what the second leaves alone. -/
theorem canon_two {S : Shape} {el : EltTy} (r1 r2 : Rect S) (w1 : r1.shape.Idx → Elt Ideal el) (w2 : r2.shape.Idx → Elt Ideal el)
    (y : S.Idx) (x : r2.shape.Idx) (hn : y ∉ r1.set) (e : y = r2.emb x) :
    View.canon [(⟨r1, w1⟩ : View.Piece (Elt Ideal) S el), ⟨r2, w2⟩] y = w2 x := by
  rw [View.canon_cons_of_not_mem ⟨r1, w1⟩ _ hn, e, View.canon_cons_emb]

/-- What the scratch holds, loaded `k` rows above the block's rows: the sequence's entries `k` rows back. -/
theorem scr_load (o k a : ℕ) (hk : o + k = 16) (c : Dev nD) (t : Fin cfg0.N)
    (inb : ∀ b, (![0, o, a] : Fin 3 → ℕ) b + S1x512x512.size b ≤ S1x528x2048.size b) (r x : Fin 512) (p : Fin 4) (hp : a = 512 * p.val) :
    scM0_0.view.readCov (kernelRun0_A.sl.HS0_2 (F := Ideal) c (grid0.coords t) (ms0_0 t) (hs0_0 t) (ms0_1 t) (hs0_1 t) (ms0_2 t) (hs0_2 t)
        (iblk m c 0 t) (iblk m c 1 t) (iblk m c 2 t))
      (Rect.unit (s := S1x528x2048) ![0, o, a] S1x512x512.size inb).toLoadRect (ix3 (0 : Fin 1) r x)
      = Pool.back (m (c.tc.loc main_arg0)) ⟨t.val / 4, by have := t_lt t; omega⟩ (512 * (t.val % 4) + r.val) k (Pool.col p x) := by
  have ht := t_lt t
  have hx := x.isLt
  have hr := r.isLt
  have hp4 := p.isLt
  obtain ⟨y, hy⟩ : ∃ y, y = (Rect.unit (s := S1x528x2048) ![0, o, a] S1x512x512.size inb).toLoadRect.idx (ix3 (0 : Fin 1) r x) := ⟨_, rfl⟩
  have hyv (b) : (y b : ℕ) = (![0, o, a] : Fin 3 → ℕ) b + (ix3 (0 : Fin 1) r x b : ℕ) := by
    rw [hy]; exact Rect.idx_unit_val _ _ _ _ b
  have h0 : (y 0 : ℕ) = 0 := hyv 0
  have h1 : (y 1 : ℕ) = o + r.val := hyv 1
  have h2 : (y 2 : ℕ) = a + x.val := hyv 2
  rw [View.readCov_eq_canon']
  delta kernelRun0_A.sl.HS0_2
  dsimp only
  rw [← hy]
  unfold Pool.back
  by_cases hro : 16 ≤ o + r.val
  · have e : y = (Rect.unit (s := S1x528x2048) ![0, 16, 0] S1x512x2048.size inb_S1x528x2048_S1x512x2048_0_16_0).emb
        (ix3 (0 : Fin 1) (⟨o + r.val - 16, by omega⟩ : Fin 512) (Pool.col p x)) := by
      funext b
      refine Fin.ext (Eq.trans ?_ (Rect.idx_unit_val _ _ _ _ b).symm)
      match b with
      | ⟨0, _⟩ => exact h0
      | ⟨1, _⟩ => show (y 1 : ℕ) = 16 + (o + r.val - 16); omega
      | ⟨2, _⟩ => show (y 2 : ℕ) = 0 + (512 * p.val + x.val); omega
    rw [e, View.canon_cons_emb]
    refine Eq.trans (b := iblk m c 0 t (ix3 (0 : Fin 1) (⟨o + r.val - 16, by omega⟩ : Fin 512) (Pool.col p x))) ?_ ?_
    · pointwise [k0_pay3]
      exact load_whole _ _ _ _ _ (by decide) _
    · rw [in0, dif_pos ⟨by omega, by omega⟩]
      refine congrArg (fun q => m (c.tc.loc main_arg0) (ix3 _ q _)) (Fin.ext ?_)
      show 512 * (t.val % 4) + (o + r.val - 16) = 512 * (t.val % 4) + r.val - k
      omega
  · have hn : y ∉ (Rect.unit (s := S1x528x2048) ![0, 16, 0] S1x512x2048.size inb_S1x528x2048_S1x512x2048_0_16_0).set := by
      rw [Rect.mem_set_unit]
      intro h
      have := (h 1).1
      change 16 ≤ (y 1 : ℕ) at this
      omega
    have e : y = (Rect.unit (s := S1x528x2048) ![0, 0, 0] S1x16x2048.size inb_S1x528x2048_S1x16x2048_0_0_0).emb
        (ix3 (0 : Fin 1) (⟨o + r.val, by omega⟩ : Fin 16) (Pool.col p x)) := by
      funext b
      refine Fin.ext (Eq.trans ?_ (Rect.idx_unit_val _ _ _ _ b).symm)
      match b with
      | ⟨0, _⟩ => exact h0
      | ⟨1, _⟩ => show (y 1 : ℕ) = 0 + (o + r.val); omega
      | ⟨2, _⟩ => show (y 2 : ℕ) = 0 + (512 * p.val + x.val); omega
    refine (canon_two _ _ _ _ _ _ hn e).trans ?_
    rw [pay2_at, (idxs t).2.2.2.2.2.2]
    by_cases hb : t.val % 4 = 0
    · rw [if_pos hb, dif_neg (by omega)]
      exact (load_whole _ _ _ _ _ (by decide) _).trans (in2 m c t _ _)
    · rw [if_neg hb, dif_pos (by omega)]
      refine (load_whole _ _ _ _ _ (by decide) _).trans ((in1 m c t _ _).trans ?_)
      refine congrArg (fun q => m (c.tc.loc main_arg0) (ix3 _ q _)) (Fin.ext ?_)
      show 16 * (32 * (t.val % 4) - 1) + (o + r.val) = 512 * (t.val % 4) + r.val - k
      omega

/-- The count of the kernel's words. -/
theorem kcount (w b r : ℕ) (hb : b < 4) (hr : r < 512) (hw : w ≤ 16) :
    FloatOps.sitofp (F := Ideal) .f32 (IntOp.minsi (BitVec.ofNat 32 w) (IntOp.addi
      (IntOp.addi (Scalar.addi 0#32 (Scalar.muli (BitVec.ofNat 32 b) 512#32)) (BitVec.ofNat 32 r)) 1#32))
      = Pool.count w (512 * b + r) := by
  have e : IntOp.addi (IntOp.addi (Scalar.addi 0#32 (Scalar.muli (BitVec.ofNat 32 b) 512#32)) (BitVec.ofNat 32 r)) 1#32
      = BitVec.ofNat 32 (512 * b + r + 1) := by
    refine BitVec.eq_of_toNat_eq ?_
    simp only [IntOp.addi, Scalar.addi, Scalar.muli, IntOp.muli, BitVec.toNat_add, BitVec.toNat_mul, BitVec.toNat_ofNat]
    omega
  rw [e, Pool.word_count w _ hw (by omega)]
  rfl

/-- The four groups' stored entries, of the boxes loaded. -/
theorem pay_at0 (i : grid0.Coords) (a0 a1 u : FVec Ideal S1x512x512 .f32) (w : FVec Ideal S1x512x512 .bf16)
    (s : FVec Ideal S1x512 .f32) (r e : Fin 512) :
    (k0_pay6 (F := Ideal) (k0_pay5 i a0 a1) u w s) (ix2 r e)
      = (∑ x : Fin 512, ((a0 (ix3 (0 : Fin 1) r x) + a1 (ix3 (0 : Fin 1) r x))
          * Ideal.div 1 (FloatOps.sitofp (F := Ideal) .f32 (IntOp.minsi (BitVec.ofNat 32 2) (IntOp.addi
              (IntOp.addi (Scalar.addi 0#32 (Scalar.muli (BitVec.ofNat 32 (i 1).val) 512#32)) (BitVec.ofNat 32 r.val)) 1#32)))
          - u (ix3 (0 : Fin 1) r x)) * w (ix3 (0 : Fin 1) x e)) * s (ix2 (0 : Fin 1) e) := by
  pointwise [k0_pay6, k0_pay5, k0_pay4]

theorem pay_at1 (i : grid0.Coords) (a0 a1 a2 a3 u : FVec Ideal S1x512x512 .f32) (w : FVec Ideal S1x512x512 .bf16)
    (s : FVec Ideal S1x512 .f32) (r e : Fin 512) :
    (k0_pay8 (F := Ideal) (k0_pay7 (k0_pay4 i) a0 a1 a2 a3) u w s) (ix2 r e)
      = (∑ x : Fin 512, ((a0 (ix3 (0 : Fin 1) r x) + a1 (ix3 (0 : Fin 1) r x) + a2 (ix3 (0 : Fin 1) r x) + a3 (ix3 (0 : Fin 1) r x))
          * Ideal.div 1 (FloatOps.sitofp (F := Ideal) .f32 (IntOp.minsi (BitVec.ofNat 32 4) (IntOp.addi
              (IntOp.addi (Scalar.addi 0#32 (Scalar.muli (BitVec.ofNat 32 (i 1).val) 512#32)) (BitVec.ofNat 32 r.val)) 1#32)))
          - u (ix3 (0 : Fin 1) r x)) * w (ix3 (0 : Fin 1) x e)) * s (ix2 (0 : Fin 1) e) := by
  pointwise [k0_pay8, k0_pay7, k0_pay4]

theorem pay_at2 (i : grid0.Coords) (a0 a1 a2 a3 a4 a5 a6 a7 u : FVec Ideal S1x512x512 .f32) (w : FVec Ideal S1x512x512 .bf16)
    (s : FVec Ideal S1x512 .f32) (r e : Fin 512) :
    (k0_pay10 (F := Ideal) (k0_pay4 i) (k0_pay9 a0 a1 a2 a3 a4 a5 a6 a7) u w s) (ix2 r e)
      = (∑ x : Fin 512, ((a0 (ix3 (0 : Fin 1) r x) + a1 (ix3 (0 : Fin 1) r x) + a2 (ix3 (0 : Fin 1) r x) + a3 (ix3 (0 : Fin 1) r x) + a4 (ix3 (0 : Fin 1) r x) + a5 (ix3 (0 : Fin 1) r x) + a6 (ix3 (0 : Fin 1) r x) + a7 (ix3 (0 : Fin 1) r x))
          * Ideal.div 1 (FloatOps.sitofp (F := Ideal) .f32 (IntOp.minsi (BitVec.ofNat 32 8) (IntOp.addi
              (IntOp.addi (Scalar.addi 0#32 (Scalar.muli (BitVec.ofNat 32 (i 1).val) 512#32)) (BitVec.ofNat 32 r.val)) 1#32)))
          - u (ix3 (0 : Fin 1) r x)) * w (ix3 (0 : Fin 1) x e)) * s (ix2 (0 : Fin 1) e) := by
  pointwise [k0_pay10, k0_pay4, k0_pay9]

theorem pay_at3 (i : grid0.Coords) (a0 a1 a2 a3 a4 a5 a6 a7 a8 a9 a10 a11 a12 a13 a14 a15 u : FVec Ideal S1x512x512 .f32) (w : FVec Ideal S1x512x512 .bf16)
    (s : FVec Ideal S1x512 .f32) (r e : Fin 512) :
    (k0_pay1 (F := Ideal) (k0_pay12 (k0_pay11 a0 a1 a2 a3) a4 a5 a6 a7 a8 a9 a10 a11 a12 a13 a14 a15) (k0_pay13 (k0_pay4 i)) 16#32 u w s) (ix2 r e)
      = (∑ x : Fin 512, ((a0 (ix3 (0 : Fin 1) r x) + a1 (ix3 (0 : Fin 1) r x) + a2 (ix3 (0 : Fin 1) r x) + a3 (ix3 (0 : Fin 1) r x) + a4 (ix3 (0 : Fin 1) r x) + a5 (ix3 (0 : Fin 1) r x) + a6 (ix3 (0 : Fin 1) r x) + a7 (ix3 (0 : Fin 1) r x) + a8 (ix3 (0 : Fin 1) r x) + a9 (ix3 (0 : Fin 1) r x) + a10 (ix3 (0 : Fin 1) r x) + a11 (ix3 (0 : Fin 1) r x) + a12 (ix3 (0 : Fin 1) r x) + a13 (ix3 (0 : Fin 1) r x) + a14 (ix3 (0 : Fin 1) r x) + a15 (ix3 (0 : Fin 1) r x))
          * Ideal.div 1 (FloatOps.sitofp (F := Ideal) .f32 (IntOp.minsi (BitVec.ofNat 32 16) (IntOp.addi
              (IntOp.addi (Scalar.addi 0#32 (Scalar.muli (BitVec.ofNat 32 (i 1).val) 512#32)) (BitVec.ofNat 32 r.val)) 1#32)))
          - u (ix3 (0 : Fin 1) r x)) * w (ix3 (0 : Fin 1) x e)) * s (ix2 (0 : Fin 1) e) := by
  pointwise [k0_pay1, k0_pay12, k0_pay11, k0_pay13, k0_pay4]

/-- What a grid point stores. -/
theorem outs_at (c : Dev nD) (t : Fin cfg0.N) (r : Fin 512) (p : Fin 4) (e : Fin 512) :
    outsAt0 m c t (ix2 r (Pool.col p e))
      = Pool.mixed (m (c.tc.loc main_arg0)) (m (c.tc.loc main_arg1)) (fun j => m (c.tc.loc main_arg2) (ix1 j))
          ⟨t.val / 4, by have := t_lt t; omega⟩ ⟨512 * (t.val % 4) + r.val, by omega⟩ p e := by
  obtain ⟨y, hy⟩ : ∃ y, y = ix2 r (Pool.col p e) := ⟨_, rfl⟩
  have y0 : (y 0).val = r.val := by rw [hy]; rfl
  have y1 : (y 1).val = 512 * p.val + e.val := by rw [hy]; rfl
  have he := e.isLt
  have hr := r.isLt
  have hp4 := p.isLt
  rw [← hy]
  unfold outsAt0 out0_A_5
  rw [View.read_writes_eq_canon _ _ _ (cover0_A_5 c _ _ _ _ _ _ _ _ _ _ _ _ _ _ _ _ _ _ _ _)]
  unfold kernelRun0_A
  dsimp only
  canon_tiles x h
  · have hp : p = 3 := Fin.ext (by show p.val = 3; omega)
    subst hp
    have hx : x = ix2 r e := by
      funext b
      refine Fin.ext ?_
      match b with
      | ⟨0, _⟩ => show (x 0).val = r.val; omega
      | ⟨1, _⟩ => show (x 1).val = e.val; change _ = 512 * 3 + e.val at y1; omega
    rw [hx]
    delta kernelRun0_A.sl.r_5 kernelRun0_A.sl.r_6
    refine (pay_at3 _ _ _ _ _ _ _ _ _ _ _ _ _ _ _ _ _ _ _ _ r e).trans ?_
    unfold Pool.mixed
    refine congrArg₂ (· * ·) (Finset.sum_congr rfl fun x _ => congrArg₂ (· * ·) (congrArg₂ (· - ·) ?_ ?_) ?_) ?_
    · delta kernelRun0_A.sl.v108 kernelRun0_A.sl.v109 kernelRun0_A.sl.v111 kernelRun0_A.sl.v113 kernelRun0_A.sl.v115 kernelRun0_A.sl.v117 kernelRun0_A.sl.v119 kernelRun0_A.sl.v121 kernelRun0_A.sl.v123 kernelRun0_A.sl.v125 kernelRun0_A.sl.v127 kernelRun0_A.sl.v129 kernelRun0_A.sl.v131 kernelRun0_A.sl.v133 kernelRun0_A.sl.v135 kernelRun0_A.sl.v137
      rw [scr_load m 16 0 1536 rfl c t _ r x 3 rfl, scr_load m 15 1 1536 rfl c t _ r x 3 rfl, scr_load m 14 2 1536 rfl c t _ r x 3 rfl, scr_load m 13 3 1536 rfl c t _ r x 3 rfl, scr_load m 12 4 1536 rfl c t _ r x 3 rfl, scr_load m 11 5 1536 rfl c t _ r x 3 rfl, scr_load m 10 6 1536 rfl c t _ r x 3 rfl, scr_load m 9 7 1536 rfl c t _ r x 3 rfl, scr_load m 8 8 1536 rfl c t _ r x 3 rfl, scr_load m 7 9 1536 rfl c t _ r x 3 rfl, scr_load m 6 10 1536 rfl c t _ r x 3 rfl, scr_load m 5 11 1536 rfl c t _ r x 3 rfl, scr_load m 4 12 1536 rfl c t _ r x 3 rfl, scr_load m 3 13 1536 rfl c t _ r x 3 rfl, scr_load m 2 14 1536 rfl c t _ r x 3 rfl, scr_load m 1 15 1536 rfl c t _ r x 3 rfl, (idxs t).2.2.2.2.2.2, kcount 16 _ _ (by omega) hr (by omega), Pool.mul_count 16 _ (by omega)]
      refine congrArg₂ Ideal.div ?_ rfl
      show _ = ∑ k ∈ Finset.range 16, _
      rw [Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_zero, zero_add]
    · refine (load_at _ _ _ _ _ _ _ (ix3 (0 : Fin 1) r (Pool.col 3 x)) fun b => ?_).trans (in0 m c t r _)
      match b with
      | ⟨0, _⟩ => rfl
      | ⟨1, _⟩ => exact (Nat.zero_add _).symm
      | ⟨2, _⟩ => rfl
    · refine (load_at _ _ _ _ _ _ _ (ix3 (3 : Fin 4) x e) fun b => ?_).trans (in3 m c t 3 x e)
      match b with
      | ⟨0, _⟩ => rfl
      | ⟨1, _⟩ => exact (Nat.zero_add _).symm
      | ⟨2, _⟩ => exact (Nat.zero_add _).symm
    · refine (load_at _ _ _ _ _ _ _ (ix2 (0 : Fin 1) (Pool.col 3 e)) fun b => ?_).trans (in4 m c t _)
      match b with
      | ⟨0, _⟩ => rfl
      | ⟨1, _⟩ => rfl
  · have hp : p = 2 := Fin.ext (by show p.val = 2; omega)
    subst hp
    have hx : x = ix2 r e := by
      funext b
      refine Fin.ext ?_
      match b with
      | ⟨0, _⟩ => show (x 0).val = r.val; omega
      | ⟨1, _⟩ => show (x 1).val = e.val; change _ = 512 * 2 + e.val at y1; omega
    rw [hx]
    delta kernelRun0_A.sl.r_3
    refine (pay_at2 _ _ _ _ _ _ _ _ _ _ _ _ r e).trans ?_
    unfold Pool.mixed
    refine congrArg₂ (· * ·) (Finset.sum_congr rfl fun x _ => congrArg₂ (· * ·) (congrArg₂ (· - ·) ?_ ?_) ?_) ?_
    · delta kernelRun0_A.sl.v71 kernelRun0_A.sl.v72 kernelRun0_A.sl.v74 kernelRun0_A.sl.v76 kernelRun0_A.sl.v78 kernelRun0_A.sl.v80 kernelRun0_A.sl.v82 kernelRun0_A.sl.v84
      rw [scr_load m 16 0 1024 rfl c t _ r x 2 rfl, scr_load m 15 1 1024 rfl c t _ r x 2 rfl, scr_load m 14 2 1024 rfl c t _ r x 2 rfl, scr_load m 13 3 1024 rfl c t _ r x 2 rfl, scr_load m 12 4 1024 rfl c t _ r x 2 rfl, scr_load m 11 5 1024 rfl c t _ r x 2 rfl, scr_load m 10 6 1024 rfl c t _ r x 2 rfl, scr_load m 9 7 1024 rfl c t _ r x 2 rfl, (idxs t).2.2.2.2.2.2, kcount 8 _ _ (by omega) hr (by omega), Pool.mul_count 8 _ (by omega)]
      refine congrArg₂ Ideal.div ?_ rfl
      show _ = ∑ k ∈ Finset.range 8, _
      rw [Finset.sum_range_succ, Finset.sum_range_succ, Finset.sum_range_succ, Finset.sum_range_succ, Finset.sum_range_succ, Finset.sum_range_succ, Finset.sum_range_succ, Finset.sum_range_succ, Finset.sum_range_zero, zero_add]
    · refine (load_at _ _ _ _ _ _ _ (ix3 (0 : Fin 1) r (Pool.col 2 x)) fun b => ?_).trans (in0 m c t r _)
      match b with
      | ⟨0, _⟩ => rfl
      | ⟨1, _⟩ => exact (Nat.zero_add _).symm
      | ⟨2, _⟩ => rfl
    · refine (load_at _ _ _ _ _ _ _ (ix3 (2 : Fin 4) x e) fun b => ?_).trans (in3 m c t 2 x e)
      match b with
      | ⟨0, _⟩ => rfl
      | ⟨1, _⟩ => exact (Nat.zero_add _).symm
      | ⟨2, _⟩ => exact (Nat.zero_add _).symm
    · refine (load_at _ _ _ _ _ _ _ (ix2 (0 : Fin 1) (Pool.col 2 e)) fun b => ?_).trans (in4 m c t _)
      match b with
      | ⟨0, _⟩ => rfl
      | ⟨1, _⟩ => rfl
  · have hp : p = 1 := Fin.ext (by show p.val = 1; omega)
    subst hp
    have hx : x = ix2 r e := by
      funext b
      refine Fin.ext ?_
      match b with
      | ⟨0, _⟩ => show (x 0).val = r.val; omega
      | ⟨1, _⟩ => show (x 1).val = e.val; change _ = 512 * 1 + e.val at y1; omega
    rw [hx]
    delta kernelRun0_A.sl.r_1 kernelRun0_A.sl.r_2
    refine (pay_at1 _ _ _ _ _ _ _ _ r e).trans ?_
    unfold Pool.mixed
    refine congrArg₂ (· * ·) (Finset.sum_congr rfl fun x _ => congrArg₂ (· * ·) (congrArg₂ (· - ·) ?_ ?_) ?_) ?_
    · delta kernelRun0_A.sl.v42 kernelRun0_A.sl.v43 kernelRun0_A.sl.v45 kernelRun0_A.sl.v47
      rw [scr_load m 16 0 512 rfl c t _ r x 1 rfl, scr_load m 15 1 512 rfl c t _ r x 1 rfl, scr_load m 14 2 512 rfl c t _ r x 1 rfl, scr_load m 13 3 512 rfl c t _ r x 1 rfl, (idxs t).2.2.2.2.2.2, kcount 4 _ _ (by omega) hr (by omega), Pool.mul_count 4 _ (by omega)]
      refine congrArg₂ Ideal.div ?_ rfl
      show _ = ∑ k ∈ Finset.range 4, _
      rw [Finset.sum_range_succ, Finset.sum_range_succ, Finset.sum_range_succ, Finset.sum_range_succ, Finset.sum_range_zero, zero_add]
    · refine (load_at _ _ _ _ _ _ _ (ix3 (0 : Fin 1) r (Pool.col 1 x)) fun b => ?_).trans (in0 m c t r _)
      match b with
      | ⟨0, _⟩ => rfl
      | ⟨1, _⟩ => exact (Nat.zero_add _).symm
      | ⟨2, _⟩ => rfl
    · refine (load_at _ _ _ _ _ _ _ (ix3 (1 : Fin 4) x e) fun b => ?_).trans (in3 m c t 1 x e)
      match b with
      | ⟨0, _⟩ => rfl
      | ⟨1, _⟩ => exact (Nat.zero_add _).symm
      | ⟨2, _⟩ => exact (Nat.zero_add _).symm
    · refine (load_at _ _ _ _ _ _ _ (ix2 (0 : Fin 1) (Pool.col 1 e)) fun b => ?_).trans (in4 m c t _)
      match b with
      | ⟨0, _⟩ => rfl
      | ⟨1, _⟩ => rfl
  · have hp : p = 0 := Fin.ext (by show p.val = 0; omega)
    subst hp
    have hx : x = ix2 r e := by
      funext b
      refine Fin.ext ?_
      match b with
      | ⟨0, _⟩ => show (x 0).val = r.val; omega
      | ⟨1, _⟩ => show (x 1).val = e.val; change _ = 512 * 0 + e.val at y1; omega
    rw [hx]
    delta kernelRun0_A.sl.r
    refine (pay_at0 _ _ _ _ _ _ r e).trans ?_
    unfold Pool.mixed
    refine congrArg₂ (· * ·) (Finset.sum_congr rfl fun x _ => congrArg₂ (· * ·) (congrArg₂ (· - ·) ?_ ?_) ?_) ?_
    · delta kernelRun0_A.sl.v17 kernelRun0_A.sl.v18
      rw [scr_load m 16 0 0 rfl c t _ r x 0 rfl, scr_load m 15 1 0 rfl c t _ r x 0 rfl, (idxs t).2.2.2.2.2.2, kcount 2 _ _ (by omega) hr (by omega), Pool.mul_count 2 _ (by omega)]
      refine congrArg₂ Ideal.div ?_ rfl
      show _ = ∑ k ∈ Finset.range 2, _
      rw [Finset.sum_range_succ, Finset.sum_range_succ, Finset.sum_range_zero, zero_add]
    · refine (load_at _ _ _ _ _ _ _ (ix3 (0 : Fin 1) r (Pool.col 0 x)) fun b => ?_).trans (in0 m c t r _)
      match b with
      | ⟨0, _⟩ => rfl
      | ⟨1, _⟩ => exact (Nat.zero_add _).symm
      | ⟨2, _⟩ => rfl
    · refine (load_at _ _ _ _ _ _ _ (ix3 (0 : Fin 4) x e) fun b => ?_).trans (in3 m c t 0 x e)
      match b with
      | ⟨0, _⟩ => rfl
      | ⟨1, _⟩ => exact (Nat.zero_add _).symm
      | ⟨2, _⟩ => exact (Nat.zero_add _).symm
    · refine (load_at _ _ _ _ _ _ _ (ix2 (0 : Fin 1) (Pool.col 0 e)) fun b => ?_).trans (in4 m c t _)
      match b with
      | ⟨0, _⟩ => rfl
      | ⟨1, _⟩ => rfl

/-- The kernel's result: every row's pooling. -/
theorem pool_final (c : Dev nD) : (dats m 0 c).arrAt 5 cfg0.N = (fun i =>
      Pool.whole (m (c.tc.loc main_arg0)) (m (c.tc.loc main_arg1)) (fun j => m (c.tc.loc main_arg2) (ix1 j)) (i 0) (i 1)
    : FVec Ideal S8192x2048 .bf16) := by
  refine (dats m 0 c).arrAt_eq_of_covers 5 _ (by decide +kernel) fun t _ y => ?_
  blk_simp
  rw [after0_5]
  have hy0 : (y 0).val < 512 := (y 0).isLt
  have hy1 : (y 1).val < 2048 := (y 1).isLt
  have ht := t_lt t
  have e : (win0_5.blk t).view.emb y
      = ix2 (⟨512 * t.val + (y 0).val, by omega⟩ : Fin 8192) (⟨(y 1).val, hy1⟩ : Fin 2048) := by
    blk_ext [idxs t]
  rw [e]
  refine Eq.trans ?_ ((outs_at m c t ⟨(y 0).val, hy0⟩ ⟨(y 1).val / 512, by omega⟩ ⟨(y 1).val % 512, by omega⟩).trans ?_)
  · refine congrArg (outsAt0 m c t) ?_
    funext b
    refine Fin.ext ?_
    match b with
    | ⟨0, _⟩ => rfl
    | ⟨1, _⟩ => show (y 1).val = 512 * ((y 1).val / 512) + (y 1).val % 512; omega
  · refine congrArg₂ (fun g q => Pool.mixed (m (c.tc.loc main_arg0)) (m (c.tc.loc main_arg1))
      (fun j => m (c.tc.loc main_arg2) (ix1 j)) g q ⟨(y 1).val / 512, by omega⟩ ⟨(y 1).val % 512, by omega⟩) (Fin.ext ?_) (Fin.ext ?_)
    · show t.val / 4 = (512 * t.val + (y 0).val) / 2048
      omega
    · show 512 * (t.val % 4) + (y 0).val = (512 * t.val + (y 0).val) % 2048
      omega

end Cert.Kernel4Ideal.Values

end
-- ==== Proof.PoolSum.lean ====
/- A running sum over rows, padded with nothing above: its entries, and the difference of two of them when the rows are real. -/
module

public import proofs.«01_k».proof.Proof.Pool

@[expose] public section

noncomputable section

namespace Cert.Pool

open Idealize.ShloMosaic

/-- Row `s` of the extended rows, zero past the last. -/
def row (x : FVec Ideal ⟨3, ![4, 2063, 2048]⟩ .f32) (g : Fin 4) (j : Fin 2048) (s : ℕ) : EReal :=
  if h : s < 2063 then x (ix3 g ⟨s, h⟩ j) else 0

theorem foldl_sum {α : Type} (f : α → EReal) : ∀ (l : List α) (a : EReal), l.foldl (fun r n => r + f n) a = a + (l.map f).sum
  | [], a => by simp
  | n :: l, a => by rw [List.foldl_cons, foldl_sum f l, List.map_cons, List.sum_cons, add_assoc]

/-- The window's indices: one for each of its rows. -/
def rowsEquiv : Fin 2063 ≃ (⟨3, ![1, 2063, 1]⟩ : Shape).Idx where
  toFun k := ix3 0 k 0
  invFun i := i 1
  left_inv k := rfl
  right_inv i := by
    funext a
    fin_cases a
    · exact Subsingleton.elim (α := Fin 1) _ _
    · rfl
    · exact Subsingleton.elim (α := Fin 1) _ _

/-- The rows a window over the first `t + 1` rows meets. -/
theorem window_range (f : ℕ → EReal) (t : ℕ) (ht : t < 2063) :
    (∑ n ∈ Finset.range 2063, if 2062 ≤ t + n then f (t + n - 2062) else 0) = ∑ s ∈ Finset.range (t + 1), f s := by
  rw [← Finset.sum_filter]
  refine Finset.sum_nbij' (fun n => t + n - 2062) (fun s => s + 2062 - t) ?_ ?_ ?_ ?_ ?_
  · intro n hn
    simp only [Finset.mem_filter, Finset.mem_range] at *
    omega
  · intro s hs
    simp only [Finset.mem_filter, Finset.mem_range] at *
    omega
  · intro n hn
    simp only [Finset.mem_filter, Finset.mem_range] at hn
    show t + n - 2062 + 2062 - t = n
    omega
  · intro s hs
    simp only [Finset.mem_range] at hs
    show t + (s + 2062 - t) - 2062 = s
    omega
  · intro n _
    rfl

/-- An entry of the running sum: the sum of the rows up to it. -/
theorem running (x : FVec Ideal ⟨3, ![4, 2063, 2048]⟩ .f32) (init : FVec Ideal ⟨0, ![]⟩ .f32) (h0 : ∀ i, init i = 0)
    (h : (⟨3, ![4, 2063, 2048]⟩ : Shape).ReduceWindows ![1, 2063, 1] ![1, 1, 1] ![0, 2062, 0] ![0, 0, 0] ⟨3, ![4, 2063, 2048]⟩)
    (hu : 0 < (⟨0, ![]⟩ : Shape).numel) (g : Fin 4) (t : Fin 2063) (j : Fin 2048) :
    Host.reduceWindowAdd (F := Ideal) ![1, 2063, 1] ![1, 1, 1] ![0, 2062, 0] ![0, 0, 0] x init h hu (ix3 g t j)
      = ∑ s ∈ Finset.range (t.val + 1), row x g j s := by
  have ht := t.isLt
  rw [← window_range _ _ ht]
  dsimp [Host.reduceWindowAdd, FloatOps.hostReduceWindowAdd]
  rw [h0]
  unfold Ideal.hostReduceWindowAdd Host.reduceWindow
  dsimp only
  refine (foldl_sum _ _ _).trans ?_
  rw [zero_add, ← Fin.sum_univ_def]
  let F : (⟨3, ![1, 2063, 1]⟩ : Shape).Idx → EReal :=
    fun w => if 2062 ≤ t.val + (w 1).val then row x g j (t.val + (w 1).val - 2062) else 0
  refine Eq.trans (Finset.sum_congr rfl fun n _ => ?_)
    ((Equiv.sum_comp (⟨3, ![1, 2063, 1]⟩ : Shape).rowMajor.symm F).trans ((Equiv.sum_comp rowsEquiv F).symm.trans
      (Fin.sum_univ_eq_sum_range (fun n => if 2062 ≤ t.val + n then row x g j (t.val + n - 2062) else 0) 2063)))
  have hw0 : ((⟨3, ![1, 2063, 1]⟩ : Shape).rowMajor.symm n 0).val = 0 := by have := ((⟨3, ![1, 2063, 1]⟩ : Shape).rowMajor.symm n 0).isLt; change ((⟨3, ![1, 2063, 1]⟩ : Shape).rowMajor.symm n 0).val < 1 at this; omega
  have hw1 : ((⟨3, ![1, 2063, 1]⟩ : Shape).rowMajor.symm n 1).val < 2063 := ((⟨3, ![1, 2063, 1]⟩ : Shape).rowMajor.symm n 1).isLt
  have hw2 : ((⟨3, ![1, 2063, 1]⟩ : Shape).rowMajor.symm n 2).val = 0 := by have := ((⟨3, ![1, 2063, 1]⟩ : Shape).rowMajor.symm n 2).isLt; change ((⟨3, ![1, 2063, 1]⟩ : Shape).rowMajor.symm n 2).val < 1 at this; omega
  have hg := g.isLt
  have hj := j.isLt
  have hF : F ((⟨3, ![1, 2063, 1]⟩ : Shape).rowMajor.symm n)
      = if 2062 ≤ t.val + ((⟨3, ![1, 2063, 1]⟩ : Shape).rowMajor.symm n 1).val then row x g j (t.val + ((⟨3, ![1, 2063, 1]⟩ : Shape).rowMajor.symm n 1).val - 2062) else 0 := rfl
  rw [hF]
  split
  · next hin =>
    have h1 := hin 1
    change 2062 ≤ t.val * 1 + ((⟨3, ![1, 2063, 1]⟩ : Shape).rowMajor.symm n 1).val ∧ t.val * 1 + ((⟨3, ![1, 2063, 1]⟩ : Shape).rowMajor.symm n 1).val - 2062 < 2063 at h1
    rw [if_pos (by omega)]
    unfold row
    rw [dif_pos (by omega)]
    refine congrArg x (funext fun a => Fin.ext ?_)
    match a with
    | ⟨0, _⟩ =>
      show g.val * 1 + ((⟨3, ![1, 2063, 1]⟩ : Shape).rowMajor.symm n 0).val - 0 = g.val
      omega
    | ⟨1, _⟩ =>
      show t.val * 1 + ((⟨3, ![1, 2063, 1]⟩ : Shape).rowMajor.symm n 1).val - 2062 = t.val + ((⟨3, ![1, 2063, 1]⟩ : Shape).rowMajor.symm n 1).val - 2062
      omega
    | ⟨2, _⟩ =>
      show j.val * 1 + ((⟨3, ![1, 2063, 1]⟩ : Shape).rowMajor.symm n 2).val - 0 = j.val
      omega
  · next hin =>
    rw [if_neg fun hle => hin fun a => by
      match a with
      | ⟨0, _⟩ =>
        show 0 ≤ g.val * 1 + ((⟨3, ![1, 2063, 1]⟩ : Shape).rowMajor.symm n 0).val ∧ g.val * 1 + ((⟨3, ![1, 2063, 1]⟩ : Shape).rowMajor.symm n 0).val - 0 < 4
        omega
      | ⟨1, _⟩ =>
        show 2062 ≤ t.val * 1 + ((⟨3, ![1, 2063, 1]⟩ : Shape).rowMajor.symm n 1).val ∧ t.val * 1 + ((⟨3, ![1, 2063, 1]⟩ : Shape).rowMajor.symm n 1).val - 2062 < 2063
        omega
      | ⟨2, _⟩ =>
        show 0 ≤ j.val * 1 + ((⟨3, ![1, 2063, 1]⟩ : Shape).rowMajor.symm n 2).val ∧ j.val * 1 + ((⟨3, ![1, 2063, 1]⟩ : Shape).rowMajor.symm n 2).val - 0 < 2048
        omega]

/-- A sum of real rows is real. -/
theorem real_sum (f : ℕ → EReal) (hf : ∀ s, ∃ a : ℝ, f s = a) (n : ℕ) : ∃ a : ℝ, ∑ s ∈ Finset.range n, f s = a := by
  induction n with
  | zero => exact ⟨0, by simp⟩
  | succ n ih =>
    obtain ⟨a, ha⟩ := ih
    obtain ⟨b, hb⟩ := hf n
    exact ⟨a + b, by rw [Finset.sum_range_succ, ha, hb, EReal.coe_add]⟩

/-- The difference of two running sums of real rows, `w` rows apart, is the sum of the `w` rows between, last first. -/
theorem sum_sub (f : ℕ → EReal) (hf : ∀ s, ∃ a : ℝ, f s = a) (n w : ℕ) :
    (∑ s ∈ Finset.range (n + w), f s) - ∑ s ∈ Finset.range n, f s = ∑ k ∈ Finset.range w, f (n + (w - 1 - k)) := by
  rw [Finset.sum_range_add]
  obtain ⟨a, ha⟩ := real_sum f hf n
  rw [ha, add_comm, EReal.add_sub_cancel_right]
  exact (Finset.sum_range_reflect (fun k => f (n + k)) w).symm

/-- The rows with fifteen zero rows before them. -/
def ext (u : Rows) (g : Fin 4) (j : Fin 2048) (s : ℕ) : EReal :=
  if h : 15 ≤ s ∧ s < 2063 then u (ix3 g ⟨s - 15, by omega⟩ j) else 0

/-- The window's sum as a difference of running sums. -/
theorem window_sub (u : Rows) (hu : ∀ i, ∃ a : ℝ, u i = a) (g : Fin 4) (j : Fin 2048) (t w : ℕ) (ht : t < 2048) (hw : w ≤ 16) :
    (∑ s ∈ Finset.range (16 + t), ext u g j s) - ∑ s ∈ Finset.range (16 - w + t), ext u g j s = window u w g t j := by
  have hf : ∀ s, ∃ a : ℝ, ext u g j s = a := fun s => by
    unfold ext
    split
    · exact hu _
    · exact ⟨0, by simp⟩
  have e : 16 + t = 16 - w + t + w := by omega
  rw [e, sum_sub _ hf]
  unfold window
  refine Finset.sum_congr rfl fun k hk => ?_
  have hk := Finset.mem_range.1 hk
  unfold ext back
  by_cases h : k ≤ t
  · rw [dif_pos (by omega), dif_pos (by omega)]
    exact congrArg u (congrArg (fun r => ix3 g r j) (Fin.ext (by show 16 - w + t + (w - 1 - k) - 15 = t - k; omega)))
  · rw [dif_neg (by omega), dif_neg (by omega)]

end Cert.Pool

end
-- ==== Proof.PoolRef.lean ====
/- The reference's pooling, entry by entry. -/
module

public import proofs.«01_k».proof.Proof.Gen.Reference4Ideal.Run
public import proofs.«01_k».proof.Proof.PoolSum
public import Idealize.ShloMosaic.Lib.Pointwise
public import Idealize.ShloMosaic.Lib.KernelVsHost

@[expose] public section

set_option maxRecDepth 16384

noncomputable section

namespace Cert.Reference4Ideal.Values

open Cert.Reference4Ideal Cert.Reference4Ideal.Gen Cert.Reference4Ideal.Value Idealize.ShloMosaic Idealize.ShloMosaic.TcCoe Idealize.SL.Sem

variable (m : (ℓ : Loc nD τ sig) → Buf (Elt Ideal) ℓ)

/-- The extended rows: fifteen zero rows, then the input's. -/
abbrev rows (u : FVec Ideal S4x2048x2048 .f32) : FVec Ideal S4x2063x2048 .f32 :=
  concatenate S4x2063x2048 1
    [⟨S4x15x2048, broadcastInDim S4x15x2048 ![] Gen.bcast_S_S4x15x2048 (constant S_ FTy.f32 0#32)⟩, ⟨S4x2048x2048, u⟩]
    Gen.concatenates_S4x15x2048_S4x2048x2048_S4x2063x2048_d1

theorem rows_at (u : FVec Ideal S4x2048x2048 .f32) (g : Fin 4) (j : Fin 2048) (s : ℕ) : Pool.row (rows u) g j s = Pool.ext u g j s := by
  unfold Pool.row Pool.ext
  by_cases h : s < 2063
  · rw [dif_pos h]
    by_cases h' : 15 ≤ s
    · rw [dif_pos ⟨h', h⟩]
      pointwise [rows]
      rw [dif_neg (by omega)]
    · rw [dif_neg (by omega)]
      pointwise [rows]
      rw [dif_pos (by omega)]
  · rw [dif_neg h, dif_neg (by omega)]

/-- The running sum. -/
def cum (u : FVec Ideal S4x2048x2048 .f32) : FVec Ideal S4x2063x2048 .f32 :=
  Host.reduceWindowAdd (F := Ideal) (φ := .f32) ![1, 2063, 1] ![1, 1, 1] ![0, 2062, 0] ![0, 0, 0] (rows u)
    (broadcastInDim S_ ![] Gen.bcast_S_S_ (constant S_ FTy.f32 0#32))
    Gen.reduceWindows_S4x2063x2048_S4x2063x2048_w1s1p0_0_w2063s1p2062_0_w1s1p0_0 Gen.h_S_

theorem cum_at (u : FVec Ideal S4x2048x2048 .f32) (g : Fin 4) (t : Fin 2063) (j : Fin 2048) :
    cum u (ix3 g t j) = ∑ s ∈ Finset.range (t.val + 1), Pool.ext u g j s := by
  unfold cum
  refine (Pool.running _ _ (fun _ => ?_) _ _ _ _ _).trans (Finset.sum_congr rfl fun s _ => rows_at u g j s)
  pointwise

theorem zero_word : FloatOps.sitofp (F := Ideal) .f32 0#32 = 0 := by
  show (((0#32 : BitVec 32).toInt : ℝ) : EReal) = 0
  simp

/-- A zero row before the rows. -/
def padRows (cs : FVec Ideal S4x2063x2048 .f32) : FVec Ideal S4x2064x2048 .f32 :=
  pad S4x2064x2048 ![0, 1, 0] ![0, 0, 0] ![0, 0, 0] cs (sitofp .f32 (constantI S_ 32 0#32)) pads_S4x2063x2048_S4x2064x2048_000_100_000 h_S_

theorem pad_at (u : FVec Ideal S4x2048x2048 .f32) (g : Fin 4) (n : Fin 2064) (j : Fin 2048) :
    padRows (cum u) (ix3 g n j) = ∑ s ∈ Finset.range n.val, Pool.ext u g j s := by
  have hn := n.isLt
  have hz := zero_word
  have e (c : FVec Ideal S4x2063x2048 .f32) : padRows c (ix3 g n j) = if h : 1 ≤ n.val then c (ix3 g ⟨n.val - 1, by omega⟩ j) else 0 := by
    pointwise [padRows]
    by_cases h : 1 ≤ n.val
    · rw [dif_pos h, dif_pos ⟨h, by omega⟩]
    · rw [dif_neg h, dif_neg (fun k => h k.1), hz]
  rw [e]
  by_cases h : 1 ≤ n.val
  · rw [dif_pos h, cum_at]
    exact congrArg (fun k => ∑ s ∈ Finset.range k, Pool.ext u g j s) (by show n.val - 1 + 1 = n.val; omega)
  · have h0 : n.val = 0 := by omega
    rw [dif_neg h, h0]
    simp

/-- The four groups' means. -/
def group0 (cs : FVec Ideal S4x2063x2048 .f32) : FVec Ideal S4x2048x512 .f32 :=
  Host.divf (subf (extractStridedSlice S4x2048x512 ![0, 16, 0] (padRows cs) slices_S4x2064x2048_S4x2048x512_0_16_0) (extractStridedSlice S4x2048x512 ![0, 14, 0] (padRows cs) slices_S4x2064x2048_S4x2048x512_0_14_0)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 2#32)) (addi (iotaInDim S2048 32 0) (broadcastInDim S2048 ![] bcast_S_S2048 (constantI S_ 32 1#32)))))))

def group1 (cs : FVec Ideal S4x2063x2048 .f32) : FVec Ideal S4x2048x512 .f32 :=
  Host.divf (subf (extractStridedSlice S4x2048x512 ![0, 16, 512] (padRows cs) slices_S4x2064x2048_S4x2048x512_0_16_512) (extractStridedSlice S4x2048x512 ![0, 12, 512] (padRows cs) slices_S4x2064x2048_S4x2048x512_0_12_512)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 4#32)) (addi (iotaInDim S2048 32 0) (broadcastInDim S2048 ![] bcast_S_S2048 (constantI S_ 32 1#32)))))))

def group2 (cs : FVec Ideal S4x2063x2048 .f32) : FVec Ideal S4x2048x512 .f32 :=
  Host.divf (subf (extractStridedSlice S4x2048x512 ![0, 16, 1024] (padRows cs) slices_S4x2064x2048_S4x2048x512_0_16_1024) (extractStridedSlice S4x2048x512 ![0, 8, 1024] (padRows cs) slices_S4x2064x2048_S4x2048x512_0_8_1024)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 8#32)) (addi (iotaInDim S2048 32 0) (broadcastInDim S2048 ![] bcast_S_S2048 (constantI S_ 32 1#32)))))))

def group3 (cs : FVec Ideal S4x2063x2048 .f32) : FVec Ideal S4x2048x512 .f32 :=
  Host.divf (subf (extractStridedSlice S4x2048x512 ![0, 16, 1536] (padRows cs) slices_S4x2064x2048_S4x2048x512_0_16_1536) (extractStridedSlice S4x2048x512 ![0, 0, 1536] (padRows cs) slices_S4x2064x2048_S4x2048x512_0_0_1536)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 16#32)) (addi (iotaInDim S2048 32 0) (broadcastInDim S2048 ![] bcast_S_S2048 (constantI S_ 32 1#32)))))))

theorem group0_at (u : FVec Ideal S4x2048x2048 .f32) (hu : ∀ i, ∃ a : ℝ, u i = a) (g : Fin 4) (t : Fin 2048) (x : Fin 512) :
    group0 (cum u) (ix3 g t x) = Ideal.div (Pool.window u 2 g t.val (Pool.col 0 x)) (Pool.count 2 t.val) := by
  have ht := t.isLt
  refine Eq.trans (b := Ideal.div (padRows (cum u) (ix3 g (⟨16 + t.val, by omega⟩ : Fin 2064) (Pool.col 0 x))
    - padRows (cum u) (ix3 g (⟨16 - 2 + t.val, by omega⟩ : Fin 2064) (Pool.col 0 x)))
    (FloatOps.sitofp (F := Ideal) .f32 (IntOp.minsi (BitVec.ofNat 32 2) (BitVec.ofNat 32 t.val + BitVec.ofNat 32 1)))) ?_ ?_
  · unfold group0
    generalize padRows (cum u) = pr
    have hc : (Pool.col 0 x).val = x.val := by show 512 * 0 + x.val = _; omega
    pointwise
    exact congrArg₂ Ideal.div (congrArg₂ (· - ·) (congrArg pr (congrArg (ix3 _ _) (Fin.ext hc.symm)))
      (congrArg pr (congrArg (ix3 _ _) (Fin.ext hc.symm)))) rfl
  · rw [pad_at, pad_at, Pool.window_sub u hu g _ t.val 2 ht (by omega), ← BitVec.ofNat_add, Pool.word_count 2 _ (by omega) (by omega)]
    rfl

theorem group1_at (u : FVec Ideal S4x2048x2048 .f32) (hu : ∀ i, ∃ a : ℝ, u i = a) (g : Fin 4) (t : Fin 2048) (x : Fin 512) :
    group1 (cum u) (ix3 g t x) = Ideal.div (Pool.window u 4 g t.val (Pool.col 1 x)) (Pool.count 4 t.val) := by
  have ht := t.isLt
  refine Eq.trans (b := Ideal.div (padRows (cum u) (ix3 g (⟨16 + t.val, by omega⟩ : Fin 2064) (Pool.col 1 x))
    - padRows (cum u) (ix3 g (⟨16 - 4 + t.val, by omega⟩ : Fin 2064) (Pool.col 1 x)))
    (FloatOps.sitofp (F := Ideal) .f32 (IntOp.minsi (BitVec.ofNat 32 4) (BitVec.ofNat 32 t.val + BitVec.ofNat 32 1)))) ?_ ?_
  · unfold group1
    generalize padRows (cum u) = pr
    have hc : (Pool.col 1 x).val = 512 + x.val := by show 512 * 1 + x.val = _; omega
    pointwise
    exact congrArg₂ Ideal.div (congrArg₂ (· - ·) (congrArg pr (congrArg (ix3 _ _) (Fin.ext hc.symm)))
      (congrArg pr (congrArg (ix3 _ _) (Fin.ext hc.symm)))) rfl
  · rw [pad_at, pad_at, Pool.window_sub u hu g _ t.val 4 ht (by omega), ← BitVec.ofNat_add, Pool.word_count 4 _ (by omega) (by omega)]
    rfl

theorem group2_at (u : FVec Ideal S4x2048x2048 .f32) (hu : ∀ i, ∃ a : ℝ, u i = a) (g : Fin 4) (t : Fin 2048) (x : Fin 512) :
    group2 (cum u) (ix3 g t x) = Ideal.div (Pool.window u 8 g t.val (Pool.col 2 x)) (Pool.count 8 t.val) := by
  have ht := t.isLt
  refine Eq.trans (b := Ideal.div (padRows (cum u) (ix3 g (⟨16 + t.val, by omega⟩ : Fin 2064) (Pool.col 2 x))
    - padRows (cum u) (ix3 g (⟨16 - 8 + t.val, by omega⟩ : Fin 2064) (Pool.col 2 x)))
    (FloatOps.sitofp (F := Ideal) .f32 (IntOp.minsi (BitVec.ofNat 32 8) (BitVec.ofNat 32 t.val + BitVec.ofNat 32 1)))) ?_ ?_
  · unfold group2
    generalize padRows (cum u) = pr
    have hc : (Pool.col 2 x).val = 1024 + x.val := by show 512 * 2 + x.val = _; omega
    pointwise
    exact congrArg₂ Ideal.div (congrArg₂ (· - ·) (congrArg pr (congrArg (ix3 _ _) (Fin.ext hc.symm)))
      (congrArg pr (congrArg (ix3 _ _) (Fin.ext hc.symm)))) rfl
  · rw [pad_at, pad_at, Pool.window_sub u hu g _ t.val 8 ht (by omega), ← BitVec.ofNat_add, Pool.word_count 8 _ (by omega) (by omega)]
    rfl

theorem group3_at (u : FVec Ideal S4x2048x2048 .f32) (hu : ∀ i, ∃ a : ℝ, u i = a) (g : Fin 4) (t : Fin 2048) (x : Fin 512) :
    group3 (cum u) (ix3 g t x) = Ideal.div (Pool.window u 16 g t.val (Pool.col 3 x)) (Pool.count 16 t.val) := by
  have ht := t.isLt
  refine Eq.trans (b := Ideal.div (padRows (cum u) (ix3 g (⟨16 + t.val, by omega⟩ : Fin 2064) (Pool.col 3 x))
    - padRows (cum u) (ix3 g (⟨16 - 16 + t.val, by omega⟩ : Fin 2064) (Pool.col 3 x)))
    (FloatOps.sitofp (F := Ideal) .f32 (IntOp.minsi (BitVec.ofNat 32 16) (BitVec.ofNat 32 t.val + BitVec.ofNat 32 1)))) ?_ ?_
  · unfold group3
    generalize padRows (cum u) = pr
    have hc : (Pool.col 3 x).val = 1536 + x.val := by show 512 * 3 + x.val = _; omega
    pointwise
    exact congrArg₂ Ideal.div (congrArg₂ (· - ·) (congrArg pr (congrArg (ix3 _ _) (Fin.ext hc.symm)))
      (congrArg pr (congrArg (ix3 _ _) (Fin.ext hc.symm)))) rfl
  · rw [pad_at, pad_at, Pool.window_sub u hu g _ t.val 16 ht (by omega), ← BitVec.ofNat_add, Pool.word_count 16 _ (by omega) (by omega)]
    rfl

/-- What the reference makes of the four means. -/
def body (a b c d : FVec Ideal S4x2048x512 .f32) (u : FVec Ideal S4x2048x2048 .f32) (w : FVec Ideal S4x512x512 .f32) (s : FVec Ideal S2048 .f32) :
    FVec Ideal S8192x2048 .bf16 :=
  truncf .bf16 (shapeCast _ (mulf (shapeCast _ (transpose S4x2048x4x512 [2, 3, 0, 1] (Host.dotGeneral dot_S4x512x512_S4x2048x4x512_S4x512x4x2048_1_3_2_01_0_2 none w (subf ((concatenate S4x2048x4x512 2 [⟨S4x2048x1x512, ((broadcastInDim S4x2048x1x512 ![0, 1, 3] bcast_S4x2048x512_S4x2048x1x512_0_1_3 a) : (⟨S4x2048x1x512, .f32⟩ : BufTy).Contents (Elt Ideal))⟩, ⟨S4x2048x1x512, ((broadcastInDim S4x2048x1x512 ![0, 1, 3] bcast_S4x2048x512_S4x2048x1x512_0_1_3 b) : (⟨S4x2048x1x512, .f32⟩ : BufTy).Contents (Elt Ideal))⟩, ⟨S4x2048x1x512, ((broadcastInDim S4x2048x1x512 ![0, 1, 3] bcast_S4x2048x512_S4x2048x1x512_0_1_3 c) : (⟨S4x2048x1x512, .f32⟩ : BufTy).Contents (Elt Ideal))⟩, ⟨S4x2048x1x512, ((broadcastInDim S4x2048x1x512 ![0, 1, 3] bcast_S4x2048x512_S4x2048x1x512_0_1_3 d) : (⟨S4x2048x1x512, .f32⟩ : BufTy).Contents (Elt Ideal))⟩] concatenates_S4x2048x1x512_S4x2048x1x512_S4x2048x1x512_S4x2048x1x512_S4x2048x4x512_d2 : (⟨S4x2048x4x512, .f32⟩ : BufTy).Contents (Elt Ideal))) (shapeCast _ u shapeCasts_S4x2048x2048_S4x2048x4x512))) transposes_S4x512x4x2048_S4x2048x4x512_2_3_0_1) shapeCasts_S4x2048x4x512_S4x2048x2048) (broadcastInDim S4x2048x2048 ![0, 1, 2] bcast_S1x1x2048_S4x2048x2048_0_1_2 (broadcastInDim S1x1x2048 ![2] bcast_S2048_S1x1x2048_2 s))) shapeCasts_S4x2048x2048_S8192x2048) bitsLt_bf16_f32

theorem body_eq (c : Dev nD) : res_main_v63 (F := Ideal) m c
    = body (group0 (cum (m (c.tc.loc main_arg0)))) (group1 (cum (m (c.tc.loc main_arg0)))) (group2 (cum (m (c.tc.loc main_arg0))))
        (group3 (cum (m (c.tc.loc main_arg0)))) (m (c.tc.loc main_arg0)) (m (c.tc.loc main_arg1)) (m (c.tc.loc main_arg2)) := rfl

theorem body_at (q : Fin 4 → FVec Ideal S4x2048x512 .f32) (u : FVec Ideal S4x2048x2048 .f32) (w : FVec Ideal S4x512x512 .f32)
    (s : FVec Ideal S2048 .f32) (R : Fin 8192) (p : Fin 4) (e : Fin 512) :
    body (q 0) (q 1) (q 2) (q 3) u w s (ix2 R (Pool.col p e))
      = (∑ x : Fin 512, (q p (ix3 (⟨R.val / 2048, by omega⟩ : Fin 4) (⟨R.val % 2048, by omega⟩ : Fin 2048) x)
          - u (ix3 (⟨R.val / 2048, by omega⟩ : Fin 4) (⟨R.val % 2048, by omega⟩ : Fin 2048) (Pool.col p x))) * w (ix3 p x e))
        * s (ix1 (Pool.col p e)) := by
  obtain ⟨j, hj⟩ : ∃ j, j = Pool.col p e := ⟨_, rfl⟩
  have hv : j.val = 512 * p.val + e.val := congrArg Fin.val hj
  have hp : j.val / 512 = p.val := by omega
  have hp4 := p.isLt
  rw [← hj]
  pointwise [body]
  refine congrArg₂ (· * ·) (Finset.sum_congr rfl fun x _ => ?_) rfl
  rw [mul_comm]
  refine congrArg₂ (· * ·) (congrArg₂ (· - ·) ?_ (congrArg u ?_)) (congrArg w ?_)
  · fin_cases p
    · rw [dif_pos (by rw [hp]; decide)]
      rfl
    · rw [dif_neg (by rw [hp]; decide), dif_pos (by rw [hp]; decide)]
      rfl
    · rw [dif_neg (by rw [hp]; decide), dif_neg (by rw [hp]; decide), dif_pos (by rw [hp]; decide)]
      rfl
    · rw [dif_neg (by rw [hp]; decide), dif_neg (by rw [hp]; decide), dif_neg (by rw [hp]; decide)]
      rfl
  · refine congrArg (ix3 _ _) (Fin.ext ?_)
    show j.val / 512 * 512 + x.val = 512 * p.val + x.val
    omega
  · exact congrArg₂ (fun a b => ix3 a x b) (Fin.ext hp) (Fin.ext (by show j.val % 512 = e.val; omega))

/-- An entry of the reference's result, where the rows are real. -/
theorem out_at (c : Dev nD) (u : FVec Ideal S4x2048x2048 .f32) (w : FVec Ideal S4x512x512 .f32) (s : FVec Ideal S2048 .f32)
    (e0 : m (c.tc.loc main_arg0) = u) (e1 : m (c.tc.loc main_arg1) = w) (e2 : m (c.tc.loc main_arg2) = s)
    (hu : ∀ i, ∃ a : ℝ, u i = a) (R : Fin 8192) (p : Fin 4) (e : Fin 512) :
    res_main_v63 (F := Ideal) m c (ix2 R (Pool.col p e))
      = Pool.mixed u w (fun j => s (ix1 j)) ⟨R.val / 2048, by omega⟩ ⟨R.val % 2048, by omega⟩ p e := by
  rw [body_eq, e0, e1, e2]
  refine (body_at ![group0 (cum u), group1 (cum u), group2 (cum u), group3 (cum u)] u w s R p e).trans ?_
  unfold Pool.mixed
  refine congrArg₂ (· * ·) (Finset.sum_congr rfl fun x _ => congrArg₂ (· * ·) (congrArg₂ (· - ·) ?_ rfl) rfl) rfl
  fin_cases p
  · exact group0_at u hu _ _ x
  · exact group1_at u hu _ _ x
  · exact group2_at u hu _ _ x
  · exact group3_at u hu _ _ x

end Cert.Reference4Ideal.Values

end
-- ==== Proof.PoolClaims.lean ====
/- The claims of the pooling: the three frames, the (unchanged) idealization, and the equality of its result with the
   reference's where the rows are real. -/
module

public import proofs.«01_k».proof.Proof.PoolOut
public import proofs.«01_k».proof.Proof.PoolRef
public import proofs.«01_k».proof.Proof.Finite
public import proofs.«01_k».proof.Proof.Gen.Kernel4.Frame
public import proofs.«01_k».proof.Defs

@[expose] public section

set_option maxRecDepth 16384

noncomputable section

namespace Cert.PoolClaims

open Idealize.ShloMosaic Idealize.SL.Sem

theorem pre_facts : Cert.Pre_finite_pool.Facts where
  bcast_S_S4x2048x2048 := by decide
  reducesTo_S4x2048x2048_S_d0_1_2 := by decide
  h_S_ := by decide

section Real

variable [hF : Cert.Pre_finite_pool.Facts]

/-- What the precondition says: the rows are real. -/
theorem rows_real (x0 : FVec Ideal Cert.Pre_finite_pool.S4x2048x2048 .f32) (x1 : FVec Ideal Cert.Pre_finite_pool.S4x512x512 .f32)
    (x2 : FVec Ideal Cert.Pre_finite_pool.S2048 .f32)
    (h : Cert.Pre_finite_pool.fn (F := Ideal) x0 x1 x2 = (fun _ => 1#1)) : ∀ i, ∃ a : ℝ, x0 i = a := by
  have h0 := congrFun h (fun a => a.elim0)
  dsimp only [Cert.Pre_finite_pool.fn] at h0
  have k0 := Host.reduce_andi_all _ _ _ _ _ h0
  refine fun i => Cert.Finite.real_of_abs _ ?_
  have := k0 i
  rw [← Cert.Finite.inf_word]
  exact this

end Real

theorem frame_p : Cert.quiescent_Kernel4 (hKernel4 := Cert.Kernel4.Gen.facts) := fun m ρ _ => Cert.Kernel4.Gen.frame m ρ

theorem frame_pi : Cert.quiescent_Kernel4Ideal (hKernel4Ideal := Cert.Kernel4Ideal.Gen.facts) :=
  fun m ρ _ => Cert.Kernel4Ideal.Gen.frame m ρ

theorem frame_pi_pre : Cert.quiescent_Kernel4Ideal_pre_finite_pool (hKernel4Ideal := Cert.Kernel4Ideal.Gen.facts)
    (hPre_finite_pool := pre_facts) :=
  fun m ρ _ => Cert.Kernel4Ideal.Gen.frame m ρ

theorem frame_ri : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_ri_pre : Cert.quiescent_Reference4Ideal_pre_finite_pool (hReference4Ideal := Cert.Reference4Ideal.Gen.facts)
    (hPre_finite_pool := pre_facts) :=
  fun m ρ _ => frame_ri m ρ trivial

theorem preserves : Cert.preserves_Kernel4_Kernel4Ideal := trivial

/-- From real rows the kernel's pooling is the reference's. -/
theorem algebraic : Cert.algebraic_Kernel4Ideal_Reference4Ideal_pre_finite_pool (hKernel4Ideal := Cert.Kernel4Ideal.Gen.facts)
    (hReference4Ideal := Cert.Reference4Ideal.Gen.facts) (hPre_finite_pool := pre_facts) := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  have hu := rows_real (hF := pre_facts) _ _ _ (hpre c)
  obtain ⟨e0, e1, e2⟩ := hagree c
  rw [Cert.Kernel4Ideal.Values.pool_final m c]
  funext i
  have h1 : (i 1).val < 2048 := (i 1).isLt
  have e : i = ix2 (i 0) (Pool.col ⟨(i 1).val / 512, by omega⟩ ⟨(i 1).val % 512, by omega⟩) := by
    funext b
    refine Fin.ext ?_
    match b with
    | ⟨0, _⟩ => rfl
    | ⟨1, _⟩ => show (i 1).val = 512 * ((i 1).val / 512) + (i 1).val % 512; omega
  exact (congrArg _ e).trans (Cert.Reference4Ideal.Values.out_at m' c _ _ _ e0 e1 e2 hu (i 0) ⟨(i 1).val / 512, by omega⟩
    ⟨(i 1).val % 512, by omega⟩)

end Cert.PoolClaims

end
-- ==== Proof.lean ====
/- The proof of the certificate's claims: each part of the layer proves its own, and they are put together here. -/
module

public import proofs.«01_k».proof.Defs
public import proofs.«01_k».proof.Proof.AttnClaims
public import proofs.«01_k».proof.Proof.InClaims
public import proofs.«01_k».proof.Proof.OutClaims
public import proofs.«01_k».proof.Proof.PoolClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Finite.pre_facts, Cert.PoolClaims.pre_facts,
    Cert.AttnClaims.frame_p, Cert.AttnClaims.frame_pi, Cert.AttnClaims.frame_pi_pre, Cert.AttnClaims.frame_ri,
    Cert.AttnClaims.frame_ri_pre,
    Cert.InClaims.frame_p, Cert.InClaims.frame_pi, Cert.InClaims.frame_ri,
    Cert.OutClaims.frame_p, Cert.OutClaims.frame_pi, Cert.OutClaims.frame_ri,
    Cert.PoolClaims.frame_p, Cert.PoolClaims.frame_pi, Cert.PoolClaims.frame_pi_pre, Cert.PoolClaims.frame_ri,
    Cert.PoolClaims.frame_ri_pre,
    Cert.AttnClaims.preserves, Cert.AttnClaims.algebraic,
    Cert.InClaims.preserves, Cert.InClaims.algebraic,
    Cert.OutClaims.preserves, Cert.OutClaims.algebraic,
    Cert.PoolClaims.preserves, Cert.PoolClaims.algebraic⟩

end Cert.Proof

end
